-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale_log2e" .f32 0x3DD53B95#32 (((Real.sqrt 192)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S14x3x96x512 : Shape := ⟨4, ![14, 3, 96, 512]⟩
abbrev S14x3x96x64 : Shape := ⟨4, ![14, 3, 96, 64]⟩
abbrev S14x3x512 : Shape := ⟨3, ![14, 3, 512]⟩
abbrev S14x3x64 : Shape := ⟨3, ![14, 3, 64]⟩
abbrev S14x6144x512 : Shape := ⟨3, ![14, 6144, 512]⟩
abbrev S14x6144x4 : Shape := ⟨3, ![14, 6144, 4]⟩
abbrev S14x6144x64 : Shape := ⟨3, ![14, 6144, 64]⟩
abbrev S14 : Shape := ⟨1, ![14]⟩
abbrev S14x288x512 : Shape := ⟨3, ![14, 288, 512]⟩
abbrev S14x3x64x96 : Shape := ⟨4, ![14, 3, 64, 96]⟩
abbrev S3x14x512 : Shape := ⟨3, ![3, 14, 512]⟩
abbrev S3x14x64 : Shape := ⟨3, ![3, 14, 64]⟩
abbrev S14x4x6144 : Shape := ⟨3, ![14, 4, 6144]⟩
abbrev S14x64x6144 : Shape := ⟨3, ![14, 64, 6144]⟩
abbrev S3x14x4 : Shape := ⟨3, ![3, 14, 4]⟩
abbrev S1x288x512 : Shape := ⟨3, ![1, 288, 512]⟩
abbrev S1x3x64x96 : Shape := ⟨4, ![1, 3, 64, 96]⟩
abbrev S1x512x512 : Shape := ⟨3, ![1, 512, 512]⟩
abbrev S1 : Shape := ⟨1, ![1]⟩
abbrev S1x4x512 : Shape := ⟨3, ![1, 4, 512]⟩
abbrev S1x64x512 : Shape := ⟨3, ![1, 64, 512]⟩
abbrev S288x64 : Shape := ⟨2, ![288, 64]⟩
abbrev S288x512 : Shape := ⟨2, ![288, 512]⟩
abbrev S288x128 : Shape := ⟨2, ![288, 128]⟩
abbrev S1x14x128 : Shape := ⟨3, ![1, 14, 128]⟩
abbrev S14x128 : Shape := ⟨2, ![14, 128]⟩
abbrev S14x1 : Shape := ⟨2, ![14, 1]⟩
abbrev S14x252 : Shape := ⟨2, ![14, 252]⟩
abbrev S14x4 : Shape := ⟨2, ![14, 4]⟩
abbrev S1x14x4 : Shape := ⟨3, ![1, 14, 4]⟩
abbrev S1x14x64 : Shape := ⟨3, ![1, 14, 64]⟩
abbrev S14x64 : Shape := ⟨2, ![14, 64]⟩
abbrev S1x1x64x96 : Shape := ⟨4, ![1, 1, 64, 96]⟩
abbrev S64x96 : Shape := ⟨2, ![64, 96]⟩
abbrev S96x64 : Shape := ⟨2, ![96, 64]⟩
abbrev S1x1x512 : Shape := ⟨3, ![1, 1, 512]⟩
abbrev S1x512 : Shape := ⟨2, ![1, 512]⟩
abbrev S13x512 : Shape := ⟨2, ![13, 512]⟩
abbrev S16x512 : Shape := ⟨2, ![16, 512]⟩
abbrev S1x1x64 : Shape := ⟨3, ![1, 1, 64]⟩
abbrev S1x64 : Shape := ⟨2, ![1, 64]⟩
abbrev S13x64 : Shape := ⟨2, ![13, 64]⟩
abbrev S16x64 : Shape := ⟨2, ![16, 64]⟩
abbrev S288x16 : Shape := ⟨2, ![288, 16]⟩
abbrev S288 : Shape := ⟨1, ![288]⟩
abbrev S288x1 : Shape := ⟨2, ![288, 1]⟩
abbrev S4x512 : Shape := ⟨2, ![4, 512]⟩
abbrev S512x4 : Shape := ⟨2, ![512, 4]⟩
abbrev S512x512 : Shape := ⟨2, ![512, 512]⟩
abbrev S512x128 : Shape := ⟨2, ![512, 128]⟩
abbrev S512x1 : Shape := ⟨2, ![512, 1]⟩
abbrev S64x512 : Shape := ⟨2, ![64, 512]⟩
abbrev S14x3x4 : Shape := ⟨3, ![14, 3, 4]⟩

abbrev nBuf : Space → Nat
  | .hbm => 19
  | .vmem => 22
  | .smem => 1
  | _ => 0

abbrev bufTy : (tb : Table) → Fin (tcTables nBuf tb) → BufTy
  | .hbm, ⟨0, _⟩ => ⟨S14x3x96x512, .bf16⟩
  | .hbm, ⟨1, _⟩ => ⟨S14x3x96x64, .bf16⟩
  | .hbm, ⟨2, _⟩ => ⟨S14x3x512, .bf16⟩
  | .hbm, ⟨3, _⟩ => ⟨S14x3x64, .bf16⟩
  | .hbm, ⟨4, _⟩ => ⟨S14x6144x512, .fp8e4m3⟩
  | .hbm, ⟨5, _⟩ => ⟨S14x6144x4, .f32⟩
  | .hbm, ⟨6, _⟩ => ⟨S14x6144x64, .bf16⟩
  | .hbm, ⟨7, _⟩ => ⟨S14x288x512, .bf16⟩
  | .hbm, ⟨8, _⟩ => ⟨S14x3x64x96, .bf16⟩
  | .hbm, ⟨9, _⟩ => ⟨S3x14x512, .bf16⟩
  | .hbm, ⟨10, _⟩ => ⟨S3x14x64, .bf16⟩
  | .hbm, ⟨11, _⟩ => ⟨S14x4x6144, .f32⟩
  | .hbm, ⟨12, _⟩ => ⟨S14x64x6144, .bf16⟩
  | .hbm, ⟨13, _⟩ => ⟨S14x288x512, .bf16⟩
  | .hbm, ⟨14, _⟩ => ⟨S3x14x512, .fp8e4m3⟩
  | .hbm, ⟨15, _⟩ => ⟨S3x14x4, .f32⟩
  | .hbm, ⟨16, _⟩ => ⟨S14x3x96x512, .bf16⟩
  | .hbm, ⟨17, _⟩ => ⟨S14x3x512, .fp8e4m3⟩
  | .hbm, ⟨18, _⟩ => ⟨S14x3x4, .f32⟩
  | .local _ .vmem, ⟨0, _⟩ => ⟨S1x288x512, .bf16⟩
  | .local _ .vmem, ⟨1, _⟩ => ⟨S1x288x512, .bf16⟩
  | .local _ .vmem, ⟨2, _⟩ => ⟨S1x3x64x96, .bf16⟩
  | .local _ .vmem, ⟨3, _⟩ => ⟨S1x3x64x96, .bf16⟩
  | .local _ .vmem, ⟨4, _⟩ => ⟨S3x14x512, .bf16⟩
  | .local _ .vmem, ⟨5, _⟩ => ⟨S3x14x64, .bf16⟩
  | .local _ .vmem, ⟨6, _⟩ => ⟨S1x512x512, .fp8e4m3⟩
  | .local _ .vmem, ⟨7, _⟩ => ⟨S1x512x512, .fp8e4m3⟩
  | .local _ .vmem, ⟨8, _⟩ => ⟨S1x4x512, .f32⟩
  | .local _ .vmem, ⟨9, _⟩ => ⟨S1x4x512, .f32⟩
  | .local _ .vmem, ⟨10, _⟩ => ⟨S1x64x512, .bf16⟩
  | .local _ .vmem, ⟨11, _⟩ => ⟨S1x64x512, .bf16⟩
  | .local _ .vmem, ⟨12, _⟩ => ⟨S1x288x512, .bf16⟩
  | .local _ .vmem, ⟨13, _⟩ => ⟨S1x288x512, .bf16⟩
  | .local _ .vmem, ⟨14, _⟩ => ⟨S3x14x512, .fp8e4m3⟩
  | .local _ .vmem, ⟨15, _⟩ => ⟨S3x14x4, .f32⟩
  | .local _ .vmem, ⟨16, _⟩ => ⟨S288x64, .bf16⟩
  | .local _ .vmem, ⟨17, _⟩ => ⟨S288x512, .f32⟩
  | .local _ .vmem, ⟨18, _⟩ => ⟨S288x128, .f32⟩
  | .local _ .vmem, ⟨19, _⟩ => ⟨S288x128, .f32⟩
  | .local _ .vmem, ⟨20, _⟩ => ⟨S3x14x512, .f32⟩
  | .local _ .vmem, ⟨21, _⟩ => ⟨S3x14x64, .f32⟩
  | .local _ .smem, ⟨0, _⟩ => ⟨S14, .i32⟩
  | _, _ => ⟨S14x3x96x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![14, 12], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c0_i32_2 : BitVec 32 := 0#32
  let v7 : BitVec 1 := Scalar.cmpi .eq arg1 c0_i32_2
  let v8 : BitVec 32 := Scalar.extui v7
  let c0_i32_3 : BitVec 32 := 0#32
  let v9 : BitVec 1 := Scalar.cmpi .ne v8 c0_i32_3
  v9

def k0_off2 (i : grid0.Coords) : Fin 3 → Nat :=
  let c0_19 : Index := 0#32
  let arg0 : BitVec 32 := BitVec.ofNat 32 (i 0).val
  let v41 : Index := Scalar.indexCast arg0
  let c0_20 : Index := 0#32
  ![0, v41.toNat, 0]
def k0_off3 (i : grid0.Coords) : Fin 3 → Nat :=
  let c1_21 : Index := 1#32
  let arg0 : BitVec 32 := BitVec.ofNat 32 (i 0).val
  let v44 : Index := Scalar.indexCast arg0
  let c0_22 : Index := 0#32
  ![1, v44.toNat, 0]
def k0_off4 (i : grid0.Coords) : Fin 3 → Nat :=
  let c2_23 : Index := 2#32
  let arg0 : BitVec 32 := BitVec.ofNat 32 (i 0).val
  let v47 : Index := Scalar.indexCast arg0
  let c0_24 : Index := 0#32
  ![2, v47.toNat, 0]
def k0_off5 (i : grid0.Coords) : Fin 3 → Nat :=
  let c0_25 : Index := 0#32
  let arg0 : BitVec 32 := BitVec.ofNat 32 (i 0).val
  let v53 : Index := Scalar.indexCast arg0
  let c0_26 : Index := 0#32
  ![0, v53.toNat, 0]
def k0_off6 (i : grid0.Coords) : Fin 3 → Nat :=
  let c1_27 : Index := 1#32
  let arg0 : BitVec 32 := BitVec.ofNat 32 (i 0).val
  let v56 : Index := Scalar.indexCast arg0
  let c0_28 : Index := 0#32
  ![1, v56.toNat, 0]
def k0_off7 (i : grid0.Coords) : Fin 3 → Nat :=
  let c2_29 : Index := 2#32
  let arg0 : BitVec 32 := BitVec.ofNat 32 (i 0).val
  let v59 : Index := Scalar.indexCast arg0
  let c0_30 : Index := 0#32
  ![2, v59.toNat, 0]
def k0_cond4 (i : grid0.Coords) : BitVec 1 :=
  let arg1 : BitVec 32 := BitVec.ofNat 32 (i 1).val
  let c11_i32 : BitVec 32 := 11#32
  let v14 : BitVec 1 := Scalar.cmpi .eq arg1 c11_i32
  let v15 : BitVec 32 := Scalar.extui v14
  let c0_i32_5 : BitVec 32 := 0#32
  let v16 : BitVec 1 := Scalar.cmpi .ne v15 c0_i32_5
  v16

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let arg1 : BitVec 32 := BitVec.ofNat 32 (i 1).val
  let c0_i32_0 : BitVec 32 := 0#32
  let v3 : BitVec 1 := Scalar.cmpi .eq arg1 c0_i32_0
  let v4 : BitVec 1 := Scalar.andi v2 v3
  let v5 : BitVec 32 := Scalar.extui v4
  let c0_i32_1 : BitVec 32 := 0#32
  let v6 : BitVec 1 := Scalar.cmpi .ne v5 c0_i32_1
  v6

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, v21.toNat, c0_i32_6.toNat]

def cc0_transform_5 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_6 (k0_off1_inb : ∀ i : grid0.Coords, ∀ a, (k0_off1 i) a + S1.size a ≤ S14.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S14) ![v0.toNat] S1.size (k0_off1_inb i)) numel1_S1
  let c1_i32 : BitVec 32 := 1#32
  let v2 : BitVec 32 := Scalar.subi v1 c1_i32
  let c0_i32 : BitVec 32 := 0#32
  let v3 : BitVec 32 := Scalar.maxsi v2 c0_i32
  let c512_i32 : BitVec 32 := 512#32
  let v4 : BitVec 32 := Scalar.divsi v3 c512_i32
  let c0_i32_0 : BitVec 32 := 0#32
  let v5 : BitVec 1 := Scalar.cmpi .sgt v3 c0_i32_0
  let v6 : BitVec 32 := Scalar.extui v5
  let c0_i32_1 : BitVec 32 := 0#32
  let v7 : BitVec 1 := Scalar.cmpi .slt v3 c0_i32_1
  let v8 : BitVec 32 := Scalar.extui v7
  let v9 : BitVec 32 := Scalar.subi v6 v8
  let c0_i32_2 : BitVec 32 := 0#32
  let v10 : BitVec 1 := Scalar.cmpi .sgt c512_i32 c0_i32_2
  let v11 : BitVec 32 := Scalar.extui v10
  let c0_i32_3 : BitVec 32 := 0#32
  let v12 : BitVec 1 := Scalar.cmpi .slt c512_i32 c0_i32_3
  let v13 : BitVec 32 := Scalar.extui v12
  let v14 : BitVec 32 := Scalar.subi v11 v13
  let v15 : BitVec 1 := Scalar.cmpi .ne v9 v14
  let v16 : BitVec 32 := Scalar.remsi v3 c512_i32
  let c0_i32_4 : BitVec 32 := 0#32
  let v17 : BitVec 1 := Scalar.cmpi .ne v16 c0_i32_4
  let v18 : BitVec 1 := Scalar.andi v15 v17
  let c1_i32_5 : BitVec 32 := 1#32
  let v19 : BitVec 32 := Scalar.subi v4 c1_i32_5
  let v20 : BitVec 32 := Scalar.select v18 v19 v4
  let v21 : BitVec 32 := Scalar.minsi arg1 v20
  let c0_i32_6 : BitVec 32 := 0#32
  let c0_i32_7 : BitVec 32 := 0#32
  ![arg0.toNat, c0_i32_6.toNat, v21.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x288x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x64x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x14x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x14x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x64x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x288x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S3x14x512 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x14x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== KernelIdeal.lean ====
variable {F : FTy → Type} [FloatOps F] [Named F]
def κ : String → Option EReal := fun
  | "mask" => some ⊥
  | "scale_log2e" => some (((Real.sqrt 192)⁻¹ * (Real.log 2)⁻¹ : ℝ) : EReal)
  | _ => none
-- ==== ReferenceIdeal.lean ====
abbrev S14x3x96x512 : Shape := ⟨4, ![14, 3, 96, 512]⟩
abbrev S14x3x96x64 : Shape := ⟨4, ![14, 3, 96, 64]⟩
abbrev S14x3x512 : Shape := ⟨3, ![14, 3, 512]⟩
abbrev S14x3x64 : Shape := ⟨3, ![14, 3, 64]⟩
abbrev S14x6144x512 : Shape := ⟨3, ![14, 6144, 512]⟩
abbrev S14x6144x4 : Shape := ⟨3, ![14, 6144, 4]⟩
abbrev S14x6144x64 : Shape := ⟨3, ![14, 6144, 64]⟩
abbrev S14 : Shape := ⟨1, ![14]⟩
abbrev S14x1x1 : Shape := ⟨3, ![14, 1, 1]⟩
abbrev S14x3x4 : Shape := ⟨3, ![14, 3, 4]⟩
abbrev S14x288x512 : Shape := ⟨3, ![14, 288, 512]⟩
abbrev S14x288x64 : Shape := ⟨3, ![14, 288, 64]⟩
abbrev S14x6144x4x128 : Shape := ⟨4, ![14, 6144, 4, 128]⟩
abbrev S14x6144x4x1 : Shape := ⟨4, ![14, 6144, 4, 1]⟩
abbrev S14x3x4x128 : Shape := ⟨4, ![14, 3, 4, 128]⟩
abbrev S14x3x4x1 : Shape := ⟨4, ![14, 3, 4, 1]⟩
abbrev S14x288x6144 : Shape := ⟨3, ![14, 288, 6144]⟩
abbrev S14x288x3 : Shape := ⟨3, ![14, 288, 3]⟩
abbrev S14x1x6144 : Shape := ⟨3, ![14, 1, 6144]⟩
abbrev S14x288 : Shape := ⟨2, ![14, 288]⟩
abbrev S14x288x1 : Shape := ⟨3, ![14, 288, 1]⟩

abbrev nBuf : Space → Nat
  | .hbm => 12
  | .vmem => 11
  | .smem => 0
  | _ => 0

abbrev bufTy : (tb : Table) → Fin (tcTables nBuf tb) → BufTy
  | .hbm, ⟨0, _⟩ => ⟨S14x3x96x512, .bf16⟩
  | .hbm, ⟨1, _⟩ => ⟨S14x3x96x64, .bf16⟩
  | .hbm, ⟨2, _⟩ => ⟨S14x3x512, .bf16⟩
  | .hbm, ⟨3, _⟩ => ⟨S14x3x64, .bf16⟩
  | .hbm, ⟨4, _⟩ => ⟨S14x6144x512, .fp8e4m3⟩
  | .hbm, ⟨5, _⟩ => ⟨S14x6144x4, .f32⟩
  | .hbm, ⟨6, _⟩ => ⟨S14x6144x64, .bf16⟩
  | .hbm, ⟨7, _⟩ => ⟨S14, .i32⟩
  | .hbm, ⟨8, _⟩ => ⟨S14x1x1, .i32⟩
  | .hbm, ⟨9, _⟩ => ⟨S14x3x96x512, .bf16⟩
  | .hbm, ⟨10, _⟩ => ⟨S14x3x512, .fp8e4m3⟩
  | .hbm, ⟨11, _⟩ => ⟨S14x3x4, .f32⟩
  | .local _ .vmem, ⟨0, _⟩ => ⟨S14x3x96x512, .bf16⟩
  | .local _ .vmem, ⟨1, _⟩ => ⟨S14x3x96x64, .bf16⟩
  | .local _ .vmem, ⟨2, _⟩ => ⟨S14x3x512, .bf16⟩
  | .local _ .vmem, ⟨3, _⟩ => ⟨S14x3x64, .bf16⟩
  | .local _ .vmem, ⟨4, _⟩ => ⟨S14x6144x512, .fp8e4m3⟩
  | .local _ .vmem, ⟨5, _⟩ => ⟨S14x6144x4, .f32⟩
  | .local _ .vmem, ⟨6, _⟩ => ⟨S14x6144x64, .bf16⟩
  | .local _ .vmem, ⟨7, _⟩ => ⟨S14x1x1, .i32⟩
  | .local _ .vmem, ⟨8, _⟩ => ⟨S14x3x96x512, .bf16⟩
  | .local _ .vmem, ⟨9, _⟩ => ⟨S14x3x512, .fp8e4m3⟩
  | .local _ .vmem, ⟨10, _⟩ => ⟨S14x3x4, .f32⟩
  | _, _ => ⟨S14x3x96x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F] [Named F]

def κ : String → Option EReal := fun
  | "ln2" => some ((Real.log 2 : ℝ) : EReal)
  | "scale" => some (((Real.sqrt 192)⁻¹ : ℝ) : EReal)
  | _ => none

abbrev grid0 : Pipeline.Grid := .none

abbrev stage0_0 : Fin 1 → Memref sig .tc .vmem S14x3x96x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S14x3x96x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S14x3x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S14x3x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S14x6144x512 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14x6144x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x6144x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S14x1x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S14x3x96x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S14x3x512 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S14x3x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Blocks.lean ====
module

public import proofs.«01_k».proof.Proof.Gen.KernelIdeal
public import Idealize.ShloMosaic.Lib.WordCmp

@[expose] public section

set_option maxRecDepth 16384

noncomputable section

/-! # The cache block that a grid point reads

The index maps of the cache windows compute `min(j, max(n - 1, 0) / 512)` on 32-bit words, with the floor division
spelled out by sign corrections. -/

namespace Cert.Blocks

open Idealize.ShloMosaic

/-- The block number that the index maps of the three cache windows compute from the grid's second coordinate `j` and the
    number `n` of cached positions, word for word. -/
def blockWord (j n : BitVec 32) : BitVec 32 :=
  let v3 : BitVec 32 := Scalar.maxsi (Scalar.subi n 1#32) 0#32
  let v4 : BitVec 32 := Scalar.divsi v3 512#32
  let v9 : BitVec 32 := Scalar.subi (Scalar.extui (Scalar.cmpi .sgt v3 0#32)) (Scalar.extui (Scalar.cmpi .slt v3 0#32))
  let v14 : BitVec 32 := Scalar.subi (Scalar.extui (Scalar.cmpi .sgt 512#32 0#32)) (Scalar.extui (Scalar.cmpi .slt 512#32 0#32))
  let v15 : BitVec 1 := Scalar.cmpi .ne v9 v14
  let v17 : BitVec 1 := Scalar.cmpi .ne (Scalar.remsi v3 512#32) 0#32
  Scalar.minsi j (Scalar.select (Scalar.andi v15 v17) (Scalar.subi v4 1#32) v4)

/-- The larger of a word and zero, read signed, is below `2^31`, and is the word's signed value where that is not negative. -/
theorem maxsi_zero (x : BitVec 32) : (Scalar.maxsi x 0#32).toNat < 2 ^ 31 ∧ (Scalar.maxsi x 0#32).toNat = x.toInt.toNat := by
  have h : Scalar.maxsi x 0#32 = if (0#32).slt x then x else 0#32 := rfl
  have h0 : (0#32).slt x = decide (0 < x.toInt) := by
    rw [BitVec.slt]; rfl
  rw [h, h0]
  have hx := BitVec.toInt_eq_toNat_cond x
  have hl := x.isLt
  by_cases hp : 0 < x.toInt
  · simp only [hp, decide_true, if_true]
    split at hx <;> omega
  · simp only [hp, decide_false]
    have : x.toInt.toNat = 0 := by omega
    rw [this]; exact ⟨by norm_num, rfl⟩

/-- The floor division of a nonnegative word by 512, with its sign corrections, is the quotient of the naturals. -/
theorem quotient_toNat (v : BitVec 32) (hv : v.toNat < 2 ^ 31) :
    (Scalar.select (Scalar.andi (Scalar.cmpi .ne (Scalar.subi (Scalar.extui (Scalar.cmpi .sgt v 0#32)) (Scalar.extui (Scalar.cmpi .slt v 0#32))) (Scalar.subi (Scalar.extui (Scalar.cmpi .sgt 512#32 0#32)) (Scalar.extui (Scalar.cmpi .slt 512#32 0#32)))) (Scalar.cmpi .ne (Scalar.remsi v 512#32) 0#32))
      (Scalar.subi (Scalar.divsi v 512#32) 1#32) (Scalar.divsi v 512#32)).toNat = v.toNat / 512 := by
  have hm : v.msb = false := by rw [BitVec.msb_eq_decide]; simp; omega
  have hcorner : ¬ IntOp.SDivCorner v 512#32 := by
    intro h; revert h; simp [IntOp.SDivCorner]
  have hdiv : Scalar.divsi v 512#32 = v / 512#32 := by
    show IntOp.divsi .scalar v 512#32 = _
    rw [IntOp.divsi, if_neg hcorner, BitVec.sdiv_eq, hm]
    rfl
  have hrem : Scalar.remsi v 512#32 = v % 512#32 := by
    show IntOp.remsi .scalar v 512#32 = _
    rw [IntOp.remsi, if_neg hcorner, BitVec.srem_eq, hm]
    rfl
  have hcond : Scalar.andi (Scalar.cmpi .ne (Scalar.subi (Scalar.extui (Scalar.cmpi .sgt v 0#32)) (Scalar.extui (Scalar.cmpi .slt v 0#32))) (Scalar.subi (Scalar.extui (Scalar.cmpi .sgt 512#32 0#32)) (Scalar.extui (Scalar.cmpi .slt 512#32 0#32)))) (Scalar.cmpi .ne (Scalar.remsi v 512#32) 0#32) = 0#1 := by
    by_cases hz : v = 0#32
    · subst hz; rw [hrem]; rfl
    · have h0 : Scalar.cmpi .sgt v 0#32 = 1#1 := by
        show BitVec.ofBool ((0#32).slt v) = 1#1
        have : (0#32).slt v = true := by
          rw [BitVec.slt]
          have hi : v.toInt = v.toNat := by rw [BitVec.toInt_eq_toNat_cond]; split <;> omega
          have hne : v.toNat ≠ 0 := fun h => hz (BitVec.eq_of_toNat_eq h)
          have h0 : (0#32).toInt = 0 := rfl
          rw [hi, h0]; simp; omega
        rw [this]; rfl
      have h1 : Scalar.cmpi .slt v 0#32 = 0#1 := by
        show BitVec.ofBool (v.slt 0#32) = 0#1
        have : v.slt 0#32 = false := by
          rw [BitVec.slt]
          have hi : v.toInt = v.toNat := by rw [BitVec.toInt_eq_toNat_cond]; split <;> omega
          have h0 : (0#32).toInt = 0 := rfl
          rw [hi, h0]; simp
        rw [this]; rfl
      rw [h0, h1]
      have : Scalar.cmpi .ne (Scalar.subi (Scalar.extui 1#1) (Scalar.extui 0#1)) (Scalar.subi (Scalar.extui (Scalar.cmpi .sgt 512#32 0#32)) (Scalar.extui (Scalar.cmpi .slt 512#32 0#32))) = (0#1 : BitVec 1) := by decide
      rw [this]
      show 0#1 &&& _ = 0#1
      exact BitVec.zero_and
  rw [hcond, show ∀ a b : BitVec 32, Scalar.select 0#1 a b = b from fun _ _ => rfl, hdiv]
  rw [BitVec.toNat_udiv]; rfl

/-- The block number of a grid point: the smaller of its second coordinate and the last block that holds a cached position. -/
theorem blockWord_toNat (k : Nat) (hk : k < 12) (n : BitVec 32) :
    (blockWord (BitVec.ofNat 32 k) n).toNat = min k ((Scalar.subi n 1#32).toInt.toNat / 512) := by
  obtain ⟨h31, hval⟩ := maxsi_zero (Scalar.subi n 1#32)
  have hq := quotient_toNat (Scalar.maxsi (Scalar.subi n 1#32) 0#32) h31
  rw [hval] at hq
  unfold blockWord
  dsimp only
  generalize Scalar.select _ _ _ = q at hq ⊢
  show (if (BitVec.ofNat 32 k).slt q then BitVec.ofNat 32 k else q).toNat = _
  have hk' : (BitVec.ofNat 32 k).toNat = k := by simp; omega
  have hb : (Scalar.subi n 1#32).toInt.toNat < 2 ^ 31 := by rw [← hval]; exact h31
  have h1 : (BitVec.ofNat 32 k).toInt = k := by rw [BitVec.toInt_eq_toNat_cond, hk']; split <;> omega
  have h2 : q.toInt = q.toNat := by rw [BitVec.toInt_eq_toNat_cond, hq]; split <;> omega
  rw [BitVec.slt, h1, h2, hq]
  by_cases h : k < (Scalar.subi n 1#32).toInt.toNat / 512
  · rw [if_pos (decide_eq_true (by exact_mod_cast h)), hk']; omega
  · rw [if_neg (by rw [decide_eq_true_eq]; exact_mod_cast h), hq]; omega

/-- A block number is one of the twelve blocks of the cache. -/
theorem blockWord_lt (k : Nat) (hk : k < 12) (n : BitVec 32) : (blockWord (BitVec.ofNat 32 k) n).toNat < 12 := by
  rw [blockWord_toNat k hk]; omega

/-- Where block `k` holds a cached position, a grid point with second coordinate `k` reads that block. -/
theorem blockWord_of_lt (k : Nat) (hk : k < 12) (n : BitVec 32) (h : (512 * k : Int) < n.toInt) :
    (blockWord (BitVec.ofNat 32 k) n).toNat = k := by
  rw [blockWord_toNat k hk]
  have h1 : (Scalar.subi n 1#32).toInt = n.toInt - 1 := by
    show (n - 1#32).toInt = _
    rw [BitVec.toInt_sub]
    have hlt : n.toInt < 2 ^ 31 := BitVec.toInt_lt
    have h1 : (1#32).toInt = 1 := rfl
    rw [h1, Int.bmod_eq_of_le] <;> omega
  rw [h1]; omega

end Cert.Blocks

/-! ## Every block of a cache window of `KernelIdeal` lies inside its array -/

namespace Cert.KernelIdeal.Blocks

open Cert.KernelIdeal Cert.KernelIdeal.Gen Idealize.ShloMosaic

variable {F : FTy → Type} [FloatOps F] [Named F]

/-- The number of cached positions of the batch of a grid point. -/
def lenAt (pf : pre0.Contents (Elt F)) (i : grid0.Coords) : BitVec 32 :=
  pf.at 0 (Rect.unit (s := S14) (k0_off1 i) S1.size (k0_off1_inb i)) numel1_S1

theorem transform4_eq (pf : pre0.Contents (Elt F)) (i : grid0.Coords) :
    cc0_transform_4 k0_off1_inb numel1_S1 pf i
      = ![(BitVec.ofNat 32 (i 0).val).toNat, (Blocks.blockWord (BitVec.ofNat 32 (i 1).val) (lenAt pf i)).toNat, (0#32).toNat] := rfl
theorem transform5_eq (pf : pre0.Contents (Elt F)) (i : grid0.Coords) :
    cc0_transform_5 k0_off1_inb numel1_S1 pf i
      = ![(BitVec.ofNat 32 (i 0).val).toNat, (0#32).toNat, (Blocks.blockWord (BitVec.ofNat 32 (i 1).val) (lenAt pf i)).toNat] := rfl
theorem transform6_eq (pf : pre0.Contents (Elt F)) (i : grid0.Coords) :
    cc0_transform_6 k0_off1_inb numel1_S1 pf i
      = ![(BitVec.ofNat 32 (i 0).val).toNat, (0#32).toNat, (Blocks.blockWord (BitVec.ofNat 32 (i 1).val) (lenAt pf i)).toNat] := rfl

/-- The cache windows' blocks lie inside their arrays whatever the lengths are. -/
theorem ok (pf : pre0.Contents (Elt F)) : ok0 pf := by
  have h0 : ∀ i : grid0.Coords, (BitVec.ofNat 32 (i 0).val).toNat < 14 := fun i => by
    have h : (i 0).val < 14 := (i 0).isLt
    rw [BitVec.toNat_ofNat]; omega
  have h1 : ∀ i : grid0.Coords, (Blocks.blockWord (BitVec.ofNat 32 (i 1).val) (lenAt pf i)).toNat < 12 := fun i =>
    Blocks.blockWord_lt _ (i 1).isLt _
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · rw [transform4_eq]
    match a with
    | ⟨0, _⟩ => have := h0 i; show ((BitVec.ofNat 32 (i 0).val).toNat + 1) * 1 ≤ 14; omega
    | ⟨1, _⟩ => have := h1 i; show ((Blocks.blockWord _ _).toNat + 1) * 512 ≤ 6144; omega
    | ⟨2, _⟩ => exact le_of_eq rfl
  · rw [transform5_eq]
    match a with
    | ⟨0, _⟩ => have := h0 i; show ((BitVec.ofNat 32 (i 0).val).toNat + 1) * 1 ≤ 14; omega
    | ⟨1, _⟩ => exact le_of_eq rfl
    | ⟨2, _⟩ => have := h1 i; show ((Blocks.blockWord _ _).toNat + 1) * 512 ≤ 6144; omega
  · rw [transform6_eq]
    match a with
    | ⟨0, _⟩ => have := h0 i; show ((BitVec.ofNat 32 (i 0).val).toNat + 1) * 1 ≤ 14; omega
    | ⟨1, _⟩ => exact le_of_eq rfl
    | ⟨2, _⟩ => have := h1 i; show ((Blocks.blockWord _ _).toNat + 1) * 512 ≤ 6144; omega

end Cert.KernelIdeal.Blocks
-- ==== Proof.KernelBlocks.lean ====
module

public import proofs.«01_k».proof.Proof.Gen.Kernel
public import proofs.«01_k».proof.Proof.Blocks

@[expose] public section

set_option maxRecDepth 16384

noncomputable section

/-! ## Every block of a cache window of `Kernel` lies inside its array -/

namespace Cert.Kernel.Blocks

open Cert.Kernel Cert.Kernel.Gen Idealize.ShloMosaic

variable {F : FTy → Type} [FloatOps F]

/-- The number of cached positions of the batch of a grid point. -/
def lenAt (pf : pre0.Contents (Elt F)) (i : grid0.Coords) : BitVec 32 :=
  pf.at 0 (Rect.unit (s := S14) (k0_off1 i) S1.size (k0_off1_inb i)) numel1_S1

theorem transform4_eq (pf : pre0.Contents (Elt F)) (i : grid0.Coords) :
    cc0_transform_4 k0_off1_inb numel1_S1 pf i
      = ![(BitVec.ofNat 32 (i 0).val).toNat, (Blocks.blockWord (BitVec.ofNat 32 (i 1).val) (lenAt pf i)).toNat, (0#32).toNat] := rfl
theorem transform5_eq (pf : pre0.Contents (Elt F)) (i : grid0.Coords) :
    cc0_transform_5 k0_off1_inb numel1_S1 pf i
      = ![(BitVec.ofNat 32 (i 0).val).toNat, (0#32).toNat, (Blocks.blockWord (BitVec.ofNat 32 (i 1).val) (lenAt pf i)).toNat] := rfl
theorem transform6_eq (pf : pre0.Contents (Elt F)) (i : grid0.Coords) :
    cc0_transform_6 k0_off1_inb numel1_S1 pf i
      = ![(BitVec.ofNat 32 (i 0).val).toNat, (0#32).toNat, (Blocks.blockWord (BitVec.ofNat 32 (i 1).val) (lenAt pf i)).toNat] := rfl

/-- The cache windows' blocks lie inside their arrays whatever the lengths are. -/
theorem ok (pf : pre0.Contents (Elt F)) : ok0 pf := by
  have h0 : ∀ i : grid0.Coords, (BitVec.ofNat 32 (i 0).val).toNat < 14 := fun i => by
    have h : (i 0).val < 14 := (i 0).isLt
    rw [BitVec.toNat_ofNat]; omega
  have h1 : ∀ i : grid0.Coords, (Blocks.blockWord (BitVec.ofNat 32 (i 1).val) (lenAt pf i)).toNat < 12 := fun i =>
    Blocks.blockWord_lt _ (i 1).isLt _
  refine ⟨fun i => ⟨fun a => ?_, .inr (Affine.block_words_dvd (of_decide_eq_true rfl) (by decide))⟩,
    fun i => ⟨fun a => ?_, .inl rfl⟩,
    fun i => ⟨fun a => ?_, .inr (Affine.block_words_dvd (of_decide_eq_true rfl) (by decide))⟩⟩
  · rw [transform4_eq]
    match a with
    | ⟨0, _⟩ => have := h0 i; show ((BitVec.ofNat 32 (i 0).val).toNat + 1) * 1 ≤ 14; omega
    | ⟨1, _⟩ => have := h1 i; show ((Blocks.blockWord _ _).toNat + 1) * 512 ≤ 6144; omega
    | ⟨2, _⟩ => exact le_of_eq rfl
  · rw [transform5_eq]
    match a with
    | ⟨0, _⟩ => have := h0 i; show ((BitVec.ofNat 32 (i 0).val).toNat + 1) * 1 ≤ 14; omega
    | ⟨1, _⟩ => exact le_of_eq rfl
    | ⟨2, _⟩ => have := h1 i; show ((Blocks.blockWord _ _).toNat + 1) * 512 ≤ 6144; omega
  · rw [transform6_eq]
    match a with
    | ⟨0, _⟩ => have := h0 i; show ((BitVec.ofNat 32 (i 0).val).toNat + 1) * 1 ≤ 14; omega
    | ⟨1, _⟩ => exact le_of_eq rfl
    | ⟨2, _⟩ => have := h1 i; show ((Blocks.blockWord _ _).toNat + 1) * 512 ≤ 6144; omega

end Cert.Kernel.Blocks
-- ==== Proof.PBase.lean ====
module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! # The pipeline of the idealized kernel: schedule, entry contents, staging and scratch buffers -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the points ≡ 0 (mod 12), at any contents of the tables (its index map reads none). -/
theorem fetch0_0 (a : (pcfg0 (F := F)).Adm) : ∀ t : Fin (cfg0 a).N, ((cfg0 a).win 0).fetch t = true ↔ t.val % 12 = 0 :=
  (fun t => Pipeline.Window.fetchOf_reads cc0_transform_0 reads0_0 hreads0_0 0 (by decide) (by decide) (Pipeline.Window.sep_of_coord cc0_transform_0 0 0 (fun _ => rfl) (by decide)) (P := 12) (by decide) t : ∀ t : Fin grid0.N, Pipeline.Window.fetchOf grid0 false cc0_transform_0 t = true ↔ t.val % 12 = 0)
/-- Window 1 (operand 2 (%1)) is fetched at the points ≡ 0 (mod 12), at any contents of the tables (its index map reads none). -/
theorem fetch0_1 (a : (pcfg0 (F := F)).Adm) : ∀ t : Fin (cfg0 a).N, ((cfg0 a).win 1).fetch t = true ↔ t.val % 12 = 0 :=
  (fun t => Pipeline.Window.fetchOf_reads cc0_transform_1 reads0_1 hreads0_1 0 (by decide) (by decide) (Pipeline.Window.sep_of_coord cc0_transform_1 0 0 (fun _ => rfl) (by decide)) (P := 12) (by decide) t : ∀ t : Fin grid0.N, Pipeline.Window.fetchOf grid0 false cc0_transform_1 t = true ↔ t.val % 12 = 0)
/-- Window 2 (operand 3 (%2)) is fetched at the first point only, at any contents of the tables (its index map reads none). -/
theorem fetch0_2 (a : (pcfg0 (F := F)).Adm) : ∀ t : Fin (cfg0 a).N, ((cfg0 a).win 2).fetch t = true ↔ t.val % 168 = 0 :=
  (fun t => Pipeline.Window.fetchOf_const cc0_transform_2 (fun _ _ => rfl) (n := 168) (by decide) t : ∀ t : Fin grid0.N, Pipeline.Window.fetchOf grid0 false cc0_transform_2 t = true ↔ t.val % 168 = 0)
/-- Window 3 (operand 4 (%3)) is fetched at the first point only, at any contents of the tables (its index map reads none). -/
theorem fetch0_3 (a : (pcfg0 (F := F)).Adm) : ∀ t : Fin (cfg0 a).N, ((cfg0 a).win 3).fetch t = true ↔ t.val % 168 = 0 :=
  (fun t => Pipeline.Window.fetchOf_const cc0_transform_3 (fun _ _ => rfl) (n := 168) (by decide) t : ∀ t : Fin grid0.N, Pipeline.Window.fetchOf grid0 false cc0_transform_3 t = true ↔ t.val % 168 = 0)
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
/-- Window 7 (result 0 (%6#0)) is written back at the points ≡ 11 (mod 12), at any contents of the tables (its index map reads none). -/
theorem flush0_7 (a : (pcfg0 (F := F)).Adm) : ∀ t : Fin (cfg0 a).N, ((cfg0 a).win 7).flush t = true ↔ t.val % 12 = 11 :=
  (fun t => Pipeline.Window.flushOf_reads cc0_transform_7 reads0_7 hreads0_7 0 (by decide) (by decide) (Pipeline.Window.sep_of_coord cc0_transform_7 0 0 (fun _ => rfl) (by decide)) (P := 12) (m := 11) (by decide) rfl t : ∀ t : Fin grid0.N, Pipeline.Window.flushOf grid0 true cc0_transform_7 t = true ↔ t.val % 12 = 11)
/-- Window 8 (result 1 (%6#1)) is written back at the last point only, at any contents of the tables (its index map reads none). -/
theorem flush0_8 (a : (pcfg0 (F := F)).Adm) : ∀ t : Fin (cfg0 a).N, ((cfg0 a).win 8).flush t = true ↔ t.val % 168 = 167 :=
  (fun t => Pipeline.Window.flushOf_const cc0_transform_8 (fun _ _ => rfl) (n := 168) (by decide) rfl t : ∀ t : Fin grid0.N, Pipeline.Window.flushOf grid0 true cc0_transform_8 t = true ↔ t.val % 168 = 167)
/-- Window 9 (result 2 (%6#2)) is written back at the last point only, at any contents of the tables (its index map reads none). -/
theorem flush0_9 (a : (pcfg0 (F := F)).Adm) : ∀ t : Fin (cfg0 a).N, ((cfg0 a).win 9).flush t = true ↔ t.val % 168 = 167 :=
  (fun t => Pipeline.Window.flushOf_const cc0_transform_9 (fun _ _ => rfl) (n := 168) (by decide) rfl t : ∀ t : Fin grid0.N, Pipeline.Window.flushOf grid0 true cc0_transform_9 t = true ↔ t.val % 168 = 167)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S14 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      (Pipeline.RDat.FramePostR.arr_in h c 4 rfl).trans ((hA c 4).trans (V_main_arg4 m c)),
      ((h c).2 main_arg5 (by decide : main_arg5 ∈ Pipeline.restRefs sig spec0 \ T0)).trans (V_main_arg5 m c),
      ((h c).2 main_arg6 (by decide : main_arg6 ∈ Pipeline.restRefs sig spec0 \ T0)).trans (V_main_arg6 m c),
      ((h c).2 main_arg7 (by decide : main_arg7 ∈ Pipeline.restRefs sig spec0 \ T0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 168 = 0 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 168 = 0)

/-- The condition of the body's `scf.if` 1 (`k0_h2`), from the grid coordinates (the skeleton's scalar
    chain substituted). -/
abbrev cond0_1 (i : grid0.Coords) : Prop := k0_cond2 i = 1#1
/-- It holds at the points ≡ 0 (mod 12) — by arithmetic of the point. -/
theorem hcond0_1 : ∀ t : Fin grid0.N, cond0_1 (grid0.coords t) ↔ t.val % 12 = 0 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 0)

/-- The condition of the body's `scf.if` 2: over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := (Scalar.cmpi .ne (Scalar.extui (Scalar.cmpi .slt (Scalar.muli (BitVec.ofNat 32 (i 1).val) 512#32) v1)) 0#32) = 1#1

/-- The condition of the body's `scf.if` 3 (`k0_h4`), from the grid coordinates (the skeleton's scalar
    chain substituted). -/
abbrev cond0_3 (i : grid0.Coords) : Prop := k0_cond4 i = 1#1
/-- It holds at the points ≡ 11 (mod 12) — by arithmetic of the point. -/
theorem hcond0_3 : ∀ t : Fin grid0.N, cond0_3 (grid0.coords t) ↔ t.val % 12 = 11 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_3, k0_cond4, e0, e1]
    word_cmp
   : ∀ t : Fin grid0.N, cond0_3 (grid0.coords t) ↔ t.val % 12 = 11)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x288x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x3x64x96 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3x14x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x14x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x288x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S3x14x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S3x14x4 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S288x64 .bf16 := Memref.whole cc0_scratch0
abbrev scM0_1 : Memref sig .tc .vmem S288x512 .f32 := Memref.whole cc0_scratch1
abbrev scM0_2 : Memref sig .tc .vmem S288x128 .f32 := Memref.whole cc0_scratch2
abbrev scM0_3 : Memref sig .tc .vmem S288x128 .f32 := Memref.whole cc0_scratch3
abbrev scM0_4 : Memref sig .tc .vmem S3x14x512 .f32 := Memref.whole cc0_scratch4
abbrev scM0_5 : Memref sig .tc .vmem S3x14x64 .f32 := Memref.whole cc0_scratch5
/-- The scratch `arg13` the kernel carries between points, as a view: what it holds is stated through it. -/
abbrev VS0_0 : View sig .tc .vmem S288x64 .bf16 := scM0_0.view
/-- The scratch `arg14` the kernel carries between points, as a view: what it holds is stated through it. -/
abbrev VS0_1 : View sig .tc .vmem S288x512 .f32 := scM0_1.view
/-- The scratch `arg15` the kernel carries between points, as a view: what it holds is stated through it. -/
abbrev VS0_2 : View sig .tc .vmem S288x128 .f32 := scM0_2.view
/-- The scratch `arg16` the kernel carries between points, as a view: what it holds is stated through it. -/
abbrev VS0_3 : View sig .tc .vmem S288x128 .f32 := scM0_3.view
/-- The scratch `arg17` the kernel carries between points, as a view: what it holds is stated through it. -/
abbrev VS0_4 : View sig .tc .vmem S3x14x512 .f32 := scM0_4.view
/-- The scratch `arg18` the kernel carries between points, as a view: what it holds is stated through it. -/
abbrev VS0_5 : View sig .tc .vmem S3x14x64 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.Kernel.Run

end
-- ==== Proof.PSections.lean ====
/- The kernel's body as four consecutive sections, one for each of its conditionals. -/
module

public import proofs.«01_k».proof.Proof.PBase

@[expose] public section

set_option maxRecDepth 65536

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

/-- A conditional followed by a program is the conditional of the two branches followed by it. -/
theorem dite_bind.{v} {E : Type → Type v} {α β : Type} {c : Prop} [Decidable c] (A : c → Prog E α) (B : ¬ c → Prog E α) (k : α → Prog E β) :
    (dite c A B >>= k) = dite c (fun h => A h >>= k) (fun h => B h >>= k) := by
  by_cases h : c
  · rw [dif_pos h, dif_pos h]
  · rw [dif_neg h, dif_neg h]

/-- The same for a conditional whose branches do not use the condition. -/
theorem ite_bind.{v} {E : Type → Type v} {α β : Type} {c : Prop} [Decidable c] (A B : Prog E α) (k : α → Prog E β) :
    ((if c then A else B) >>= k) = if c then A >>= k else B >>= k := by
  by_cases h : c
  · rw [if_pos h, if_pos h]
  · rw [if_neg h, if_neg h]

/-- The section that quantises the new latents, at the first grid point only. -/
noncomputable def secQ (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h1 : k0_cond1 i = 1#1 then do
    let ⟨v46, v58⟩ : Σ' (v46 : FVec F S14x1 .f32), FVec F S14x128 .fp8e4m3 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let ⟨v72, v94, v98⟩ : Σ' (v72 : FVec F S14x128 .f32) (v94 : IVec S14x1 32), IVec S14x1 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v46 v58
    let ⟨v99, v125, v130, v139⟩ : Σ' (v99 : FVec F S14x1 .f32) (v125 : FVec F S14x128 .f32) (v130 : FVec F S14x1 .f32), IVec S14x252 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v94 v98
    let ⟨v152, v178⟩ : Σ' (v152 : FVec F S14x1 .f32), FVec F S14x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v125 v130 v139
    let ⟨v205, v217⟩ : Σ' (v205 : FVec F S14x1 .f32), FVec F S14x128 .fp8e4m3 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178
    let ⟨v241, v246, v257⟩ : Σ' (v241 : FVec F S14x128 .f32) (v246 : FVec F S14x1 .f32), IVec S14x1 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v46 v99 v152 v205 v217
    let ⟨v268, v294, v296⟩ : Σ' (v268 : FVec F S14x1 .f32) (v294 : FVec F S14x128 .f32), FVec F S14 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v241 v246 v257
    let ⟨v321, v337, v339⟩ : Σ' (v321 : FVec F S14x1 .f32) (v337 : FVec F S14x128 .f32), FVec F S14x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v294 v296
    let ⟨v347, v374, v380⟩ : Σ' (v347 : FVec F S14x128 .f32) (v374 : FVec F S14x1 .f32), FVec F S14x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v337 v339
    let ⟨v400, v418, v420⟩ : Σ' (v400 : FVec F S14x128 .f32) (v418 : IVec S14x1 32), IVec S14x1 1 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v347 v374 v380
    let v457 : FVec F S14x64 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v268 v321 v374 v400 v418 v420
    let ⟨v490, v497, cst_212, cst_213⟩ : Σ' (v490 : FVec F S14x1 .f32) (v497 : FVec F S14x128 .f32) (cst_212 : F .f32), F .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v457
    let ⟨v516, v538⟩ : Σ' (v516 : FVec F S14x128 .f32), IVec S14x1 32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v490 v497 cst_212 cst_213
    let ⟨v543, v569, v574, v577, c23_i32_249⟩ : Σ' (v543 : FVec F S14x1 .f32) (v569 : FVec F S14x128 .f32) (v574 : FVec F S14x1 .f32) (v577 : IVec S14x252 32), BitVec 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v516 v538
    let v596 : FVec F S14x1 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v569 v574 v577 c23_i32_249
    let ⟨v649, v661⟩ : Σ' (v649 : FVec F S14x1 .f32), FVec F S14x128 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v662 : Vec F S1x14x128 .fp8e4m3 ← Prog.lift (.load arg11 (Rect.unit (s := S3x14x512) ![2, 0, 384] S1x14x128.size inb_S3x14x512_S1x14x128_2_0_384).toLoadRect (View.loadsAt_vmem h_S1x14x128))
    Prog.lift (.store arg11 (Rect.unit (s := S3x14x512) ![2, 0, 384] S1x14x128.size inb_S3x14x512_S1x14x128_2_0_384) (k0_pay1 v661) Finset.univ (View.stores_vmem h_S1x14x128 (harg11.storeExact_slice_tiles rfl _ tilesfp8e4m3_S3x14x512_S1x14x128_2_0_384) (fun _ => rfl)) (.inl rfl))
    let v670 : Vec F S1x14x128 .f32 ← Prog.lift (.load arg17 (Rect.unit (s := S3x14x512) ![2, 0, 384] S1x14x128.size inb_S3x14x512_S1x14x128_2_0_384).toLoadRect (View.loadsAt_vmem h_S1x14x128))
    Prog.lift (.store arg17 (Rect.unit (s := S3x14x512) ![2, 0, 384] S1x14x128.size inb_S3x14x512_S1x14x128_2_0_384) (k0_pay2 v649 v661) Finset.univ (View.stores_vmem_bits_univ h_S1x14x128 rfl) (.inl rfl))
    let v674 : Vec F S1x14x4 .f32 ← Prog.lift (.load arg12 (Rect.unit (s := S3x14x4) ![2, 0, 0] S1x14x4.size inb_S3x14x4_S1x14x4_2_0_0).toLoadRect (View.loadsAt_vmem h_S1x14x4))
    Prog.lift (.store arg12 (Rect.unit (s := S3x14x4) ![2, 0, 0] S1x14x4.size inb_S3x14x4_S1x14x4_2_0_0) (k0_pay3 v490 v543 v596 v649) Finset.univ (View.stores_vmem_bits_univ h_S1x14x4 rfl) (.inl rfl))
    let v677 : Vec F S1x14x64 .bf16 ← Prog.lift (.load arg6 (Rect.unit (s := S3x14x64) ![2, 0, 0] S1x14x64.size inb_S3x14x64_S1x14x64_2_0_0).toLoadRect (View.loadsAt_vmem h_S1x14x64))
    let v680 : Vec F S1x14x64 .f32 ← Prog.lift (.load arg18 (Rect.unit (s := S3x14x64) ![2, 0, 0] S1x14x64.size inb_S3x14x64_S1x14x64_2_0_0).toLoadRect (View.loadsAt_vmem h_S1x14x64))
    Prog.lift (.store arg18 (Rect.unit (s := S3x14x64) ![2, 0, 0] S1x14x64.size inb_S3x14x64_S1x14x64_2_0_0) (k0_pay4 v677) Finset.univ (View.stores_vmem_bits_univ h_S1x14x64 rfl) (.inl rfl))
    pure ⟨⟩
  else do
    pure ⟨⟩

/-- The section that opens a batch: the query rope is laid out and the new tokens start the online softmax. -/
noncomputable def secI (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i = 1#1 then do
    let ⟨v43, v46, v49⟩ : Σ' (v43 : FVec F S1x512 .f32) (v46 : FVec F S1x512 .f32), FVec F S1x512 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h2
    let ⟨v52, v83, v88⟩ : Σ' (v52 : FVec F S16x512 .bf16) (v83 : FVec F S288x1 .f32), FVec F S288x16 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h2 v43 v46 v49
    let v91 : Vec F S288x128 .f32 ← Prog.lift (.load arg15 (Rect.unit (s := S288x128) ![0, 0] S288x128.size inb_S288x128_S288x128_0_0).toLoadRect (View.loadsAt_vmem h_S288x128))
    Prog.lift (.store arg15 (Rect.unit (s := S288x128) ![0, 0] S288x128.size inb_S288x128_S288x128_0_0) (k0_pay5 v83) Finset.univ (View.stores_vmem_bits_univ h_S288x128 rfl) (.inl rfl))
    let v98 : Vec F S288x128 .f32 ← Prog.lift (.load arg16 (Rect.unit (s := S288x128) ![0, 0] S288x128.size inb_S288x128_S288x128_0_0).toLoadRect (View.loadsAt_vmem h_S288x128))
    Prog.lift (.store arg16 (Rect.unit (s := S288x128) ![0, 0] S288x128.size inb_S288x128_S288x128_0_0) (k0_pay6 v88) Finset.univ (View.stores_vmem_bits_univ h_S288x128 rfl) (.inl rfl))
    let v103 : Vec F S288x512 .f32 ← Prog.lift (.load arg14 (Rect.unit (s := S288x512) ![0, 0] S288x512.size inb_S288x512_S288x512_0_0).toLoadRect (View.loadsAt_vmem h_S288x512))
    Prog.lift (.store arg14 (Rect.unit (s := S288x512) ![0, 0] S288x512.size inb_S288x512_S288x512_0_0) (k0_pay7 v52 v88) Finset.univ (View.stores_vmem_bits_univ h_S288x512 rfl) (.inl rfl))
    pure ⟨⟩
  else do
    pure ⟨⟩

/-- The section that takes one cache block into the online softmax, where the block holds a cached token. -/
noncomputable def secS (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32) :
    Prog (TpuEff nD τ sig (Elt F) Λ₀ .tc) PUnit := do
  let arg0 : BitVec 32 := BitVec.ofNat 32 (i 0).val
  let arg1 : BitVec 32 := BitVec.ofNat 32 (i 1).val
  let v10 : BitVec 32 := Scalar.muli arg1 512#32
  let v11 : BitVec 1 := Scalar.cmpi .slt v10 v1
  let v12 : BitVec 32 := Scalar.extui v11
  let v13 : BitVec 1 := Scalar.cmpi .ne v12 0#32
  if v13 = 1#1 then do
    let ⟨v47, v55, v56, v59⟩ : Σ' (v47 : FVec F S512x512 .bf16) (v55 : FVec F S288x512 .f32) (v56 : IVec S288x512 32), IVec S288x512 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1
    let v99 : FVec F S288x512 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v47 v55 v56 v59
    Prog.lift (.store arg14 (Rect.unit (s := S288x512) ![0, 0] S288x512.size inb_S288x512_S288x512_0_0) v99 Finset.univ (View.stores_vmem_bits_univ h_S288x512 rfl) (.inl rfl))
    pure ⟨⟩
  else do
    pure ⟨⟩

/-- The section that closes a batch: the accumulator divided by the sum. -/
noncomputable def secF (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    let v17 : Vec F S288x512 .f32 ← Prog.lift (.load arg14 (Rect.unit (s := S288x512) ![0, 0] S288x512.size inb_S288x512_S288x512_0_0).toLoadRect (View.loadsAt_vmem h_S288x512))
    let v18 : Vec F S288x1 .f32 ← Prog.lift (.load arg16 (Rect.unit (s := S288x128) ![0, 0] S288x1.size inb_S288x128_S288x1_0_0).toLoadRect (View.loadsAt_vmem h_S288x1))
    let v22 : Vec F S1x288x512 .bf16 ← Prog.lift (.load arg10 (Rect.unit (s := S1x288x512) ![0, 0, 0] S1x288x512.size inb_S1x288x512_S1x288x512_0_0_0).toLoadRect (View.loadsAt_vmem h_S1x288x512))
    Prog.lift (.store arg10 (Rect.unit (s := S1x288x512) ![0, 0, 0] S1x288x512.size inb_S1x288x512_S1x288x512_0_0_0) (k0_pay8 v17 v18) Finset.univ (View.stores_vmem h_S1x288x512 (harg10.storeExact_slice rfl _ packedbf16_S1x288x512_S1x288x512_0_0_0) (fun _ => rfl)) (.inl rfl))
    pure ⟨⟩
  else do
    pure ⟨⟩

set_option maxHeartbeats 2000000 in
/-- The body is the load of the batch's length and then the four sections. -/
theorem body_eq (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    cc0_mla_decode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      let v1 : Elt F .i32 ← smemLoad arg2 (Rect.unit (s := S14) (k0_off1 i) S1.size (k0_off1_inb i)) numel1_S1 rfl
      secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1
      secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc0_mla_decode_eq_skeleton]
  unfold cc0_mla_decode_skel secQ secI secS secF
  simp only [dite_bind, ite_bind, bind_assoc, pure_bind, bind_pure]

end Cert.Kernel.Run

end
-- ==== Proof.PTriples.lean ====
/- What each section of the kernel's body leaves in the buffers it stores into. -/
module

public import proofs.«01_k».proof.Proof.PSections
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A load through a unit-stride rectangle of a whole memref that holds `X` reads the rectangle of `X`. -/
theorem readAt_rect {κ : Kind} {sp : Space} {s : Shape} {e : EltTy} {m : Memref sig κ sp s e} (h : m.IsWhole) (X : s.Idx → Elt F e)
    (R : Rect s) : m.view.readAt (Elt F) R.toLoadRect (h.unread X) = View.ld X R :=
  funext fun x => h.readAt_unread X R.toLoadRect x

/-- A load of a whole memref that holds `X` reads `X`. -/
theorem readAt_all {κ : Kind} {sp : Space} {s : Shape} {e : EltTy} {m : Memref sig κ sp s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full, h.read_unread]

theorem readAt_S288x128 {κ : Kind} {sp : Space} {e : EltTy} {m : Memref sig κ sp S288x128 e} (h : m.IsWhole) (X : S288x128.Idx → Elt F e)
    (inb : ∀ a, (![0, 0] : Fin _ → ℕ) a + (![288, 128] : Fin _ → ℕ) a ≤ S288x128.size a) :
    m.view.readAt (Elt F) (Rect.unit (s := S288x128) ![0, 0] ![288, 128] inb).toLoadRect (h.unread X) = X := readAt_all h X inb

theorem readAt_S288x512 {κ : Kind} {sp : Space} {e : EltTy} {m : Memref sig κ sp S288x512 e} (h : m.IsWhole) (X : S288x512.Idx → Elt F e)
    (inb : ∀ a, (![0, 0] : Fin _ → ℕ) a + (![288, 512] : Fin _ → ℕ) a ≤ S288x512.size a) :
    m.view.readAt (Elt F) (Rect.unit (s := S288x512) ![0, 0] ![288, 512] inb).toLoadRect (h.unread X) = X := readAt_all h X inb

theorem readAt_S288x64 {κ : Kind} {sp : Space} {e : EltTy} {m : Memref sig κ sp S288x64 e} (h : m.IsWhole) (X : S288x64.Idx → Elt F e)
    (inb : ∀ a, (![0, 0] : Fin _ → ℕ) a + (![288, 64] : Fin _ → ℕ) a ≤ S288x64.size a) :
    m.view.readAt (Elt F) (Rect.unit (s := S288x64) ![0, 0] ![288, 64] inb).toLoadRect (h.unread X) = X := readAt_all h X inb

theorem readAt_S1x288x512 {κ : Kind} {sp : Space} {e : EltTy} {m : Memref sig κ sp S1x288x512 e} (h : m.IsWhole) (X : S1x288x512.Idx → Elt F e)
    (inb : ∀ a, (![0, 0, 0] : Fin _ → ℕ) a + (![1, 288, 512] : Fin _ → ℕ) a ≤ S1x288x512.size a) :
    m.view.readAt (Elt F) (Rect.unit (s := S1x288x512) ![0, 0, 0] ![1, 288, 512] inb).toLoadRect (h.unread X) = X := readAt_all h X inb

theorem readAt_S1x4x512 {κ : Kind} {sp : Space} {e : EltTy} {m : Memref sig κ sp S1x4x512 e} (h : m.IsWhole) (X : S1x4x512.Idx → Elt F e)
    (inb : ∀ a, (![0, 0, 0] : Fin _ → ℕ) a + (![1, 4, 512] : Fin _ → ℕ) a ≤ S1x4x512.size a) :
    m.view.readAt (Elt F) (Rect.unit (s := S1x4x512) ![0, 0, 0] ![1, 4, 512] inb).toLoadRect (h.unread X) = X := readAt_all h X inb

theorem readAt_S1x512x512 {κ : Kind} {sp : Space} {e : EltTy} {m : Memref sig κ sp S1x512x512 e} (h : m.IsWhole) (X : S1x512x512.Idx → Elt F e)
    (inb : ∀ a, (![0, 0, 0] : Fin _ → ℕ) a + (![1, 512, 512] : Fin _ → ℕ) a ≤ S1x512x512.size a) :
    m.view.readAt (Elt F) (Rect.unit (s := S1x512x512) ![0, 0, 0] ![1, 512, 512] inb).toLoadRect (h.unread X) = X := readAt_all h X inb

theorem readAt_S1x64x512 {κ : Kind} {sp : Space} {e : EltTy} {m : Memref sig κ sp S1x64x512 e} (h : m.IsWhole) (X : S1x64x512.Idx → Elt F e)
    (inb : ∀ a, (![0, 0, 0] : Fin _ → ℕ) a + (![1, 64, 512] : Fin _ → ℕ) a ≤ S1x64x512.size a) :
    m.view.readAt (Elt F) (Rect.unit (s := S1x64x512) ![0, 0, 0] ![1, 64, 512] inb).toLoadRect (h.unread X) = X := readAt_all h X inb

/-! A function of several arguments at arguments that are equal one by one. -/

theorem cong2 {Ta : Type*} {Tb : Type*} {R : Type*} (f : Ta → Tb → R) {a a' : Ta} {b b' : Tb} (ha : a = a') (hb : b = b') :
    f a b = f a' b' := by
  subst ha; subst hb; rfl

theorem cong3 {Ta : Type*} {Tb : Type*} {Tc : Type*} {R : Type*} (f : Ta → Tb → Tc → R) {a a' : Ta} {b b' : Tb} {c c' : Tc} (ha : a = a') (hb : b = b') (hc : c = c') :
    f a b c = f a' b' c' := by
  subst ha; subst hb; subst hc; rfl

theorem cong4 {Ta : Type*} {Tb : Type*} {Tc : Type*} {Td : Type*} {R : Type*} (f : Ta → Tb → Tc → Td → R) {a a' : Ta} {b b' : Tb} {c c' : Tc} {d d' : Td} (ha : a = a') (hb : b = b') (hc : c = c') (hd : d = d') :
    f a b c d = f a' b' c' d' := by
  subst ha; subst hb; subst hc; subst hd; rfl

theorem cong5 {Ta : Type*} {Tb : Type*} {Tc : Type*} {Td : Type*} {Te : Type*} {R : Type*} (f : Ta → Tb → Tc → Td → Te → R) {a a' : Ta} {b b' : Tb} {c c' : Tc} {d d' : Td} {e e' : Te} (ha : a = a') (hb : b = b') (hc : c = c') (hd : d = d') (he : e = e') :
    f a b c d e = f a' b' c' d' e' := by
  subst ha; subst hb; subst hc; subst hd; subst he; rfl

theorem cong6 {Ta : Type*} {Tb : Type*} {Tc : Type*} {Td : Type*} {Te : Type*} {Tu : Type*} {R : Type*} (f : Ta → Tb → Tc → Td → Te → Tu → R) {a a' : Ta} {b b' : Tb} {c c' : Tc} {d d' : Td} {e e' : Te} {u u' : Tu} (ha : a = a') (hb : b = b') (hc : c = c') (hd : d = d') (he : e = e') (hu : u = u') :
    f a b c d e u = f a' b' c' d' e' u' := by
  subst ha; subst hb; subst hc; subst hd; subst he; subst hu; rfl

theorem cong7 {Ta : Type*} {Tb : Type*} {Tc : Type*} {Td : Type*} {Te : Type*} {Tu : Type*} {Tv : Type*} {R : Type*} (f : Ta → Tb → Tc → Td → Te → Tu → Tv → R) {a a' : Ta} {b b' : Tb} {c c' : Tc} {d d' : Td} {e e' : Te} {u u' : Tu} {v v' : Tv} (ha : a = a') (hb : b = b') (hc : c = c') (hd : d = d') (he : e = e') (hu : u = u') (hv : v = v') :
    f a b c d e u v = f a' b' c' d' e' u' v' := by
  subst ha; subst hb; subst hc; subst hd; subst he; subst hu; subst hv; rfl

theorem cong8 {Ta : Type*} {Tb : Type*} {Tc : Type*} {Td : Type*} {Te : Type*} {Tu : Type*} {Tv : Type*} {Tw : Type*} {R : Type*} (f : Ta → Tb → Tc → Td → Te → Tu → Tv → Tw → R) {a a' : Ta} {b b' : Tb} {c c' : Tc} {d d' : Td} {e e' : Te} {u u' : Tu} {v v' : Tv} {w w' : Tw} (ha : a = a') (hb : b = b') (hc : c = c') (hd : d = d') (he : e = e') (hu : u = u') (hv : v = v') (hw : w = w') :
    f a b c d e u v w = f a' b' c' d' e' u' v' w' := by
  subst ha; subst hb; subst hc; subst hd; subst he; subst hu; subst hv; subst hw; rfl

/-- The masked scores of the cache block that the point reads. -/
def sM (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 : Vec F S288x128 .f32) : Vec F S288x128 .f32 :=
  k0_pay116 (k0_pay110 x5 x4 x0 s0 x6) (iota .tc S288x512 32 [1] iota_S288x512_d1_w32) (k0_pay111 (BitVec.ofNat 32 (i 1).val) v1) s2
/-- The running sum after the cache block. -/
def sL (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 s3 : Vec F S288x128 .f32) : Vec F S288x128 .f32 :=
  k0_pay117 (k0_pay110 x5 x4 x0 s0 x6) (iota .tc S288x512 32 [1] iota_S288x512_d1_w32) (k0_pay111 (BitVec.ofNat 32 (i 1).val) v1) s2 s3
/-- The running weighted sum of the latents after the cache block. -/
def sA (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 : Vec F S288x128 .f32) (s1 : Vec F S288x512 .f32) : Vec F S288x512 .f32 :=
  k0_pay118 (k0_pay109 x5 x4) (k0_pay110 x5 x4 x0 s0 x6) (iota .tc S288x512 32 [1] iota_S288x512_d1_w32) (k0_pay111 (BitVec.ofNat 32 (i 1).val) v1) s2 s1

/-- Where the block holds a cached token the section takes one step of the online softmax. -/
theorem secS_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32) (hc : cond0_2 i v1)
    (x0 : Vec F S1x288x512 .bf16) (x4 : Vec F S1x512x512 .fp8e4m3) (x5 : Vec F S1x4x512 .f32) (x6 : Vec F S1x64x512 .bf16) (s0 : Vec F S288x64 .bf16) (s1 : Vec F S288x512 .f32) (s2 : Vec F S288x128 .f32) (s3 : Vec F S288x128 .f32)
    (E : Set ℕ) (K : PUnit → sProp 𝕄) :
    iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg13 fullShare s0 ∗ owns (c : Thread nD τ) arg14 fullShare s1 ∗ owns (c : Thread nD τ) arg15 fullShare s2 ∗ owns (c : Thread nD τ) arg16 fullShare s3
        ∗ (iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg13 fullShare s0 ∗ owns (c : Thread nD τ) arg14 fullShare (sA i v1 x0 s0 x4 x5 x6 s2 s1) ∗ owns (c : Thread nD τ) arg15 fullShare (sM i v1 x0 s0 x4 x5 x6 s2) ∗ owns (c : Thread nD τ) arg16 fullShare (sL i v1 x0 s0 x4 x5 x6 s2 s3)) -∗ K ⟨⟩))
      ⊢ wp frame (wpE (defs₀ (F := F)) Variants.none c none) E (secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  v1) K := by
  unfold secS
  simp only [k0_part19_eq_skeleton, k0_part20_eq_skeleton]
  unfold owns
  iintro ⟨⟨%f3, %hf3, H3⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, Hk⟩
  obtain rfl := harg3.eq_unread hf3; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16
  sl_exec (disch := first | sl_exact hc)
  sl_step
  iapply Hk
  isplitl [H3]
  · iexists _; isplitr; swap; · iexact H3
    ipureintro; exact harg3.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H13]
  · iexists _; isplitr; swap; · iexact H13
    ipureintro; exact harg13.read_unread _
  isplitl [H14]
  · iexists _; isplitr; swap; · iexact H14
    ipureintro; exact (View.read_writes_full _ _ _ _ _).trans (cong6 k0_pay118 (cong2 k0_pay109 (readAt_S1x4x512 harg8 x5 _) (readAt_S1x512x512 harg7 x4 _)) (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _) (readAt_S288x512 harg14 s1 _))
  isplitl [H15]
  · iexists _; isplitr; swap; · iexact H15
    ipureintro; exact (View.read_writes_full _ _ _ _ _).trans (cong4 k0_pay116 (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _))
  iexists _; isplitr; swap; · iexact H16
  ipureintro; exact (View.read_writes_full _ _ _ _ _).trans (cong5 k0_pay117 (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _) (readAt_S288x128 harg16 s3 _))

end Cert.Kernel.Run

end
-- ==== Proof.PValues.lean ====
/- What the kernel leaves in the buffers it fills once a call or once a batch, as functions of the blocks it reads. -/
module

public import proofs.«01_k».proof.Proof.PTriples
public import Idealize.ShloMosaic.Lib.Pipeline.ValueKit
public import Idealize.ShloMosaic.Lib.Pointwise.Index
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The group of 128 entries of the new latents at new token `s` and group `g`. -/
def chunk (x2 : Vec F S3x14x512 .bf16) (s : Fin 3) (g : Fin 4) : Vec F S1x14x128 .bf16 :=
  fun j => x2 (ix3 s (j 1) ⟨128 * g.val + (j 2).val, by have := (j 2).isLt; have h : (j 2).val < 128 := this; omega⟩)

/-- The position of an entry of a row of 512 among its group of 128. -/
def lane (p : Fin 512) : Fin 128 := ⟨p.val % 128, Nat.mod_lt _ (by norm_num)⟩
/-- The group of 128 an entry of a row of 512 lies in. -/
def grp (p : Fin 512) : Fin 4 := ⟨p.val / 128, by omega⟩

/-- The codes of the new latents. -/
def NC (x2 : Vec F S3x14x512 .bf16) : Vec F S3x14x512 .fp8e4m3 :=
  fun y => k0_pay13 (k0_pay12 (chunk x2 (y 0) (grp (y 2)))) (ix3 0 (y 1) (lane (y 2)))
/-- The new latents read back from their codes and scales. -/
def LN (x2 : Vec F S3x14x512 .bf16) : Vec F S3x14x512 .f32 :=
  fun y => k0_pay14 (k0_pay11 (chunk x2 (y 0) (grp (y 2)))) (k0_pay12 (chunk x2 (y 0) (grp (y 2)))) (ix3 0 (y 1) (lane (y 2)))
/-- The scales of the new latents. -/
def NS (x2 : Vec F S3x14x512 .bf16) : Vec F S3x14x4 .f32 :=
  fun y => k0_pay3 (k0_pay11 (chunk x2 (y 0) 0)) (k0_pay11 (chunk x2 (y 0) 1)) (k0_pay11 (chunk x2 (y 0) 2)) (k0_pay11 (chunk x2 (y 0) 3)) (ix3 0 (y 1) (y 2))
/-- The rotary keys of new token `s`. -/
def chunkR (x3 : Vec F S3x14x64 .bf16) (s : Fin 3) : Vec F S1x14x64 .bf16 := fun j => x3 (ix3 s (j 1) (j 2))
/-- The rotary keys of the new tokens. -/
def RN (x3 : Vec F S3x14x64 .bf16) : Vec F S3x14x64 .f32 := fun y => k0_pay4 (chunkR x3 (y 0)) (ix3 0 (y 1) (y 2))
/-- The rotary queries of new token `s`, as the block holds them. -/
def chunkQ (x1 : Vec F S1x3x64x96 .bf16) (s : Fin 3) : Vec F S1x1x64x96 .bf16 := fun j => x1 (ix4 0 s (j 2) (j 3))
/-- The new token of a row of 288. -/
def tok (r : Fin 288) : Fin 3 := ⟨r.val / 96, by omega⟩
/-- The head of a row of 288. -/
def hd (r : Fin 288) : Fin 96 := ⟨r.val % 96, Nat.mod_lt _ (by norm_num)⟩
/-- The rotary queries of a batch, a row a token and head. -/
def QR (x1 : Vec F S1x3x64x96 .bf16) : Vec F S288x64 .bf16 := fun y => k0_pay99 (chunkQ x1 (tok (y 0))) (ix2 (hd (y 0)) (y 1))
/-- Row `(s, b)` of the new latents. -/
def rowL (s4 : Vec F S3x14x512 .f32) (s : Fin 3) (b : Fin 14) : Vec F S1x1x512 .f32 := fun j => s4 (ix3 s b (j 2))
/-- Row `(s, b)` of the new rotary keys. -/
def rowR (s5 : Vec F S3x14x64 .f32) (s : Fin 3) (b : Fin 14) : Vec F S1x1x64 .f32 := fun j => s5 (ix3 s b (j 2))
/-- The running maximum after the new tokens. -/
def iM (x0 : Vec F S1x288x512 .bf16) (x1 : Vec F S1x3x64x96 .bf16) (s4 : Vec F S3x14x512 .f32) (s5 : Vec F S3x14x64 .f32) (b : Fin 14) : Vec F S288x128 .f32 :=
  k0_pay5 (k0_pay107 (k0_pay102 (rowL s4 0 b)) (k0_pay103 (rowL s4 1 b)) (k0_pay104 (rowL s4 2 b)) (rowR s5 0 b) (rowR s5 1 b) (rowR s5 2 b) x0 (QR x1))
/-- The running sum after the new tokens. -/
def iL (x0 : Vec F S1x288x512 .bf16) (x1 : Vec F S1x3x64x96 .bf16) (s4 : Vec F S3x14x512 .f32) (s5 : Vec F S3x14x64 .f32) (b : Fin 14) : Vec F S288x128 .f32 :=
  k0_pay6 (k0_pay108 (k0_pay102 (rowL s4 0 b)) (k0_pay103 (rowL s4 1 b)) (k0_pay104 (rowL s4 2 b)) (rowR s5 0 b) (rowR s5 1 b) (rowR s5 2 b) x0 (QR x1))
/-- The running weighted sum of the latents after the new tokens. -/
def iA (x0 : Vec F S1x288x512 .bf16) (x1 : Vec F S1x3x64x96 .bf16) (s4 : Vec F S3x14x512 .f32) (s5 : Vec F S3x14x64 .f32) (b : Fin 14) : Vec F S288x512 .f32 :=
  k0_pay7 (k0_pay105 (k0_pay102 (rowL s4 0 b)) (k0_pay103 (rowL s4 1 b)) (k0_pay104 (rowL s4 2 b)))
    (k0_pay108 (k0_pay102 (rowL s4 0 b)) (k0_pay103 (rowL s4 1 b)) (k0_pay104 (rowL s4 2 b)) (rowR s5 0 b) (rowR s5 1 b) (rowR s5 2 b) x0 (QR x1))
/-- The first lane of the running sum. -/
def lane0 (s3 : Vec F S288x128 .f32) : Vec F S288x1 .f32 := fun j => s3 (ix2 (j 0) 0)
/-- The output block: the weighted sum over the sum. -/
def fO (s1 : Vec F S288x512 .f32) (s3 : Vec F S288x128 .f32) : Vec F S1x288x512 .bf16 := k0_pay8 s1 (lane0 s3)

/-! Loads of parts. -/

theorem ld_chunk (x2 : Vec F S3x14x512 .bf16) (s : Fin 3) (g : Fin 4) (off : Fin 3 → ℕ) (ho : off = ![s.val, 0, 128 * g.val]) (inb : ∀ a, off a + S1x14x128.size a ≤ S3x14x512.size a) :
    View.ld x2 (Rect.unit (s := S3x14x512) off S1x14x128.size inb) = chunk x2 s g := by
  subst ho
  funext j
  refine View.ld_unit_apply_of x2 _ _ _ j _ fun a => ?_
  have h0 : (j 0).val < 1 := (j 0).isLt
  match a with
  | ⟨0, _⟩ => show s.val = s.val + (j 0).val; omega
  | ⟨1, _⟩ => exact (Nat.zero_add _).symm
  | ⟨2, _⟩ => rfl

theorem ld_chunkR (x3 : Vec F S3x14x64 .bf16) (s : Fin 3) (off : Fin 3 → ℕ) (ho : off = ![s.val, 0, 0]) (inb : ∀ a, off a + S1x14x64.size a ≤ S3x14x64.size a) :
    View.ld x3 (Rect.unit (s := S3x14x64) off S1x14x64.size inb) = chunkR x3 s := by
  subst ho
  funext j
  refine View.ld_unit_apply_of x3 _ _ _ j _ fun a => ?_
  have h0 : (j 0).val < 1 := (j 0).isLt
  match a with
  | ⟨0, _⟩ => show s.val = s.val + (j 0).val; omega
  | ⟨1, _⟩ => exact (Nat.zero_add _).symm
  | ⟨2, _⟩ => exact (Nat.zero_add _).symm

theorem ld_chunkQ (x1 : Vec F S1x3x64x96 .bf16) (s : Fin 3) (off : Fin 4 → ℕ) (ho : off = ![0, s.val, 0, 0]) (inb : ∀ a, off a + S1x1x64x96.size a ≤ S1x3x64x96.size a) :
    View.ld x1 (Rect.unit (s := S1x3x64x96) off S1x1x64x96.size inb) = chunkQ x1 s := by
  subst ho
  funext j
  refine View.ld_unit_apply_of x1 _ _ _ j _ fun a => ?_
  have h0 : (j 0).val < 1 := (j 0).isLt
  have h1 : (j 1).val < 1 := (j 1).isLt
  match a with
  | ⟨0, _⟩ => show 0 = 0 + (j 0).val; omega
  | ⟨1, _⟩ => show s.val = s.val + (j 1).val; omega
  | ⟨2, _⟩ => exact (Nat.zero_add _).symm
  | ⟨3, _⟩ => exact (Nat.zero_add _).symm

theorem ld_rowL (s4 : Vec F S3x14x512 .f32) (s : Fin 3) (b : Fin 14) (off : Fin 3 → ℕ) (ho : off = ![s.val, b.val, 0]) (inb : ∀ a, off a + S1x1x512.size a ≤ S3x14x512.size a) :
    View.ld s4 (Rect.unit (s := S3x14x512) off S1x1x512.size inb) = rowL s4 s b := by
  subst ho
  funext j
  refine View.ld_unit_apply_of s4 _ _ _ j _ fun a => ?_
  have h0 : (j 0).val < 1 := (j 0).isLt
  have h1 : (j 1).val < 1 := (j 1).isLt
  match a with
  | ⟨0, _⟩ => show s.val = s.val + (j 0).val; omega
  | ⟨1, _⟩ => show b.val = b.val + (j 1).val; omega
  | ⟨2, _⟩ => exact (Nat.zero_add _).symm

theorem ld_rowR (s5 : Vec F S3x14x64 .f32) (s : Fin 3) (b : Fin 14) (off : Fin 3 → ℕ) (ho : off = ![s.val, b.val, 0]) (inb : ∀ a, off a + S1x1x64.size a ≤ S3x14x64.size a) :
    View.ld s5 (Rect.unit (s := S3x14x64) off S1x1x64.size inb) = rowR s5 s b := by
  subst ho
  funext j
  refine View.ld_unit_apply_of s5 _ _ _ j _ fun a => ?_
  have h0 : (j 0).val < 1 := (j 0).isLt
  have h1 : (j 1).val < 1 := (j 1).isLt
  match a with
  | ⟨0, _⟩ => show s.val = s.val + (j 0).val; omega
  | ⟨1, _⟩ => show b.val = b.val + (j 1).val; omega
  | ⟨2, _⟩ => exact (Nat.zero_add _).symm

theorem ld_lane0 (s3 : Vec F S288x128 .f32) (inb : ∀ a, (![0, 0] : Fin 2 → ℕ) a + S288x1.size a ≤ S288x128.size a) :
    View.ld s3 (Rect.unit (s := S288x128) ![0, 0] S288x1.size inb) = lane0 s3 := by
  funext j
  refine View.ld_unit_apply_of s3 _ _ _ j _ fun a => ?_
  have h1 : (j 1).val < 1 := (j 1).isLt
  match a with
  | ⟨0, _⟩ => exact (Nat.zero_add _).symm
  | ⟨1, _⟩ => show 0 = 0 + (j 1).val; omega

/-! The offsets of the loads of a batch's rows. -/

theorem off2_eq (i : grid0.Coords) : k0_off2 i = ![0, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off2
  simp only [e]

theorem off3_eq (i : grid0.Coords) : k0_off3 i = ![1, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off3
  simp only [e]

theorem off4_eq (i : grid0.Coords) : k0_off4 i = ![2, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off4
  simp only [e]

theorem off5_eq (i : grid0.Coords) : k0_off5 i = ![0, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off5
  simp only [e]

theorem off6_eq (i : grid0.Coords) : k0_off6 i = ![1, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off6
  simp only [e]

theorem off7_eq (i : grid0.Coords) : k0_off7 i = ![2, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off7
  simp only [e]

/-! What a stored part agrees with. -/

theorem at_chunk (s : Fin 3) (g : Fin 4) (off : Fin 3 → ℕ) (ho : off = ![s.val, 0, 128 * g.val]) (inb : ∀ a, off a + S1x14x128.size a ≤ S3x14x512.size a) (x : S1x14x128.Idx) :
    (Rect.unit (s := S3x14x512) off S1x14x128.size inb).idx x 0 = s ∧ (Rect.unit (s := S3x14x512) off S1x14x128.size inb).idx x 1 = x 1
      ∧ grp ((Rect.unit (s := S3x14x512) off S1x14x128.size inb).idx x 2) = g ∧ lane ((Rect.unit (s := S3x14x512) off S1x14x128.size inb).idx x 2) = x 2 := by
  subst ho
  have h0 : (x 0).val < 1 := (x 0).isLt
  have h2 : (x 2).val < 128 := (x 2).isLt
  have e2 : ((Rect.unit (s := S3x14x512) ![s.val, 0, 128 * g.val] S1x14x128.size inb).idx x 2).val = 128 * g.val + (x 2).val := Rect.idx_unit_val (s := S3x14x512) ![s.val, 0, 128 * g.val] S1x14x128.size inb x 2
  refine ⟨Fin.ext ?_, Fin.ext ?_, Fin.ext ?_, Fin.ext ?_⟩
  · refine (Rect.idx_unit_val (s := S3x14x512) ![s.val, 0, 128 * g.val] S1x14x128.size inb x 0).trans ?_
    show s.val + (x 0).val = s.val; omega
  · exact (Rect.idx_unit_val (s := S3x14x512) ![s.val, 0, 128 * g.val] S1x14x128.size inb x 1).trans (Nat.zero_add _)
  · show _ / 128 = g.val
    rw [e2]; omega
  · show _ % 128 = (x 2).val
    rw [e2]; omega

theorem eq_ix3_0 {n1 n2 : ℕ} (x : (⟨3, ![1, n1, n2]⟩ : Shape).Idx) : ix3 (0 : Fin 1) (x 1) (x 2) = x := by
  funext a
  match a with
  | ⟨0, _⟩ => exact (Fin.ext (by have h : (x 0).val < 1 := (x 0).isLt; show 0 = (x 0).val; omega))
  | ⟨1, _⟩ => rfl
  | ⟨2, _⟩ => rfl

/-- A part of a function of the shape of the new latents that is given group by group. -/
theorem grouped {e : EltTy} (P : Fin 3 → Fin 4 → Vec F S1x14x128 e) (s : Fin 3) (g : Fin 4) (off : Fin 3 → ℕ) (ho : off = ![s.val, 0, 128 * g.val])
    (inb : ∀ a, off a + S1x14x128.size a ≤ S3x14x512.size a) (x : S1x14x128.Idx) :
    P s g x = (fun y : S3x14x512.Idx => P (y 0) (grp (y 2)) (ix3 0 (y 1) (lane (y 2)))) ((Rect.unit (s := S3x14x512) off S1x14x128.size inb).idx x) := by
  obtain ⟨a, b, c, d⟩ := at_chunk s g off ho inb x
  show _ = P _ _ _
  rw [a, b, c, d]
  exact congrArg (P s g) (eq_ix3_0 x).symm

/-- A part of a function of three tokens' rows that is given token by token. -/
theorem tokened {e : EltTy} {n : ℕ} (P : Fin 3 → Vec F ⟨3, ![1, 14, n]⟩ e) (s : Fin 3) (off : Fin 3 → ℕ) (ho : off = ![s.val, 0, 0])
    (inb : ∀ a, off a + (![1, 14, n] : Fin 3 → ℕ) a ≤ (⟨3, ![3, 14, n]⟩ : Shape).size a) (x : (⟨3, ![1, 14, n]⟩ : Shape).Idx) :
    P s x = (fun y : (⟨3, ![3, 14, n]⟩ : Shape).Idx => P (y 0) (ix3 0 (y 1) (y 2))) ((Rect.unit (s := ⟨3, ![3, 14, n]⟩) off ![1, 14, n] inb).idx x) := by
  subst ho
  have h0 : (x 0).val < 1 := (x 0).isLt
  have e0 : (Rect.unit (s := ⟨3, ![3, 14, n]⟩) ![s.val, 0, 0] ![1, 14, n] inb).idx x 0 = s :=
    Fin.ext ((Rect.idx_unit_val (s := ⟨3, ![3, 14, n]⟩) ![s.val, 0, 0] ![1, 14, n] inb x 0).trans (by show s.val + (x 0).val = s.val; omega))
  have e1 : (Rect.unit (s := ⟨3, ![3, 14, n]⟩) ![s.val, 0, 0] ![1, 14, n] inb).idx x 1 = x 1 :=
    Fin.ext ((Rect.idx_unit_val (s := ⟨3, ![3, 14, n]⟩) ![s.val, 0, 0] ![1, 14, n] inb x 1).trans (Nat.zero_add _))
  have e2 : (Rect.unit (s := ⟨3, ![3, 14, n]⟩) ![s.val, 0, 0] ![1, 14, n] inb).idx x 2 = x 2 :=
    Fin.ext ((Rect.idx_unit_val (s := ⟨3, ![3, 14, n]⟩) ![s.val, 0, 0] ![1, 14, n] inb x 2).trans (Nat.zero_add _))
  show _ = P _ _
  rw [e0, e1, e2]
  exact congrArg (P s) (eq_ix3_0 x).symm

/-- A part of a function of the 288 rows that is given token by token. -/
theorem rowed {e : EltTy} (P : Fin 3 → Vec F S96x64 e) (s : Fin 3) (off : Fin 2 → ℕ) (ho : off = ![96 * s.val, 0])
    (inb : ∀ a, off a + S96x64.size a ≤ S288x64.size a) (x : S96x64.Idx) :
    P s x = (fun y : S288x64.Idx => P (tok (y 0)) (ix2 (hd (y 0)) (y 1))) ((Rect.unit (s := S288x64) off S96x64.size inb).idx x) := by
  subst ho
  have h0 : (x 0).val < 96 := (x 0).isLt
  have v0 : ((Rect.unit (s := S288x64) ![96 * s.val, 0] S96x64.size inb).idx x 0).val = 96 * s.val + (x 0).val := Rect.idx_unit_val (s := S288x64) ![96 * s.val, 0] S96x64.size inb x 0
  have e0 : tok ((Rect.unit (s := S288x64) ![96 * s.val, 0] S96x64.size inb).idx x 0) = s := Fin.ext (by show _ / 96 = s.val; rw [v0]; omega)
  have e0' : hd ((Rect.unit (s := S288x64) ![96 * s.val, 0] S96x64.size inb).idx x 0) = x 0 := Fin.ext (by show _ % 96 = (x 0).val; rw [v0]; omega)
  have e1 : (Rect.unit (s := S288x64) ![96 * s.val, 0] S96x64.size inb).idx x 1 = x 1 :=
    Fin.ext ((Rect.idx_unit_val (s := S288x64) ![96 * s.val, 0] S96x64.size inb x 1).trans (Nat.zero_add _))
  show _ = P _ _
  rw [e0, e0', e1]
  exact congrArg (P s) (eq_ix2 x)

theorem NC_part (x2 : Vec F S3x14x512 .bf16) (s : Fin 3) (g : Fin 4) (off : Fin 3 → ℕ) (ho : off = ![s.val, 0, 128 * g.val]) (inb : ∀ a, off a + S1x14x128.size a ≤ S3x14x512.size a) (x : S1x14x128.Idx) :
    k0_pay13 (k0_pay12 (chunk x2 s g)) x = NC x2 ((Rect.unit (s := S3x14x512) off S1x14x128.size inb).idx x) :=
  grouped (F := F) (e := .fp8e4m3) (fun s g => k0_pay13 (k0_pay12 (chunk x2 s g))) s g off ho inb x
theorem LN_part (x2 : Vec F S3x14x512 .bf16) (s : Fin 3) (g : Fin 4) (off : Fin 3 → ℕ) (ho : off = ![s.val, 0, 128 * g.val]) (inb : ∀ a, off a + S1x14x128.size a ≤ S3x14x512.size a) (x : S1x14x128.Idx) :
    k0_pay14 (k0_pay11 (chunk x2 s g)) (k0_pay12 (chunk x2 s g)) x = LN x2 ((Rect.unit (s := S3x14x512) off S1x14x128.size inb).idx x) :=
  grouped (F := F) (e := .f32) (fun s g => k0_pay14 (k0_pay11 (chunk x2 s g)) (k0_pay12 (chunk x2 s g))) s g off ho inb x
theorem NS_part (x2 : Vec F S3x14x512 .bf16) (s : Fin 3) (off : Fin 3 → ℕ) (ho : off = ![s.val, 0, 0]) (inb : ∀ a, off a + S1x14x4.size a ≤ S3x14x4.size a) (x : S1x14x4.Idx) :
    k0_pay3 (k0_pay11 (chunk x2 s 0)) (k0_pay11 (chunk x2 s 1)) (k0_pay11 (chunk x2 s 2)) (k0_pay11 (chunk x2 s 3)) x = NS x2 ((Rect.unit (s := S3x14x4) off S1x14x4.size inb).idx x) :=
  tokened (F := F) (e := .f32) (fun s => k0_pay3 (k0_pay11 (chunk x2 s 0)) (k0_pay11 (chunk x2 s 1)) (k0_pay11 (chunk x2 s 2)) (k0_pay11 (chunk x2 s 3))) s off ho inb x
theorem RN_part (x3 : Vec F S3x14x64 .bf16) (s : Fin 3) (off : Fin 3 → ℕ) (ho : off = ![s.val, 0, 0]) (inb : ∀ a, off a + S1x14x64.size a ≤ S3x14x64.size a) (x : S1x14x64.Idx) :
    k0_pay4 (chunkR x3 s) x = RN x3 ((Rect.unit (s := S3x14x64) off S1x14x64.size inb).idx x) :=
  tokened (F := F) (e := .f32) (fun s => k0_pay4 (chunkR x3 s)) s off ho inb x
theorem QR_part (x1 : Vec F S1x3x64x96 .bf16) (s : Fin 3) (off : Fin 2 → ℕ) (ho : off = ![96 * s.val, 0]) (inb : ∀ a, off a + S96x64.size a ≤ S288x64.size a) (x : S96x64.Idx) :
    k0_pay99 (chunkQ x1 s) x = QR x1 ((Rect.unit (s := S288x64) off S96x64.size inb).idx x) :=
  rowed (F := F) (e := .bf16) (fun s => k0_pay99 (chunkQ x1 s)) s off ho inb x

end Cert.Kernel.Run

end
-- ==== Proof.PTriplesI.lean ====
/- What the first and the last section of a batch leave in the buffers they store into. -/
module

public import proofs.«01_k».proof.Proof.PValues
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Three stores of 96 rows each leave the rotary queries. -/
theorem QR_writes {κ : Kind} {sp : Space} (v : View sig κ sp S288x64 .bf16) (f : v.ty.Contents (Elt F)) (x1 : Vec F S1x3x64x96 .bf16)
    (i0 : ∀ a, (![0, 0] : Fin 2 → ℕ) a + S96x64.size a ≤ S288x64.size a) (i1 : ∀ a, (![96, 0] : Fin 2 → ℕ) a + S96x64.size a ≤ S288x64.size a)
    (i2 : ∀ a, (![192, 0] : Fin 2 → ℕ) a + S96x64.size a ≤ S288x64.size a) (u0 u1 u2 : Vec F S1x1x64x96 .bf16)
    (h0 : u0 = chunkQ x1 0) (h1 : u1 = chunkQ x1 1) (h2 : u2 = chunkQ x1 2) :
    v.read (Elt F) (v.writes (Elt F) f [⟨Rect.unit (s := S288x64) ![192, 0] S96x64.size i2, k0_pay101 u2⟩, ⟨Rect.unit (s := S288x64) ![96, 0] S96x64.size i1, k0_pay100 u1⟩,
      ⟨Rect.unit (s := S288x64) ![0, 0] S96x64.size i0, k0_pay99 u0⟩]) = QR x1 := by
  subst h0; subst h1; subst h2
  funext y
  refine View.read_writes_apply_of_pieces v f (QR x1) _ ?_ y (View.cover_of_tiledL _ ![96, 64] (by sl_kernel_rfl) y)
  refine List.forall_mem_cons.2 ⟨fun x => QR_part x1 2 ![192, 0] rfl i2 x, List.forall_mem_cons.2 ⟨fun x => QR_part x1 1 ![96, 0] rfl i1 x,
    List.forall_mem_cons.2 ⟨fun x => QR_part x1 0 ![0, 0] rfl i0 x, fun p h => absurd h List.not_mem_nil⟩⟩⟩

set_option maxHeartbeats 4000000 in
/-- A batch's first block starts the online softmax with the new tokens. -/
theorem secI_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_1 i)
    (x0 : Vec F S1x288x512 .bf16) (x1 : Vec F S1x3x64x96 .bf16) (s0 : Vec F S288x64 .bf16) (s1 : Vec F S288x512 .f32) (s2 : Vec F S288x128 .f32) (s3 : Vec F S288x128 .f32) (s4 : Vec F S3x14x512 .f32) (s5 : Vec F S3x14x64 .f32)
    (E : Set ℕ) (K : PUnit → sProp 𝕄) :
    iprop(owns (c : Thread nD τ) arg3 fullShare x0 ∗ owns (c : Thread nD τ) arg4 fullShare x1 ∗ owns (c : Thread nD τ) arg13 fullShare s0 ∗ owns (c : Thread nD τ) arg14 fullShare s1 ∗ owns (c : Thread nD τ) arg15 fullShare s2 ∗ owns (c : Thread nD τ) arg16 fullShare s3 ∗ owns (c : Thread nD τ) arg17 fullShare s4 ∗ owns (c : Thread nD τ) arg18 fullShare s5
        ∗ (iprop(owns (c : Thread nD τ) arg3 fullShare x0 ∗ owns (c : Thread nD τ) arg4 fullShare x1 ∗ owns (c : Thread nD τ) arg13 fullShare (QR x1) ∗ owns (c : Thread nD τ) arg14 fullShare (iA x0 x1 s4 s5 (i 0)) ∗ owns (c : Thread nD τ) arg15 fullShare (iM x0 x1 s4 s5 (i 0)) ∗ owns (c : Thread nD τ) arg16 fullShare (iL x0 x1 s4 s5 (i 0)) ∗ owns (c : Thread nD τ) arg17 fullShare s4 ∗ owns (c : Thread nD τ) arg18 fullShare s5) -∗ K ⟨⟩))
      ⊢ wp frame (wpE (defs₀ (F := F)) Variants.none c none) E (secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secI
  simp only [k0_part17_eq_skeleton, k0_part18_eq_skeleton]
  unfold owns
  iintro ⟨⟨%f3, %hf3, H3⟩, ⟨%f4, %hf4, H4⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg3.eq_unread hf3; obtain rfl := harg4.eq_unread hf4; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H13]
  · iexists _; isplitr; swap; · iexact H13
    ipureintro; exact QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))
  isplitl [H14]
  · iexists _; isplitr; swap; · iexact H14
    ipureintro; exact (View.read_writes_full _ _ _ _ _).trans (cong2 k0_pay7 (cong3 k0_pay105 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _)))) (cong8 k0_pay108 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H15]
  · iexists _; isplitr; swap; · iexact H15
    ipureintro; exact (View.read_writes_full _ _ _ _ _).trans (congrArg k0_pay5 (cong8 k0_pay107 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H16]
  · iexists _; isplitr; swap; · iexact H16
    ipureintro; exact (View.read_writes_full _ _ _ _ _).trans (congrArg k0_pay6 (cong8 k0_pay108 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H17]
  · iexists _; isplitr; swap; · iexact H17
    ipureintro; exact harg17.read_unread _
  iexists _; isplitr; swap; · iexact H18
  ipureintro; exact harg18.read_unread _

/-- A batch's last block stores the output block. -/
theorem secF_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_3 i)
    (y7 : Vec F S1x288x512 .bf16) (s1 : Vec F S288x512 .f32) (s3 : Vec F S288x128 .f32)
    (E : Set ℕ) (K : PUnit → sProp 𝕄) :
    iprop(owns (c : Thread nD τ) arg10 fullShare y7 ∗ owns (c : Thread nD τ) arg14 fullShare s1 ∗ owns (c : Thread nD τ) arg16 fullShare s3
        ∗ (iprop(owns (c : Thread nD τ) arg10 fullShare (fO s1 s3) ∗ owns (c : Thread nD τ) arg14 fullShare s1 ∗ owns (c : Thread nD τ) arg16 fullShare s3) -∗ K ⟨⟩))
      ⊢ wp frame (wpE (defs₀ (F := F)) Variants.none c none) E (secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secF
  unfold owns
  iintro ⟨⟨%f10, %hf10, H10⟩, ⟨%f14, %hf14, H14⟩, ⟨%f16, %hf16, H16⟩, Hk⟩
  obtain rfl := harg10.eq_unread hf10; obtain rfl := harg14.eq_unread hf14; obtain rfl := harg16.eq_unread hf16
  sl_exec (disch := first | sl_exact hc)
  sl_step
  iapply Hk
  isplitl [H10]
  · iexists _; isplitr; swap; · iexact H10
    ipureintro; exact (View.read_writes_full _ _ _ _ _).trans (cong2 k0_pay8 (readAt_S288x512 harg14 s1 _) ((readAt_rect harg16 s3 _).trans (ld_lane0 s3 _)))
  isplitl [H14]
  · iexists _; isplitr; swap; · iexact H14
    ipureintro; exact harg14.read_unread _
  iexists _; isplitr; swap; · iexact H16
  ipureintro; exact harg16.read_unread _

end Cert.Kernel.Run

end
-- ==== Proof.PChunks.lean ====
/- The chunks of the new latents are all quantised alike, however the body's parts cut the computation. -/
module

public import proofs.«01_k».proof.Proof.PValues
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

theorem code_00 (u : Vec F S1x14x128 .bf16) : (k0_pay13 (k0_pay12 u)) = k0_pay13 (k0_pay12 u) := by
  rfl
theorem back_00 (u : Vec F S1x14x128 .bf16) : (k0_pay14 (k0_pay11 u) (k0_pay12 u)) = k0_pay14 (k0_pay11 u) (k0_pay12 u) := by
  rfl
theorem code_01 (u : Vec F S1x14x128 .bf16) : (k0_pay20 (k0_pay15 u) (k0_pay16 u)) = k0_pay13 (k0_pay12 u) := by
  rfl
theorem back_01 (u : Vec F S1x14x128 .bf16) : (k0_pay21 (k0_pay15 u) (k0_pay16 u) (k0_pay17 u)) = k0_pay14 (k0_pay11 u) (k0_pay12 u) := by
  rfl
theorem code_02 (u : Vec F S1x14x128 .bf16) : (k0_pay28 (k0_pay22 u) (k0_pay23 u) (k0_pay24 u)) = k0_pay13 (k0_pay12 u) := by
  rfl
theorem back_02 (u : Vec F S1x14x128 .bf16) : (k0_pay29 (k0_pay22 u) (k0_pay23 u) (k0_pay24 u)) = k0_pay14 (k0_pay11 u) (k0_pay12 u) := by
  rfl
theorem code_03 (u : Vec F S1x14x128 .bf16) : (k0_pay34 (k0_pay30 u)) = k0_pay13 (k0_pay12 u) := by
  rfl
theorem back_03 (u : Vec F S1x14x128 .bf16) : (k0_pay35 (k0_pay32 (k0_pay30 u)) (k0_pay33 (k0_pay30 u))) = k0_pay14 (k0_pay11 u) (k0_pay12 u) := by
  rfl
theorem code_10 (u : Vec F S1x14x128 .bf16) : (k0_pay44 (k0_pay38 u) (k0_pay39 u) (k0_pay40 u)) = k0_pay13 (k0_pay12 u) := by
  rfl
theorem back_10 (u : Vec F S1x14x128 .bf16) : (k0_pay45 (k0_pay38 u) (k0_pay39 u) (k0_pay40 u)) = k0_pay14 (k0_pay11 u) (k0_pay12 u) := by
  rfl
theorem code_11 (u : Vec F S1x14x128 .bf16) : (k0_pay51 (k0_pay46 u) (k0_pay47 u)) = k0_pay13 (k0_pay12 u) := by
  rfl
theorem back_11 (u : Vec F S1x14x128 .bf16) : (k0_pay54 (k0_pay52 (k0_pay46 u) (k0_pay47 u)) (k0_pay53 (k0_pay47 u))) = k0_pay14 (k0_pay11 u) (k0_pay12 u) := by
  rfl
theorem code_12 (u : Vec F S1x14x128 .bf16) : (k0_pay60 (k0_pay55 u) (k0_pay58 u)) = k0_pay13 (k0_pay12 u) := by
  rfl
theorem back_12 (u : Vec F S1x14x128 .bf16) : (k0_pay61 (k0_pay55 u) (k0_pay57 u) (k0_pay58 u)) = k0_pay14 (k0_pay11 u) (k0_pay12 u) := by
  rfl
theorem code_13 (u : Vec F S1x14x128 .bf16) : (k0_pay69 (k0_pay62 u) (k0_pay64 u) (k0_pay65 u)) = k0_pay13 (k0_pay12 u) := by
  rfl
theorem back_13 (u : Vec F S1x14x128 .bf16) : (k0_pay70 (k0_pay62 u) (k0_pay64 u) (k0_pay65 u)) = k0_pay14 (k0_pay11 u) (k0_pay12 u) := by
  rfl
theorem code_20 (u : Vec F S1x14x128 .bf16) : (k0_pay79 (k0_pay77 u) (Scalar.ofBits .f32 0xC3E00000#32) (Scalar.ofBits .f32 0x43E00000#32)) = k0_pay13 (k0_pay12 u) := by
  rfl
theorem back_20 (u : Vec F S1x14x128 .bf16) : (k0_pay80 (k0_pay76 u) (k0_pay77 u) (Scalar.ofBits .f32 0xC3E00000#32) (Scalar.ofBits .f32 0x43E00000#32)) = k0_pay14 (k0_pay11 u) (k0_pay12 u) := by
  rfl
theorem code_21 (u : Vec F S1x14x128 .bf16) : (k0_pay85 (k0_pay81 u) (k0_pay82 u)) = k0_pay13 (k0_pay12 u) := by
  rfl
theorem back_21 (u : Vec F S1x14x128 .bf16) : (k0_pay86 (k0_pay81 u) (k0_pay82 u)) = k0_pay14 (k0_pay11 u) (k0_pay12 u) := by
  rfl
theorem code_22 (u : Vec F S1x14x128 .bf16) : (k0_pay93 (k0_pay87 u) (k0_pay88 u) (k0_pay89) 23#32) = k0_pay13 (k0_pay12 u) := by
  rfl
theorem back_22 (u : Vec F S1x14x128 .bf16) : (k0_pay94 (k0_pay87 u) (k0_pay88 u) (k0_pay89) 23#32) = k0_pay14 (k0_pay11 u) (k0_pay12 u) := by
  rfl
theorem code_23 (u : Vec F S1x14x128 .bf16) : (k0_pay1 (k0_pay98 u)) = k0_pay13 (k0_pay12 u) := by
  rfl
theorem back_23 (u : Vec F S1x14x128 .bf16) : (k0_pay2 (k0_pay97 u) (k0_pay98 u)) = k0_pay14 (k0_pay11 u) (k0_pay12 u) := by
  rfl
theorem scales_0 (u0 u1 u2 u3 : Vec F S1x14x128 .bf16) : (k0_pay36 (k0_pay11 u0) (k0_pay18 (F := F) (k0_pay17 u1)) (k0_pay26 (k0_pay23 u2) (k0_pay24 u2)) (k0_pay32 (k0_pay30 u3))) = k0_pay3 (k0_pay11 u0) (k0_pay11 u1) (k0_pay11 u2) (k0_pay11 u3) := by
  rfl
theorem scales_1 (u0 u1 u2 u3 : Vec F S1x14x128 .bf16) : (k0_pay71 (k0_pay42 (k0_pay39 u0) (k0_pay40 u0)) (k0_pay49 (k0_pay47 u1)) (k0_pay57 u2) (k0_pay64 u3) (k0_pay65 u3)) = k0_pay3 (k0_pay11 u0) (k0_pay11 u1) (k0_pay11 u2) (k0_pay11 u3) := by
  rfl
theorem scales_2 (u0 u1 u2 u3 : Vec F S1x14x128 .bf16) : (k0_pay3 (k0_pay76 u0) (k0_pay83 (F := F) (k0_pay82 u1)) (k0_pay91 (k0_pay88 u2) (k0_pay89) 23#32) (k0_pay97 u3)) = k0_pay3 (k0_pay11 u0) (k0_pay11 u1) (k0_pay11 u2) (k0_pay11 u3) := by
  rfl
end Cert.Kernel.Run

end
-- ==== Proof.PTriplesQ.lean ====
/- What the first point of a call leaves in the buffers of the new tokens. -/
module

public import proofs.«01_k».proof.Proof.PChunks
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Twelve stores of a group each leave the codes. -/
theorem NC_writes {κ : Kind} {sp : Space} (v : View sig κ sp S3x14x512 .fp8e4m3) (f : v.ty.Contents (Elt F)) (x2 : Vec F S3x14x512 .bf16)
    (p23 : Vec F S1x14x128 .fp8e4m3) (h23 : p23 = k0_pay13 (k0_pay12 (chunk x2 2 3)))
    (p22 : Vec F S1x14x128 .fp8e4m3) (h22 : p22 = k0_pay13 (k0_pay12 (chunk x2 2 2)))
    (p21 : Vec F S1x14x128 .fp8e4m3) (h21 : p21 = k0_pay13 (k0_pay12 (chunk x2 2 1)))
    (p20 : Vec F S1x14x128 .fp8e4m3) (h20 : p20 = k0_pay13 (k0_pay12 (chunk x2 2 0)))
    (p13 : Vec F S1x14x128 .fp8e4m3) (h13 : p13 = k0_pay13 (k0_pay12 (chunk x2 1 3)))
    (p12 : Vec F S1x14x128 .fp8e4m3) (h12 : p12 = k0_pay13 (k0_pay12 (chunk x2 1 2)))
    (p11 : Vec F S1x14x128 .fp8e4m3) (h11 : p11 = k0_pay13 (k0_pay12 (chunk x2 1 1)))
    (p10 : Vec F S1x14x128 .fp8e4m3) (h10 : p10 = k0_pay13 (k0_pay12 (chunk x2 1 0)))
    (p03 : Vec F S1x14x128 .fp8e4m3) (h03 : p03 = k0_pay13 (k0_pay12 (chunk x2 0 3)))
    (p02 : Vec F S1x14x128 .fp8e4m3) (h02 : p02 = k0_pay13 (k0_pay12 (chunk x2 0 2)))
    (p01 : Vec F S1x14x128 .fp8e4m3) (h01 : p01 = k0_pay13 (k0_pay12 (chunk x2 0 1)))
    (p00 : Vec F S1x14x128 .fp8e4m3) (h00 : p00 = k0_pay13 (k0_pay12 (chunk x2 0 0))) :
    v.read (Elt F) (v.writes (Elt F) f [⟨Rect.unit (s := S3x14x512) ![2, 0, 384] S1x14x128.size inb_S3x14x512_S1x14x128_2_0_384, p23⟩, ⟨Rect.unit (s := S3x14x512) ![2, 0, 256] S1x14x128.size inb_S3x14x512_S1x14x128_2_0_256, p22⟩, ⟨Rect.unit (s := S3x14x512) ![2, 0, 128] S1x14x128.size inb_S3x14x512_S1x14x128_2_0_128, p21⟩, ⟨Rect.unit (s := S3x14x512) ![2, 0, 0] S1x14x128.size inb_S3x14x512_S1x14x128_2_0_0, p20⟩, ⟨Rect.unit (s := S3x14x512) ![1, 0, 384] S1x14x128.size inb_S3x14x512_S1x14x128_1_0_384, p13⟩, ⟨Rect.unit (s := S3x14x512) ![1, 0, 256] S1x14x128.size inb_S3x14x512_S1x14x128_1_0_256, p12⟩, ⟨Rect.unit (s := S3x14x512) ![1, 0, 128] S1x14x128.size inb_S3x14x512_S1x14x128_1_0_128, p11⟩, ⟨Rect.unit (s := S3x14x512) ![1, 0, 0] S1x14x128.size inb_S3x14x512_S1x14x128_1_0_0, p10⟩, ⟨Rect.unit (s := S3x14x512) ![0, 0, 384] S1x14x128.size inb_S3x14x512_S1x14x128_0_0_384, p03⟩, ⟨Rect.unit (s := S3x14x512) ![0, 0, 256] S1x14x128.size inb_S3x14x512_S1x14x128_0_0_256, p02⟩, ⟨Rect.unit (s := S3x14x512) ![0, 0, 128] S1x14x128.size inb_S3x14x512_S1x14x128_0_0_128, p01⟩, ⟨Rect.unit (s := S3x14x512) ![0, 0, 0] S1x14x128.size inb_S3x14x512_S1x14x128_0_0_0, p00⟩]) = NC x2 := by
  subst h23; subst h22; subst h21; subst h20; subst h13; subst h12; subst h11; subst h10; subst h03; subst h02; subst h01; subst h00
  funext y
  refine View.read_writes_apply_of_pieces v f (NC x2) _ ?_ y (View.cover_of_tiledL _ ![1, 14, 128] (by sl_kernel_rfl) y)
  exact List.forall_mem_cons.2 ⟨fun x => NC_part x2 2 3 ![2, 0, 384] rfl inb_S3x14x512_S1x14x128_2_0_384 x, List.forall_mem_cons.2 ⟨fun x => NC_part x2 2 2 ![2, 0, 256] rfl inb_S3x14x512_S1x14x128_2_0_256 x, List.forall_mem_cons.2 ⟨fun x => NC_part x2 2 1 ![2, 0, 128] rfl inb_S3x14x512_S1x14x128_2_0_128 x, List.forall_mem_cons.2 ⟨fun x => NC_part x2 2 0 ![2, 0, 0] rfl inb_S3x14x512_S1x14x128_2_0_0 x, List.forall_mem_cons.2 ⟨fun x => NC_part x2 1 3 ![1, 0, 384] rfl inb_S3x14x512_S1x14x128_1_0_384 x, List.forall_mem_cons.2 ⟨fun x => NC_part x2 1 2 ![1, 0, 256] rfl inb_S3x14x512_S1x14x128_1_0_256 x, List.forall_mem_cons.2 ⟨fun x => NC_part x2 1 1 ![1, 0, 128] rfl inb_S3x14x512_S1x14x128_1_0_128 x, List.forall_mem_cons.2 ⟨fun x => NC_part x2 1 0 ![1, 0, 0] rfl inb_S3x14x512_S1x14x128_1_0_0 x, List.forall_mem_cons.2 ⟨fun x => NC_part x2 0 3 ![0, 0, 384] rfl inb_S3x14x512_S1x14x128_0_0_384 x, List.forall_mem_cons.2 ⟨fun x => NC_part x2 0 2 ![0, 0, 256] rfl inb_S3x14x512_S1x14x128_0_0_256 x, List.forall_mem_cons.2 ⟨fun x => NC_part x2 0 1 ![0, 0, 128] rfl inb_S3x14x512_S1x14x128_0_0_128 x, List.forall_mem_cons.2 ⟨fun x => NC_part x2 0 0 ![0, 0, 0] rfl inb_S3x14x512_S1x14x128_0_0_0 x, fun p h => absurd h List.not_mem_nil⟩⟩⟩⟩⟩⟩⟩⟩⟩⟩⟩⟩

/-- Twelve stores of a group each leave the new latents. -/
theorem LN_writes {κ : Kind} {sp : Space} (v : View sig κ sp S3x14x512 .f32) (f : v.ty.Contents (Elt F)) (x2 : Vec F S3x14x512 .bf16)
    (p23 : Vec F S1x14x128 .f32) (h23 : p23 = k0_pay14 (k0_pay11 (chunk x2 2 3)) (k0_pay12 (chunk x2 2 3)))
    (p22 : Vec F S1x14x128 .f32) (h22 : p22 = k0_pay14 (k0_pay11 (chunk x2 2 2)) (k0_pay12 (chunk x2 2 2)))
    (p21 : Vec F S1x14x128 .f32) (h21 : p21 = k0_pay14 (k0_pay11 (chunk x2 2 1)) (k0_pay12 (chunk x2 2 1)))
    (p20 : Vec F S1x14x128 .f32) (h20 : p20 = k0_pay14 (k0_pay11 (chunk x2 2 0)) (k0_pay12 (chunk x2 2 0)))
    (p13 : Vec F S1x14x128 .f32) (h13 : p13 = k0_pay14 (k0_pay11 (chunk x2 1 3)) (k0_pay12 (chunk x2 1 3)))
    (p12 : Vec F S1x14x128 .f32) (h12 : p12 = k0_pay14 (k0_pay11 (chunk x2 1 2)) (k0_pay12 (chunk x2 1 2)))
    (p11 : Vec F S1x14x128 .f32) (h11 : p11 = k0_pay14 (k0_pay11 (chunk x2 1 1)) (k0_pay12 (chunk x2 1 1)))
    (p10 : Vec F S1x14x128 .f32) (h10 : p10 = k0_pay14 (k0_pay11 (chunk x2 1 0)) (k0_pay12 (chunk x2 1 0)))
    (p03 : Vec F S1x14x128 .f32) (h03 : p03 = k0_pay14 (k0_pay11 (chunk x2 0 3)) (k0_pay12 (chunk x2 0 3)))
    (p02 : Vec F S1x14x128 .f32) (h02 : p02 = k0_pay14 (k0_pay11 (chunk x2 0 2)) (k0_pay12 (chunk x2 0 2)))
    (p01 : Vec F S1x14x128 .f32) (h01 : p01 = k0_pay14 (k0_pay11 (chunk x2 0 1)) (k0_pay12 (chunk x2 0 1)))
    (p00 : Vec F S1x14x128 .f32) (h00 : p00 = k0_pay14 (k0_pay11 (chunk x2 0 0)) (k0_pay12 (chunk x2 0 0))) :
    v.read (Elt F) (v.writes (Elt F) f [⟨Rect.unit (s := S3x14x512) ![2, 0, 384] S1x14x128.size inb_S3x14x512_S1x14x128_2_0_384, p23⟩, ⟨Rect.unit (s := S3x14x512) ![2, 0, 256] S1x14x128.size inb_S3x14x512_S1x14x128_2_0_256, p22⟩, ⟨Rect.unit (s := S3x14x512) ![2, 0, 128] S1x14x128.size inb_S3x14x512_S1x14x128_2_0_128, p21⟩, ⟨Rect.unit (s := S3x14x512) ![2, 0, 0] S1x14x128.size inb_S3x14x512_S1x14x128_2_0_0, p20⟩, ⟨Rect.unit (s := S3x14x512) ![1, 0, 384] S1x14x128.size inb_S3x14x512_S1x14x128_1_0_384, p13⟩, ⟨Rect.unit (s := S3x14x512) ![1, 0, 256] S1x14x128.size inb_S3x14x512_S1x14x128_1_0_256, p12⟩, ⟨Rect.unit (s := S3x14x512) ![1, 0, 128] S1x14x128.size inb_S3x14x512_S1x14x128_1_0_128, p11⟩, ⟨Rect.unit (s := S3x14x512) ![1, 0, 0] S1x14x128.size inb_S3x14x512_S1x14x128_1_0_0, p10⟩, ⟨Rect.unit (s := S3x14x512) ![0, 0, 384] S1x14x128.size inb_S3x14x512_S1x14x128_0_0_384, p03⟩, ⟨Rect.unit (s := S3x14x512) ![0, 0, 256] S1x14x128.size inb_S3x14x512_S1x14x128_0_0_256, p02⟩, ⟨Rect.unit (s := S3x14x512) ![0, 0, 128] S1x14x128.size inb_S3x14x512_S1x14x128_0_0_128, p01⟩, ⟨Rect.unit (s := S3x14x512) ![0, 0, 0] S1x14x128.size inb_S3x14x512_S1x14x128_0_0_0, p00⟩]) = LN x2 := by
  subst h23; subst h22; subst h21; subst h20; subst h13; subst h12; subst h11; subst h10; subst h03; subst h02; subst h01; subst h00
  funext y
  refine View.read_writes_apply_of_pieces v f (LN x2) _ ?_ y (View.cover_of_tiledL _ ![1, 14, 128] (by sl_kernel_rfl) y)
  exact List.forall_mem_cons.2 ⟨fun x => LN_part x2 2 3 ![2, 0, 384] rfl inb_S3x14x512_S1x14x128_2_0_384 x, List.forall_mem_cons.2 ⟨fun x => LN_part x2 2 2 ![2, 0, 256] rfl inb_S3x14x512_S1x14x128_2_0_256 x, List.forall_mem_cons.2 ⟨fun x => LN_part x2 2 1 ![2, 0, 128] rfl inb_S3x14x512_S1x14x128_2_0_128 x, List.forall_mem_cons.2 ⟨fun x => LN_part x2 2 0 ![2, 0, 0] rfl inb_S3x14x512_S1x14x128_2_0_0 x, List.forall_mem_cons.2 ⟨fun x => LN_part x2 1 3 ![1, 0, 384] rfl inb_S3x14x512_S1x14x128_1_0_384 x, List.forall_mem_cons.2 ⟨fun x => LN_part x2 1 2 ![1, 0, 256] rfl inb_S3x14x512_S1x14x128_1_0_256 x, List.forall_mem_cons.2 ⟨fun x => LN_part x2 1 1 ![1, 0, 128] rfl inb_S3x14x512_S1x14x128_1_0_128 x, List.forall_mem_cons.2 ⟨fun x => LN_part x2 1 0 ![1, 0, 0] rfl inb_S3x14x512_S1x14x128_1_0_0 x, List.forall_mem_cons.2 ⟨fun x => LN_part x2 0 3 ![0, 0, 384] rfl inb_S3x14x512_S1x14x128_0_0_384 x, List.forall_mem_cons.2 ⟨fun x => LN_part x2 0 2 ![0, 0, 256] rfl inb_S3x14x512_S1x14x128_0_0_256 x, List.forall_mem_cons.2 ⟨fun x => LN_part x2 0 1 ![0, 0, 128] rfl inb_S3x14x512_S1x14x128_0_0_128 x, List.forall_mem_cons.2 ⟨fun x => LN_part x2 0 0 ![0, 0, 0] rfl inb_S3x14x512_S1x14x128_0_0_0 x, fun p h => absurd h List.not_mem_nil⟩⟩⟩⟩⟩⟩⟩⟩⟩⟩⟩⟩

/-- Three stores of a token each leave the scales. -/
theorem NS_writes {κ : Kind} {sp : Space} (v : View sig κ sp S3x14x4 .f32) (f : v.ty.Contents (Elt F)) (x2 : Vec F S3x14x512 .bf16)
    (p2 : Vec F S1x14x4 .f32) (h2 : p2 = k0_pay3 (k0_pay11 (chunk x2 2 0)) (k0_pay11 (chunk x2 2 1)) (k0_pay11 (chunk x2 2 2)) (k0_pay11 (chunk x2 2 3)))
    (p1 : Vec F S1x14x4 .f32) (h1 : p1 = k0_pay3 (k0_pay11 (chunk x2 1 0)) (k0_pay11 (chunk x2 1 1)) (k0_pay11 (chunk x2 1 2)) (k0_pay11 (chunk x2 1 3)))
    (p0 : Vec F S1x14x4 .f32) (h0 : p0 = k0_pay3 (k0_pay11 (chunk x2 0 0)) (k0_pay11 (chunk x2 0 1)) (k0_pay11 (chunk x2 0 2)) (k0_pay11 (chunk x2 0 3))) :
    v.read (Elt F) (v.writes (Elt F) f [⟨Rect.unit (s := S3x14x4) ![2, 0, 0] S1x14x4.size inb_S3x14x4_S1x14x4_2_0_0, p2⟩, ⟨Rect.unit (s := S3x14x4) ![1, 0, 0] S1x14x4.size inb_S3x14x4_S1x14x4_1_0_0, p1⟩, ⟨Rect.unit (s := S3x14x4) ![0, 0, 0] S1x14x4.size inb_S3x14x4_S1x14x4_0_0_0, p0⟩]) = NS x2 := by
  subst h2; subst h1; subst h0
  funext y
  refine View.read_writes_apply_of_pieces v f (NS x2) _ ?_ y (View.cover_of_tiledL _ ![1, 14, 4] (by sl_kernel_rfl) y)
  exact List.forall_mem_cons.2 ⟨fun x => NS_part x2 2 ![2, 0, 0] rfl inb_S3x14x4_S1x14x4_2_0_0 x, List.forall_mem_cons.2 ⟨fun x => NS_part x2 1 ![1, 0, 0] rfl inb_S3x14x4_S1x14x4_1_0_0 x, List.forall_mem_cons.2 ⟨fun x => NS_part x2 0 ![0, 0, 0] rfl inb_S3x14x4_S1x14x4_0_0_0 x, fun p h => absurd h List.not_mem_nil⟩⟩⟩

/-- Three stores of a token each leave the new rotary keys. -/
theorem RN_writes {κ : Kind} {sp : Space} (v : View sig κ sp S3x14x64 .f32) (f : v.ty.Contents (Elt F)) (x3 : Vec F S3x14x64 .bf16)
    (p2 : Vec F S1x14x64 .f32) (h2 : p2 = k0_pay4 (chunkR x3 2))
    (p1 : Vec F S1x14x64 .f32) (h1 : p1 = k0_pay4 (chunkR x3 1))
    (p0 : Vec F S1x14x64 .f32) (h0 : p0 = k0_pay4 (chunkR x3 0)) :
    v.read (Elt F) (v.writes (Elt F) f [⟨Rect.unit (s := S3x14x64) ![2, 0, 0] S1x14x64.size inb_S3x14x64_S1x14x64_2_0_0, p2⟩, ⟨Rect.unit (s := S3x14x64) ![1, 0, 0] S1x14x64.size inb_S3x14x64_S1x14x64_1_0_0, p1⟩, ⟨Rect.unit (s := S3x14x64) ![0, 0, 0] S1x14x64.size inb_S3x14x64_S1x14x64_0_0_0, p0⟩]) = RN x3 := by
  subst h2; subst h1; subst h0
  funext y
  refine View.read_writes_apply_of_pieces v f (RN x3) _ ?_ y (View.cover_of_tiledL _ ![1, 14, 64] (by sl_kernel_rfl) y)
  exact List.forall_mem_cons.2 ⟨fun x => RN_part x3 2 ![2, 0, 0] rfl inb_S3x14x64_S1x14x64_2_0_0 x, List.forall_mem_cons.2 ⟨fun x => RN_part x3 1 ![1, 0, 0] rfl inb_S3x14x64_S1x14x64_1_0_0 x, List.forall_mem_cons.2 ⟨fun x => RN_part x3 0 ![0, 0, 0] rfl inb_S3x14x64_S1x14x64_0_0_0 x, fun p h => absurd h List.not_mem_nil⟩⟩⟩

set_option maxHeartbeats 1000000 in
/-- The first point of a call quantises the new tokens. -/
theorem secQ_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_0 i)
    (x2 : Vec F S3x14x512 .bf16) (x3 : Vec F S3x14x64 .bf16) (y8 : Vec F S3x14x512 .fp8e4m3) (y9 : Vec F S3x14x4 .f32) (s4 : Vec F S3x14x512 .f32) (s5 : Vec F S3x14x64 .f32)
    (E : Set ℕ) (K : PUnit → sProp 𝕄) :
    iprop(owns (c : Thread nD τ) arg5 fullShare x2 ∗ owns (c : Thread nD τ) arg6 fullShare x3 ∗ owns (c : Thread nD τ) arg11 fullShare y8 ∗ owns (c : Thread nD τ) arg12 fullShare y9 ∗ owns (c : Thread nD τ) arg17 fullShare s4 ∗ owns (c : Thread nD τ) arg18 fullShare s5
        ∗ (iprop(owns (c : Thread nD τ) arg5 fullShare x2 ∗ owns (c : Thread nD τ) arg6 fullShare x3 ∗ owns (c : Thread nD τ) arg11 fullShare (NC x2) ∗ owns (c : Thread nD τ) arg12 fullShare (NS x2) ∗ owns (c : Thread nD τ) arg17 fullShare (LN x2) ∗ owns (c : Thread nD τ) arg18 fullShare (RN x3)) -∗ K ⟨⟩))
      ⊢ wp frame (wpE (defs₀ (F := F)) Variants.none c none) E (secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secQ
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f5, %hf5, H5⟩, ⟨%f6, %hf6, H6⟩, ⟨%f11, %hf11, H11⟩, ⟨%f12, %hf12, H12⟩, ⟨%f17, %hf17, H17⟩, ⟨%f18, %hf18, H18⟩, Hk⟩
  obtain rfl := harg5.eq_unread hf5; obtain rfl := harg6.eq_unread hf6; obtain rfl := harg11.eq_unread hf11; obtain rfl := harg12.eq_unread hf12; obtain rfl := harg17.eq_unread hf17; obtain rfl := harg18.eq_unread hf18
  sl_exec (disch := first | sl_exact hc)
  sl_step
  iapply Hk
  isplitl [H5]
  · iexists _; isplitr; swap; · iexact H5
    ipureintro; exact harg5.read_unread _
  isplitl [H6]
  · iexists _; isplitr; swap; · iexact H6
    ipureintro; exact harg6.read_unread _
  isplitl [H11]
  · iexists _; isplitr; swap; · iexact H11
    ipureintro; exact NC_writes _ _ x2 _ ((congrArg (fun u => (k0_pay1 (k0_pay98 u))) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (code_23 _)) _ ((congrArg (fun u => (k0_pay93 (k0_pay87 u) (k0_pay88 u) (k0_pay89) 23#32)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256))).trans (code_22 _)) _ ((congrArg (fun u => (k0_pay85 (k0_pay81 u) (k0_pay82 u))) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128))).trans (code_21 _)) _ ((congrArg (fun u => (k0_pay79 (k0_pay77 u) (Scalar.ofBits .f32 0xC3E00000#32) (Scalar.ofBits .f32 0x43E00000#32))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0))).trans (code_20 _)) _ ((congrArg (fun u => (k0_pay69 (k0_pay62 u) (k0_pay64 u) (k0_pay65 u))) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (code_13 _)) _ ((congrArg (fun u => (k0_pay60 (k0_pay55 u) (k0_pay58 u))) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256))).trans (code_12 _)) _ ((congrArg (fun u => (k0_pay51 (k0_pay46 u) (k0_pay47 u))) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128))).trans (code_11 _)) _ ((congrArg (fun u => (k0_pay44 (k0_pay38 u) (k0_pay39 u) (k0_pay40 u))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0))).trans (code_10 _)) _ ((congrArg (fun u => (k0_pay34 (k0_pay30 u))) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (code_03 _)) _ ((congrArg (fun u => (k0_pay28 (k0_pay22 u) (k0_pay23 u) (k0_pay24 u))) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256))).trans (code_02 _)) _ ((congrArg (fun u => (k0_pay20 (k0_pay15 u) (k0_pay16 u))) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128))).trans (code_01 _)) _ ((congrArg (fun u => (k0_pay13 (k0_pay12 u))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0))).trans (code_00 _))
  isplitl [H12]
  · iexists _; isplitr; swap; · iexact H12
    ipureintro; exact NS_writes _ _ x2 _ ((cong4 (fun u0 u1 u2 u3 => (k0_pay3 (k0_pay76 u0) (k0_pay83 (F := F) (k0_pay82 u1)) (k0_pay91 (k0_pay88 u2) (k0_pay89) 23#32) (k0_pay97 u3))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0)) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256)) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (scales_2 _ _ _ _)) _ ((cong4 (fun u0 u1 u2 u3 => (k0_pay71 (k0_pay42 (k0_pay39 u0) (k0_pay40 u0)) (k0_pay49 (k0_pay47 u1)) (k0_pay57 u2) (k0_pay64 u3) (k0_pay65 u3))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0)) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128)) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256)) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (scales_1 _ _ _ _)) _ ((cong4 (fun u0 u1 u2 u3 => (k0_pay36 (k0_pay11 u0) (k0_pay18 (F := F) (k0_pay17 u1)) (k0_pay26 (k0_pay23 u2) (k0_pay24 u2)) (k0_pay32 (k0_pay30 u3)))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0)) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128)) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256)) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (scales_0 _ _ _ _))
  isplitl [H17]
  · iexists _; isplitr; swap; · iexact H17
    ipureintro; exact LN_writes _ _ x2 _ ((congrArg (fun u => (k0_pay2 (k0_pay97 u) (k0_pay98 u))) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (back_23 _)) _ ((congrArg (fun u => (k0_pay94 (k0_pay87 u) (k0_pay88 u) (k0_pay89) 23#32)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256))).trans (back_22 _)) _ ((congrArg (fun u => (k0_pay86 (k0_pay81 u) (k0_pay82 u))) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128))).trans (back_21 _)) _ ((congrArg (fun u => (k0_pay80 (k0_pay76 u) (k0_pay77 u) (Scalar.ofBits .f32 0xC3E00000#32) (Scalar.ofBits .f32 0x43E00000#32))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0))).trans (back_20 _)) _ ((congrArg (fun u => (k0_pay70 (k0_pay62 u) (k0_pay64 u) (k0_pay65 u))) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (back_13 _)) _ ((congrArg (fun u => (k0_pay61 (k0_pay55 u) (k0_pay57 u) (k0_pay58 u))) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256))).trans (back_12 _)) _ ((congrArg (fun u => (k0_pay54 (k0_pay52 (k0_pay46 u) (k0_pay47 u)) (k0_pay53 (k0_pay47 u)))) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128))).trans (back_11 _)) _ ((congrArg (fun u => (k0_pay45 (k0_pay38 u) (k0_pay39 u) (k0_pay40 u))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0))).trans (back_10 _)) _ ((congrArg (fun u => (k0_pay35 (k0_pay32 (k0_pay30 u)) (k0_pay33 (k0_pay30 u)))) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (back_03 _)) _ ((congrArg (fun u => (k0_pay29 (k0_pay22 u) (k0_pay23 u) (k0_pay24 u))) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256))).trans (back_02 _)) _ ((congrArg (fun u => (k0_pay21 (k0_pay15 u) (k0_pay16 u) (k0_pay17 u))) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128))).trans (back_01 _)) _ ((congrArg (fun u => (k0_pay14 (k0_pay11 u) (k0_pay12 u))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0))).trans (back_00 _))
  iexists _; isplitr; swap; · iexact H18
  ipureintro; exact RN_writes _ _ x3 _ (congrArg k0_pay4 ((readAt_rect harg6 x3 _).trans (ld_chunkR x3 2 ![2, 0, 0] rfl inb_S3x14x64_S1x14x64_2_0_0))) _ (congrArg k0_pay4 ((readAt_rect harg6 x3 _).trans (ld_chunkR x3 1 ![1, 0, 0] rfl inb_S3x14x64_S1x14x64_1_0_0))) _ (congrArg k0_pay4 ((readAt_rect harg6 x3 _).trans (ld_chunkR x3 0 ![0, 0, 0] rfl inb_S3x14x64_S1x14x64_0_0_0)))

end Cert.Kernel.Run

end
-- ==== Proof.PBody.lean ====
/- What the whole body leaves at a grid point, section by section. -/
module

public import proofs.«01_k».proof.Proof.PTriplesI
public import proofs.«01_k».proof.Proof.PTriplesQ
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the kernel carries from point to point: the rotary queries, the weighted sum, the maximum, the sum, and the new latents and rotary keys. -/
structure St (F : FTy → Type) [FloatOps F] where
  qr : Vec F S288x64 .bf16
  acc : Vec F S288x512 .f32
  mx : Vec F S288x128 .f32
  sm : Vec F S288x128 .f32
  ln : Vec F S3x14x512 .f32
  rn : Vec F S3x14x64 .f32

/-- The state after a batch's first section, given the new latents and rotary keys. -/
def initSt (i : grid0.Coords) (x0 : Vec F S1x288x512 .bf16) (x1 : Vec F S1x3x64x96 .bf16) (s4 : Vec F S3x14x512 .f32) (s5 : Vec F S3x14x64 .f32) : St F :=
  ⟨QR x1, iA x0 x1 s4 s5 (i 0), iM x0 x1 s4 s5 (i 0), iL x0 x1 s4 s5 (i 0), s4, s5⟩

/-- The state after the section of the cache block. -/
def scoreSt (i : grid0.Coords) (v1 : Elt F .i32) (x0 : Vec F S1x288x512 .bf16) (x4 : Vec F S1x512x512 .fp8e4m3) (x5 : Vec F S1x4x512 .f32) (x6 : Vec F S1x64x512 .bf16) (st : St F) : St F :=
  if cond0_2 i v1 then ⟨st.qr, sA i v1 x0 st.qr x4 x5 x6 st.mx st.acc, sM i v1 x0 st.qr x4 x5 x6 st.mx, sL i v1 x0 st.qr x4 x5 x6 st.mx st.sm, st.ln, st.rn⟩ else st

/-- The state after the section of the new tokens. -/
def quantSt (i : grid0.Coords) (x2 : Vec F S3x14x512 .bf16) (x3 : Vec F S3x14x64 .bf16) (st : St F) : St F :=
  if cond0_0 i then ⟨st.qr, st.acc, st.mx, st.sm, LN x2, RN x3⟩ else st

/-- The state after a batch's first section, where it runs. -/
def startSt (i : grid0.Coords) (x0 : Vec F S1x288x512 .bf16) (x1 : Vec F S1x3x64x96 .bf16) (st : St F) : St F :=
  if cond0_1 i then initSt i x0 x1 st.ln st.rn else st

/-- The state after a point. -/
def stepSt (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (st : St F) : St F :=
  scoreSt i v1 x0 x4 x5 x6 (startSt i x0 x1 (quantSt i x2 x3 st))

/-- The body's memrefs at their contents. -/
def All (c : Dev nD) (arg3 : Memref sig .tc .vmem S1x288x512 .bf16) (arg4 : Memref sig .tc .vmem S1x3x64x96 .bf16) (arg5 : Memref sig .tc .vmem S3x14x512 .bf16) (arg6 : Memref sig .tc .vmem S3x14x64 .bf16) (arg7 : Memref sig .tc .vmem S1x512x512 .fp8e4m3) (arg8 : Memref sig .tc .vmem S1x4x512 .f32) (arg9 : Memref sig .tc .vmem S1x64x512 .bf16) (arg10 : Memref sig .tc .vmem S1x288x512 .bf16) (arg11 : Memref sig .tc .vmem S3x14x512 .fp8e4m3) (arg12 : Memref sig .tc .vmem S3x14x4 .f32) (arg13 : Memref sig .tc .vmem S288x64 .bf16) (arg14 : Memref sig .tc .vmem S288x512 .f32) (arg15 : Memref sig .tc .vmem S288x128 .f32) (arg16 : Memref sig .tc .vmem S288x128 .f32) (arg17 : Memref sig .tc .vmem S3x14x512 .f32) (arg18 : Memref sig .tc .vmem S3x14x64 .f32)  (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare st.qr ∗ owns (c : Thread nD τ) arg14 fullShare st.acc ∗ owns (c : Thread nD τ) arg15 fullShare st.mx ∗ owns (c : Thread nD τ) arg16 fullShare st.sm ∗ owns (c : Thread nD τ) arg17 fullShare st.ln ∗ owns (c : Thread nD τ) arg18 fullShare st.rn)

/-- The section of the new tokens. -/
theorem secQ_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 (if cond0_0 i then NC x2 else y8) (if cond0_0 i then NS x2 else y9) (quantSt i x2 x3 st)) -∗ K ⟨⟩))
      ⊢ wp frame (wpE (defs₀ (F := F)) Variants.none c none) E (secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_0 i
  · unfold All quantSt
    simp only [if_pos hc]
    iintro ⟨⟨H3, H4, H5, H6, H7, H8, H9, H10, H11, H12, H13, H14, H15, H16, H17, H18⟩, Hk⟩
    iapply (secQ_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x2 x3 y8 y9 (st.ln) (st.rn) E K)
    isplitl [H5]; · iexact H5
    isplitl [H6]; · iexact H6
    isplitl [H11]; · iexact H11
    isplitl [H12]; · iexact H12
    isplitl [H17]; · iexact H17
    isplitl [H18]; · iexact H18
    iintro ⟨H5, H6, H11, H12, H17, H18⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secQ (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secQ; exact dif_neg hc
    rw [e, wp_pure]
    unfold quantSt
    simp only [if_neg hc]
    iintro ⟨H, Hk⟩
    imodintro
    iapply Hk
    iexact H

/-- A batch's first section. -/
theorem secI_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 y8 y9 (startSt i x0 x1 st)) -∗ K ⟨⟩))
      ⊢ wp frame (wpE (defs₀ (F := F)) Variants.none c none) E (secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_1 i
  · unfold All startSt initSt
    simp only [if_pos hc]
    iintro ⟨⟨H3, H4, H5, H6, H7, H8, H9, H10, H11, H12, H13, H14, H15, H16, H17, H18⟩, Hk⟩
    iapply (secI_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 (st.qr) (st.acc) (st.mx) (st.sm) (st.ln) (st.rn) E K)
    isplitl [H3]; · iexact H3
    isplitl [H4]; · iexact H4
    isplitl [H13]; · iexact H13
    isplitl [H14]; · iexact H14
    isplitl [H15]; · iexact H15
    isplitl [H16]; · iexact H16
    isplitl [H17]; · iexact H17
    isplitl [H18]; · iexact H18
    iintro ⟨H3, H4, H13, H14, H15, H16, H17, H18⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secI (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secI; exact dif_neg hc
    rw [e, wp_pure]
    unfold startSt
    simp only [if_neg hc]
    iintro ⟨H, Hk⟩
    imodintro
    iapply Hk
    iexact H

/-- The section of the cache block. -/
theorem secS_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 y8 y9 (scoreSt i v1 x0 x4 x5 x6 st)) -∗ K ⟨⟩))
      ⊢ wp frame (wpE (defs₀ (F := F)) Variants.none c none) E (secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1) K := by
  by_cases hc : cond0_2 i v1
  · unfold All scoreSt
    simp only [if_pos hc]
    iintro ⟨⟨H3, H4, H5, H6, H7, H8, H9, H10, H11, H12, H13, H14, H15, H16, H17, H18⟩, Hk⟩
    iapply (secS_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 hc x0 x4 x5 x6 (st.qr) (st.acc) (st.mx) (st.sm) E K)
    isplitl [H3]; · iexact H3
    isplitl [H7]; · iexact H7
    isplitl [H8]; · iexact H8
    isplitl [H9]; · iexact H9
    isplitl [H13]; · iexact H13
    isplitl [H14]; · iexact H14
    isplitl [H15]; · iexact H15
    isplitl [H16]; · iexact H16
    iintro ⟨H3, H7, H8, H9, H13, H14, H15, H16⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 = pure ⟨⟩ := by unfold secS; exact if_neg hc
    rw [e, wp_pure]
    unfold scoreSt
    simp only [if_neg hc]
    iintro ⟨H, Hk⟩
    imodintro
    iapply Hk
    iexact H

/-- A batch's last section. -/
theorem secF_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 (if cond0_3 i then fO st.acc st.sm else y7) y8 y9 st) -∗ K ⟨⟩))
      ⊢ wp frame (wpE (defs₀ (F := F)) Variants.none c none) E (secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_3 i
  · unfold All
    simp only [if_pos hc]
    iintro ⟨⟨H3, H4, H5, H6, H7, H8, H9, H10, H11, H12, H13, H14, H15, H16, H17, H18⟩, Hk⟩
    iapply (secF_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc y7 (st.acc) (st.sm) E K)
    isplitl [H10]; · iexact H10
    isplitl [H14]; · iexact H14
    isplitl [H16]; · iexact H16
    iintro ⟨H10, H14, H16⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secF (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secF; exact dif_neg hc
    rw [e, wp_pure]
    simp only [if_neg hc]
    iintro ⟨H, Hk⟩
    imodintro
    iapply Hk
    iexact H

/-- The body after the load of the batch's length. -/
theorem rest_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st
        ∗ (iprop(All c arg3 arg4 arg5 arg6 arg7 arg8 arg9 arg10 arg11 arg12 arg13 arg14 arg15 arg16 arg17 arg18 x0 x1 x2 x3 x4 x5 x6 (if cond0_3 i then fO (stepSt i v1 x0 x1 x2 x3 x4 x5 x6 st).acc (stepSt i v1 x0 x1 x2 x3 x4 x5 x6 st).sm else y7) (if cond0_0 i then NC x2 else y8) (if cond0_0 i then NS x2 else y9) (stepSt i v1 x0 x1 x2 x3 x4 x5 x6 st)) -∗ K ⟨⟩))
      ⊢ wp frame (wpE (defs₀ (F := F)) Variants.none c none) E (do
        secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1
        secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [wp_bind, wp_bind, wp_bind]
  iintro ⟨H, Hk⟩
  iapply secQ_all
  isplitl [H]; · iexact H
  iintro H
  iapply secI_all
  isplitl [H]; · iexact H
  iintro H
  iapply secS_all
  isplitl [H]; · iexact H
  iintro H
  iapply secF_all
  isplitl [H]; · iexact H
  iintro H
  iapply Hk
  iexact H

end Cert.Kernel.Run

end
-- ==== Proof.PRun.lean ====
/- The run of the whole program, with what every array holds at the end. -/
module

public import proofs.«01_k».proof.Proof.PBody
public import proofs.«01_k».proof.Proof.PBase
public import Idealize.ShloMosaic.Lib.Pipeline.TableIdle
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The word of the table that a point reads: the number of cached tokens of its batch. -/
def lenW (i : grid0.Coords) (f : tbM0_0.view.ty.Contents (Elt F)) : Elt F .i32 :=
  tbM0_0.view.readAt (Elt F) (Rect.unit (s := S14) (k0_off1 i) S1.size (k0_off1_inb i)).toLoadRect f (Shape.Idx.first (numel1_S1.symm ▸ Nat.one_pos))

/-- The whole body, the table read first. -/
theorem body_all (c : Dev nD) (i : grid0.Coords) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (ft : TbBuf0 (F := F) c tbM0_0)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(tbPt0 c tbM0_0 ft ∗ All c arg3 arg4 arg5 arg6 arg7 arg8 arg9 arg10 arg11 arg12 arg13 arg14 arg15 arg16 arg17 arg18 x0 x1 x2 x3 x4 x5 x6 y7 y8 y9 st
        ∗ (iprop(tbPt0 c tbM0_0 ft ∗ All c arg3 arg4 arg5 arg6 arg7 arg8 arg9 arg10 arg11 arg12 arg13 arg14 arg15 arg16 arg17 arg18 x0 x1 x2 x3 x4 x5 x6 (if cond0_3 i then fO (stepSt i (lenW i ft) x0 x1 x2 x3 x4 x5 x6 st).acc (stepSt i (lenW i ft) x0 x1 x2 x3 x4 x5 x6 st).sm else y7) (if cond0_0 i then NC x2 else y8) (if cond0_0 i then NS x2 else y9) (stepSt i (lenW i ft) x0 x1 x2 x3 x4 x5 x6 st)) -∗ K ⟨⟩))
      ⊢ wp frame (wpE (defs₀ (F := F)) Variants.none c none) E (cc0_mla_decode i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq, wp_bind]
  iintro ⟨HT, H, Hk⟩
  unfold smemLoad smemLoadElt
  sl_step
  sl_step
  iapply (rest_all c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lenW i ft) x0 x1 x2 x3 x4 x5 x6 y7 y8 y9 st E K)
  isplitl [H]; · iexact H
  iintro H
  iapply Hk
  isplitl [HT]; · iexact HT
  iexact H

variable (m : (ℓ : Loc nD τ sig) → Buf (Elt F) ℓ) (ρ : Dev nD → PrngReg)

/-- The block of window 0 at a point, at its literal shape. -/
abbrev X0 (hO : Ok m) (c : Dev nD) (t : Fin (cfgM m hO).N) : Vec F S1x288x512 .bf16 := iblk m hO c 0 t
/-- The block of window 1 at a point, at its literal shape. -/
abbrev X1 (hO : Ok m) (c : Dev nD) (t : Fin (cfgM m hO).N) : Vec F S1x3x64x96 .bf16 := iblk m hO c 1 t
/-- The block of window 2 at a point, at its literal shape. -/
abbrev X2 (hO : Ok m) (c : Dev nD) (t : Fin (cfgM m hO).N) : Vec F S3x14x512 .bf16 := iblk m hO c 2 t
/-- The block of window 3 at a point, at its literal shape. -/
abbrev X3 (hO : Ok m) (c : Dev nD) (t : Fin (cfgM m hO).N) : Vec F S3x14x64 .bf16 := iblk m hO c 3 t
/-- The block of window 4 at a point, at its literal shape. -/
abbrev X4 (hO : Ok m) (c : Dev nD) (t : Fin (cfgM m hO).N) : Vec F S1x512x512 .fp8e4m3 := iblk m hO c 4 t
/-- The block of window 5 at a point, at its literal shape. -/
abbrev X5 (hO : Ok m) (c : Dev nD) (t : Fin (cfgM m hO).N) : Vec F S1x4x512 .f32 := iblk m hO c 5 t
/-- The block of window 6 at a point, at its literal shape. -/
abbrev X6 (hO : Ok m) (c : Dev nD) (t : Fin (cfgM m hO).N) : Vec F S1x64x512 .bf16 := iblk m hO c 6 t
/-- The table's contents. -/
abbrev tab : tbM0_0.view.ty.Contents (Elt F) := tbl m 0

/-- What a point starts from if it is the call's first. -/
def firstSt (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) : St F :=
  scoreSt i v1 x0 x4 x5 x6 (initSt i x0 x1 (LN x2) (RN x3))

/-- At a point that starts the call and a batch nothing of the state before is left. -/
theorem stepSt_first (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (st : St F) (h0 : cond0_0 i) (h1 : cond0_1 i) :
    stepSt i v1 x0 x1 x2 x3 x4 x5 x6 st = firstSt i v1 x0 x1 x2 x3 x4 x5 x6 := by
  unfold stepSt firstSt quantSt startSt; rw [if_pos h0, if_pos h1]

/-- The carried state after each point. -/
def stAt (hO : Ok m) (c : Dev nD) : (n : ℕ) → n < (cfgM m hO).N → St F
  | 0, h => firstSt (grid0.coords ⟨0, h⟩) (lenW (grid0.coords ⟨0, h⟩) (tab m)) (X0 m hO c ⟨0, h⟩) (X1 m hO c ⟨0, h⟩) (X2 m hO c ⟨0, h⟩) (X3 m hO c ⟨0, h⟩) (X4 m hO c ⟨0, h⟩) (X5 m hO c ⟨0, h⟩) (X6 m hO c ⟨0, h⟩)
  | n + 1, h => stepSt (grid0.coords ⟨n + 1, h⟩) (lenW (grid0.coords ⟨n + 1, h⟩) (tab m)) (X0 m hO c ⟨n + 1, h⟩) (X1 m hO c ⟨n + 1, h⟩) (X2 m hO c ⟨n + 1, h⟩) (X3 m hO c ⟨n + 1, h⟩) (X4 m hO c ⟨n + 1, h⟩) (X5 m hO c ⟨n + 1, h⟩) (X6 m hO c ⟨n + 1, h⟩) (stAt hO c n (Nat.lt_of_succ_lt h))

/-- The region's invariant: before the first point every scratch at anything, afterwards at the carried state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (stAt m hO c n hn).qr ∗ owns (c : Thread nD τ) scM0_1 fullShare (stAt m hO c n hn).acc ∗ owns (c : Thread nD τ) scM0_2 fullShare (stAt m hO c n hn).mx ∗ owns (c : Thread nD τ) scM0_3 fullShare (stAt m hO c n hn).sm ∗ owns (c : Thread nD τ) scM0_4 fullShare (stAt m hO c n hn).ln ∗ owns (c : Thread nD τ) scM0_5 fullShare (stAt m hO c n hn).rn) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (stAt m hO c n hn).qr ∗ owns (c : Thread nD τ) scM0_1 fullShare (stAt m hO c n hn).acc ∗ owns (c : Thread nD τ) scM0_2 fullShare (stAt m hO c n hn).mx ∗ owns (c : Thread nD τ) scM0_3 fullShare (stAt m hO c n hn).sm ∗ owns (c : Thread nD τ) scM0_4 fullShare (stAt m hO c n hn).ln ∗ owns (c : Thread nD τ) scM0_5 fullShare (stAt m hO c n hn).rn) ∗ (∃ r, prngReg c r)) ∗ Pipeline.ΦT pre0 (tbl m) c) := rfl

theorem N_pos (hO : Ok m) : 0 < (cfgM m hO).N := lt_of_lt_of_eq (by norm_num) (show 168 = (cfgM m hO).N from N_0.symm)

/-- The proof data: every input's buffer at its block, the output block at the weighted sum over the sum of the state, the codes and the scales at the first point's. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => fO (stAt m hO c t.val t.isLt).acc (stAt m hO c t.val t.isLt).sm
    | ⟨8, _⟩ => NC (X2 m hO c ⟨0, N_pos m hO⟩)
    | ⟨9, _⟩ => NS (X2 m hO c ⟨0, N_pos m hO⟩)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

/-- What window 7 is handed with, at its literal shape. -/
abbrev Y7 (hO : Ok m) (c : Dev nD) (t : Fin (cfgM m hO).N) (d : ((cfgM m hO).win 7).block.Idx → Elt F ((cfgM m hO).win 7).elt) : Vec F S1x288x512 .bf16 := (dats m hO 0 c).before 7 t d
/-- What window 8 is handed with, at its literal shape. -/
abbrev Y8 (hO : Ok m) (c : Dev nD) (t : Fin (cfgM m hO).N) (d : ((cfgM m hO).win 8).block.Idx → Elt F ((cfgM m hO).win 8).elt) : Vec F S3x14x512 .fp8e4m3 := (dats m hO 0 c).before 8 t d
/-- What window 9 is handed with, at its literal shape. -/
abbrev Y9 (hO : Ok m) (c : Dev nD) (t : Fin (cfgM m hO).N) (d : ((cfgM m hO).win 9).block.Idx → Elt F ((cfgM m hO).win 9).elt) : Vec F S3x14x4 .f32 := (dats m hO 0 c).before 9 t d

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = fO (stAt m hO c t.val t.isLt).acc (stAt m hO c t.val t.isLt).sm := by dsimp only [dats]; try rfl
theorem after0_8 (hO : Ok m) (c : Dev nD) (t : Fin (cfgM m hO).N) : (dats m hO 0 c).after 8 t = NC (X2 m hO c ⟨0, N_pos m hO⟩) := by dsimp only [dats]; try rfl
theorem after0_9 (hO : Ok m) (c : Dev nD) (t : Fin (cfgM m hO).N) : (dats m hO 0 c).after 9 t = NS (X2 m hO c ⟨0, N_pos m hO⟩) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

theorem idle0_8 (hO : Ok m) (t : Fin (cfgM m hO).N) : (cfgM m hO).idle 8 ((cfgM m hO).grid.coords t) = !decide (t.val % 168 = 0) := by
  show (!(k0_cond1 (grid0.coords t) == 1#1)) = _
  have h := hcond0_0 t
  by_cases e : t.val % 168 = 0
  · rw [show k0_cond1 (grid0.coords t) = 1#1 from h.2 e]; simp [e]
  · have e' : ¬ k0_cond1 (grid0.coords t) = 1#1 := fun x => e (h.1 x)
    simp [e, e']

theorem fresh0_8 (hO : Ok m) (n : ℕ) (hn : n ≤ (cfgM m hO).N) : (cfgM m hO).fresh 8 n = decide (n = 0 ∨ n = 168) := by
  refine Pipeline.Cfg.fresh_tab (cfgM m hO) 8 (fun n => decide (n = 0 ∨ n = 168)) rfl (fun t => ?_) n hn
  have hN : t.val < 168 := lt_of_lt_of_eq t.isLt (show (cfgM m hO).N = 168 from N_0)
  have hf : ((cfgM m hO).win 8).flush t = decide (t.val % 168 = 167) := by
    rw [Bool.eq_iff_iff, flush0_8]; simp
  rw [hf, idle0_8, Bool.eq_iff_iff]
  simp only [decide_eq_true_eq, Bool.or_eq_true, Bool.and_eq_true, Bool.not_eq_true', decide_eq_false_iff_not]
  omega

theorem before0_8 (hO : Ok m) (c : Dev nD) (t : Fin (cfgM m hO).N) (ht : t.val ≠ 0) (d) : Y8 m hO c t d = NC (X2 m hO c ⟨0, N_pos m hO⟩) := by
  have hN : t.val < 168 := lt_of_lt_of_eq t.isLt (show (cfgM m hO).N = 168 from N_0)
  show (dats m hO 0 c).before 8 t d = _
  rw [(dats m hO 0 c).before_out_traj 8 rfl (fun _ _ => rfl) (fun t _ _ _ => by rw [after0_8, after0_8]) t.val t rfl d, fresh0_8 m hO _ (le_of_lt t.isLt), if_neg (by simp; omega), after0_8]

theorem leaves0_8 (hO : Ok m) (c : Dev nD) (t : Fin (cfgM m hO).N) (d) :
    owns (c : Thread nD τ) (ms0_8 m hO t) fullShare (if cond0_0 (grid0.coords t) then NC (X2 m hO c t) else Y8 m hO c t d) ⊢ (dats m hO 0 c).leavesExact 8 t := by
  have hN : t.val < 168 := lt_of_lt_of_eq t.isLt (show (cfgM m hO).N = 168 from N_0)
  by_cases h : t.val = 0
  · have h0 : t.val % 168 = 0 := by omega
    rw [if_pos ((hcond0_0 t).2 h0), show (dats m hO 0 c).leavesExact 8 t = owns (c : Thread nD τ) (ms0_8 m hO t) fullShare ((dats m hO 0 c).after 8 t) from by
      unfold Dat.leavesExact; rw [idle0_8 m hO t]; simp only [h0]; rfl, after0_8]
    have e : t = ⟨0, N_pos m hO⟩ := Fin.ext h
    rw [← e]
  · have h0 : ¬ t.val % 168 = 0 := by omega
    rw [if_neg (fun x => h0 ((hcond0_0 t).1 x))]
    by_cases h2 : t.val % 168 = 167
    · rw [show (dats m hO 0 c).leavesExact 8 t = owns (c : Thread nD τ) (ms0_8 m hO t) fullShare ((dats m hO 0 c).after 8 t) from by
        unfold Dat.leavesExact; rw [idle0_8 m hO t, (flush0_8 (adm m hO) t).2 h2]; simp only [h0]; rfl, after0_8, before0_8 m hO c t h]
    · rw [Dat.leavesExact_idle _ 8 t (by rw [idle0_8]; simp [h0]) (by rw [← Bool.not_eq_true]; exact fun x => h2 ((flush0_8 (adm m hO) t).1 x))]
      iintro H; iexists d; iexact H

theorem idle0_9 (hO : Ok m) (t : Fin (cfgM m hO).N) : (cfgM m hO).idle 9 ((cfgM m hO).grid.coords t) = !decide (t.val % 168 = 0) := by
  show (!(k0_cond1 (grid0.coords t) == 1#1)) = _
  have h := hcond0_0 t
  by_cases e : t.val % 168 = 0
  · rw [show k0_cond1 (grid0.coords t) = 1#1 from h.2 e]; simp [e]
  · have e' : ¬ k0_cond1 (grid0.coords t) = 1#1 := fun x => e (h.1 x)
    simp [e, e']

theorem fresh0_9 (hO : Ok m) (n : ℕ) (hn : n ≤ (cfgM m hO).N) : (cfgM m hO).fresh 9 n = decide (n = 0 ∨ n = 168) := by
  refine Pipeline.Cfg.fresh_tab (cfgM m hO) 9 (fun n => decide (n = 0 ∨ n = 168)) rfl (fun t => ?_) n hn
  have hN : t.val < 168 := lt_of_lt_of_eq t.isLt (show (cfgM m hO).N = 168 from N_0)
  have hf : ((cfgM m hO).win 9).flush t = decide (t.val % 168 = 167) := by
    rw [Bool.eq_iff_iff, flush0_9]; simp
  rw [hf, idle0_9, Bool.eq_iff_iff]
  simp only [decide_eq_true_eq, Bool.or_eq_true, Bool.and_eq_true, Bool.not_eq_true', decide_eq_false_iff_not]
  omega

theorem before0_9 (hO : Ok m) (c : Dev nD) (t : Fin (cfgM m hO).N) (ht : t.val ≠ 0) (d) : Y9 m hO c t d = NS (X2 m hO c ⟨0, N_pos m hO⟩) := by
  have hN : t.val < 168 := lt_of_lt_of_eq t.isLt (show (cfgM m hO).N = 168 from N_0)
  show (dats m hO 0 c).before 9 t d = _
  rw [(dats m hO 0 c).before_out_traj 9 rfl (fun _ _ => rfl) (fun t _ _ _ => by rw [after0_9, after0_9]) t.val t rfl d, fresh0_9 m hO _ (le_of_lt t.isLt), if_neg (by simp; omega), after0_9]

theorem leaves0_9 (hO : Ok m) (c : Dev nD) (t : Fin (cfgM m hO).N) (d) :
    owns (c : Thread nD τ) (ms0_9 m hO t) fullShare (if cond0_0 (grid0.coords t) then NS (X2 m hO c t) else Y9 m hO c t d) ⊢ (dats m hO 0 c).leavesExact 9 t := by
  have hN : t.val < 168 := lt_of_lt_of_eq t.isLt (show (cfgM m hO).N = 168 from N_0)
  by_cases h : t.val = 0
  · have h0 : t.val % 168 = 0 := by omega
    rw [if_pos ((hcond0_0 t).2 h0), show (dats m hO 0 c).leavesExact 9 t = owns (c : Thread nD τ) (ms0_9 m hO t) fullShare ((dats m hO 0 c).after 9 t) from by
      unfold Dat.leavesExact; rw [idle0_9 m hO t]; simp only [h0]; rfl, after0_9]
    have e : t = ⟨0, N_pos m hO⟩ := Fin.ext h
    rw [← e]
  · have h0 : ¬ t.val % 168 = 0 := by omega
    rw [if_neg (fun x => h0 ((hcond0_0 t).1 x))]
    by_cases h2 : t.val % 168 = 167
    · rw [show (dats m hO 0 c).leavesExact 9 t = owns (c : Thread nD τ) (ms0_9 m hO t) fullShare ((dats m hO 0 c).after 9 t) from by
        unfold Dat.leavesExact; rw [idle0_9 m hO t, (flush0_9 (adm m hO) t).2 h2]; simp only [h0]; rfl, after0_9, before0_9 m hO c t h]
    · rw [Dat.leavesExact_idle _ 9 t (by rw [idle0_9]; simp [h0]) (by rw [← Bool.not_eq_true]; exact fun x => h2 ((flush0_9 (adm m hO) t).1 x))]
      iintro H; iexists d; iexact H

theorem leaves0_7 (hO : Ok m) (c : Dev nD) (t : Fin (cfgM m hO).N) (d) :
    owns (c : Thread nD τ) (ms0_7 m hO t) fullShare (if cond0_3 (grid0.coords t) then fO (stAt m hO c t.val t.isLt).acc (stAt m hO c t.val t.isLt).sm else Y7 m hO c t d) ⊢ (dats m hO 0 c).leavesExact 7 t := by
  have hi : (cfgM m hO).idle 7 ((cfgM m hO).grid.coords t) = !(k0_cond4 (grid0.coords t) == 1#1) := rfl
  by_cases h : cond0_3 (grid0.coords t)
  · rw [if_pos h, show (dats m hO 0 c).leavesExact 7 t = owns (c : Thread nD τ) (ms0_7 m hO t) fullShare ((dats m hO 0 c).after 7 t) from by
      unfold Dat.leavesExact; rw [hi, show k0_cond4 (grid0.coords t) = 1#1 from h]; rfl, after0_7]
  · rw [if_neg h, Dat.leavesExact_idle _ 7 t (by rw [hi]; simp [show ¬ k0_cond4 (grid0.coords t) = 1#1 from h]) (by rw [← Bool.not_eq_true]; exact fun x => h ((hcond0_3 t).2 ((flush0_7 (adm m hO) t).1 x)))]
    iintro H; iexists d; iexact H

/-- What the body obligation hands the body at a point, the windows one by one. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- What it takes back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t)

theorem stAt_zero (hO : Ok m) (c : Dev nD) (t : Fin (cfgM m hO).N) (hz : t.val = 0) (st : St F) :
    stepSt (grid0.coords t) (lenW (grid0.coords t) (tab m)) (X0 m hO c t) (X1 m hO c t) (X2 m hO c t) (X3 m hO c t) (X4 m hO c t) (X5 m hO c t) (X6 m hO c t) st = stAt m hO c t.val t.isLt := by
  rw [stepSt_first _ _ _ _ _ _ _ _ _ _ ((hcond0_0 t).2 (by omega)) ((hcond0_1 t).2 (by omega))]
  obtain ⟨n, hn⟩ := t
  subst hz
  rfl

theorem stAt_pos (hO : Ok m) (c : Dev nD) (t : Fin (cfgM m hO).N) (hz : t.val ≠ 0) :
    stepSt (grid0.coords t) (lenW (grid0.coords t) (tab m)) (X0 m hO c t) (X1 m hO c t) (X2 m hO c t) (X3 m hO c t) (X4 m hO c t) (X5 m hO c t) (X6 m hO c t) (stAt m hO c (t.val - 1) (by omega)) = stAt m hO c t.val t.isLt := by
  obtain ⟨n, hn⟩ := t
  cases n with
  | zero => exact absurd rfl hz
  | succ n => rfl

theorem PhiS_pos (hO : Ok m) (c : Dev nD) (n : ℕ) (h : n ≤ (cfgM m hO).N) (hz : n ≠ 0) :
    PhiS m hO c n h = iprop(iprop(iprop(owns (c : Thread nD τ) scM0_0 fullShare (stAt m hO c (n - 1) (by omega)).qr ∗ owns (c : Thread nD τ) scM0_1 fullShare (stAt m hO c (n - 1) (by omega)).acc ∗ owns (c : Thread nD τ) scM0_2 fullShare (stAt m hO c (n - 1) (by omega)).mx ∗ owns (c : Thread nD τ) scM0_3 fullShare (stAt m hO c (n - 1) (by omega)).sm ∗ owns (c : Thread nD τ) scM0_4 fullShare (stAt m hO c (n - 1) (by omega)).ln ∗ owns (c : Thread nD τ) scM0_5 fullShare (stAt m hO c (n - 1) (by omega)).rn) ∗ (∃ r, prngReg c r)) ∗ Pipeline.ΦT pre0 (tbl m) c) := by
  cases n with
  | zero => exact absurd rfl hz
  | succ n => rfl

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  by_cases hz : t.val = 0
  · rw [PhiS_castSucc m hO c t, PhiS_zero m hO c _ _ hz, PhiT0_eq, PhiA0_eq]
    iintro ⟨⟨⟨⟨⟨%s0, HS0⟩, ⟨%s1, HS1⟩, ⟨%s2, HS2⟩, ⟨%s3, HS3⟩, ⟨%s4, HS4⟩, ⟨%s5, HS5⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_all c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (tab m) (X0 m hO c t) (X1 m hO c t) (X2 m hO c t) (X3 m hO c t) (X4 m hO c t) (X5 m hO c t) (X6 m hO c t) (Y7 m hO c t d7) (Y8 m hO c t d8) (Y9 m hO c t d9) ⟨s0, s1, s2, s3, s4, s5⟩ Set.univ _)
    isplitl [HT0]; · iexact HT0
    isplitl [H0 H1 H2 H3 H4 H5 H6 H7 H8 H9 HS0 HS1 HS2 HS3 HS4 HS5]
    · unfold All
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iexact HS5
    rw [stAt_zero m hO c t hz]
    unfold All
    iintro ⟨HT0, H0, H1, H2, H3, H4, H5, H6, H7, H8, H9, HS0, HS1, HS2, HS3, HS4, HS5⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m hO c t d7); iexact H7
    isplitl [H8]; · iapply (leaves0_8 m hO c t d8); iexact H8
    iapply (leaves0_9 m hO c t d9); iexact H9
  · rw [PhiS_castSucc m hO c t, PhiS_pos m hO c _ _ hz, PhiT0_eq]
    iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_all c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (tab m) (X0 m hO c t) (X1 m hO c t) (X2 m hO c t) (X3 m hO c t) (X4 m hO c t) (X5 m hO c t) (X6 m hO c t) (Y7 m hO c t d7) (Y8 m hO c t d8) (Y9 m hO c t d9) (stAt m hO c (t.val - 1) (by omega)) Set.univ _)
    isplitl [HT0]; · iexact HT0
    isplitl [H0 H1 H2 H3 H4 H5 H6 H7 H8 H9 HS0 HS1 HS2 HS3 HS4 HS5]
    · unfold All
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iexact HS5
    rw [stAt_pos m hO c t hz]
    unfold All
    iintro ⟨HT0, H0, H1, H2, H3, H4, H5, H6, H7, H8, H9, HS0, HS1, HS2, HS3, HS4, HS5⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m hO c t d7); iexact H7
    isplitl [H8]; · iapply (leaves0_8 m hO c t d8); iexact H8
    iapply (leaves0_9 m hO c t d9); iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4, HS5⟩, Hg⟩, -⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 168 := N_0; omega)

-- the launch theorem's implicit arguments are found by unifying its conclusion with this one, which takes unfolding plain
-- definitions in a metavariable's type
set_option backward.isDefEq.respectTransparency.types false in
set_option maxHeartbeats 1600000 in
/-- The launch: every execution ends, with every array at what the proof data say, every other buffer at what the host's lines after the call leave, and no semaphore counter raised. -/
theorem run_main (hO : Ok m) : θ_run defs (onTc (τ := τ) (main (F := F))) (s₀ m ρ)
    (fun r => Pipeline.FramePost (Pipeline.pin pcfgs fun _ => adm m hO) (dats m hO) 0 (Pipeline.afterTail pcfgs (fun _ => adm m hO) (dats m hO) 0 (V0 m) [hostOps1]) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

end Cert.Kernel.Run

end
-- ==== Proof.PFrame.lean ====
/- The frame of the program, and what its results hold at the end. -/
module

public import proofs.«01_k».proof.Proof.PRun
public import Idealize.ShloMosaic.Lib.Pipeline.ValueKit
public import Idealize.ShloMosaic.Lib.StableHlo.RunRead
public import Idealize.ShloMosaic.Lib.VecWindow
public import Idealize.ShloMosaic.Lib.WholeRead

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arguments end as they were launched. -/
def Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem kept (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r) (c : Dev nD) : Kept m r.2 c :=
  ⟨((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c),
    ((h c).1 4).trans (((dats m hO 0 c).arrAt_in 4 rfl _).trans ((A_eq m hO c 4).trans (V_main_arg4 m c))),
    ((h c).2 main_arg5 (by decide : main_arg5 ∈ Pipeline.restRefs sig spec0)).trans (W_main_arg5 m hO (dats m hO) c),
    ((h c).2 main_arg6 (by decide : main_arg6 ∈ Pipeline.restRefs sig spec0)).trans (W_main_arg6 m hO (dats m hO) c),
    ((h c).2 main_arg7 (by decide : main_arg7 ∈ Pipeline.restRefs sig spec0)).trans (W_main_arg7 m hO (dats m hO) c)⟩

/-- Every execution ends, the arguments as launched and every counter at zero. -/
theorem frame_main (hO : Ok m) : θ_run defs (onTc (τ := τ) (main (F := F))) (s₀ m ρ) (fun r => (∀ c : Dev nD, Kept m r.2 c) ∧ r.2.sem = fun _ => 0) :=
  (θ_run defs _ _).mono (fun r h => ⟨fun c => kept m hO r h.1 c, h.2⟩) (run_main m ρ hO)

end Cert.Kernel.Run

end
-- ==== Proof.KBase.lean ====
module

public import proofs.«01_k».proof.Proof.Gen.KernelIdeal.Launch
public import proofs.«01_k».proof.Proof.Gen.KernelIdeal.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

/-! # The pipeline of the idealized kernel: schedule, entry contents, staging and scratch buffers -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%0)) is fetched at the points ≡ 0 (mod 12), at any contents of the tables (its index map reads none). -/
theorem fetch0_0 (a : (pcfg0 (F := F)).Adm) : ∀ t : Fin (cfg0 a).N, ((cfg0 a).win 0).fetch t = true ↔ t.val % 12 = 0 :=
  (fun t => Pipeline.Window.fetchOf_reads cc0_transform_0 reads0_0 hreads0_0 0 (by decide) (by decide) (Pipeline.Window.sep_of_coord cc0_transform_0 0 0 (fun _ => rfl) (by decide)) (P := 12) (by decide) t : ∀ t : Fin grid0.N, Pipeline.Window.fetchOf grid0 false cc0_transform_0 t = true ↔ t.val % 12 = 0)
/-- Window 1 (operand 2 (%1)) is fetched at the points ≡ 0 (mod 12), at any contents of the tables (its index map reads none). -/
theorem fetch0_1 (a : (pcfg0 (F := F)).Adm) : ∀ t : Fin (cfg0 a).N, ((cfg0 a).win 1).fetch t = true ↔ t.val % 12 = 0 :=
  (fun t => Pipeline.Window.fetchOf_reads cc0_transform_1 reads0_1 hreads0_1 0 (by decide) (by decide) (Pipeline.Window.sep_of_coord cc0_transform_1 0 0 (fun _ => rfl) (by decide)) (P := 12) (by decide) t : ∀ t : Fin grid0.N, Pipeline.Window.fetchOf grid0 false cc0_transform_1 t = true ↔ t.val % 12 = 0)
/-- Window 2 (operand 3 (%2)) is fetched at the first point only, at any contents of the tables (its index map reads none). -/
theorem fetch0_2 (a : (pcfg0 (F := F)).Adm) : ∀ t : Fin (cfg0 a).N, ((cfg0 a).win 2).fetch t = true ↔ t.val % 168 = 0 :=
  (fun t => Pipeline.Window.fetchOf_const cc0_transform_2 (fun _ _ => rfl) (n := 168) (by decide) t : ∀ t : Fin grid0.N, Pipeline.Window.fetchOf grid0 false cc0_transform_2 t = true ↔ t.val % 168 = 0)
/-- Window 3 (operand 4 (%3)) is fetched at the first point only, at any contents of the tables (its index map reads none). -/
theorem fetch0_3 (a : (pcfg0 (F := F)).Adm) : ∀ t : Fin (cfg0 a).N, ((cfg0 a).win 3).fetch t = true ↔ t.val % 168 = 0 :=
  (fun t => Pipeline.Window.fetchOf_const cc0_transform_3 (fun _ _ => rfl) (n := 168) (by decide) t : ∀ t : Fin grid0.N, Pipeline.Window.fetchOf grid0 false cc0_transform_3 t = true ↔ t.val % 168 = 0)
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
/-- Window 7 (result 0 (%6#0)) is written back at the points ≡ 11 (mod 12), at any contents of the tables (its index map reads none). -/
theorem flush0_7 (a : (pcfg0 (F := F)).Adm) : ∀ t : Fin (cfg0 a).N, ((cfg0 a).win 7).flush t = true ↔ t.val % 12 = 11 :=
  (fun t => Pipeline.Window.flushOf_reads cc0_transform_7 reads0_7 hreads0_7 0 (by decide) (by decide) (Pipeline.Window.sep_of_coord cc0_transform_7 0 0 (fun _ => rfl) (by decide)) (P := 12) (m := 11) (by decide) rfl t : ∀ t : Fin grid0.N, Pipeline.Window.flushOf grid0 true cc0_transform_7 t = true ↔ t.val % 12 = 11)
/-- Window 8 (result 1 (%6#1)) is written back at the last point only, at any contents of the tables (its index map reads none). -/
theorem flush0_8 (a : (pcfg0 (F := F)).Adm) : ∀ t : Fin (cfg0 a).N, ((cfg0 a).win 8).flush t = true ↔ t.val % 168 = 167 :=
  (fun t => Pipeline.Window.flushOf_const cc0_transform_8 (fun _ _ => rfl) (n := 168) (by decide) rfl t : ∀ t : Fin grid0.N, Pipeline.Window.flushOf grid0 true cc0_transform_8 t = true ↔ t.val % 168 = 167)
/-- Window 9 (result 2 (%6#2)) is written back at the last point only, at any contents of the tables (its index map reads none). -/
theorem flush0_9 (a : (pcfg0 (F := F)).Adm) : ∀ t : Fin (cfg0 a).N, ((cfg0 a).win 9).flush t = true ↔ t.val % 168 = 167 :=
  (fun t => Pipeline.Window.flushOf_const cc0_transform_9 (fun _ _ => rfl) (n := 168) (by decide) rfl t : ∀ t : Fin grid0.N, Pipeline.Window.flushOf grid0 true cc0_transform_9 t = true ↔ t.val % 168 = 167)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_mla_decode (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S14 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- No host operation after the region writes `main_arg0`: it ends as launched. -/
theorem W_main_arg0 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg2 = m ((c : Thread nD τ).loc main_arg2) := by
  unfold Pipeline.afterTail
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg3 = m ((c : Thread nD τ).loc main_arg3) := by
  unfold Pipeline.afterTail
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg5`: it ends as launched. -/
theorem W_main_arg5 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg5 = m ((c : Thread nD τ).loc main_arg5) := by
  unfold Pipeline.afterTail
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
/-- No host operation after the region writes `main_arg6`: it ends as launched. -/
theorem W_main_arg6 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg6 = m ((c : Thread nD τ).loc main_arg6) := by
  unfold Pipeline.afterTail
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
/-- No host operation after the region writes `main_arg7`: it ends as launched. -/
theorem W_main_arg7 (hO : Ok m) (dats : (p : Fin _) → (c : Dev nD) → Dat τ (Elt F) Unit ℕ (UR sig nD τ) ℕ ((Pipeline.pin pcfgs fun _ => adm m hO) p) c) (c : Dev nD) :
    Pipeline.afterTail pcfgs (fun _ => adm m hO) dats 0 (V0 m) [hostOps1] c main_arg7 = m ((c : Thread nD τ).loc main_arg7) := by
  unfold Pipeline.afterTail
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePostR ((Pipeline.pin pcfgs fun _ => adm m hO) 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_arg0 (by decide : main_arg0 ∈ Pipeline.restRefs sig spec0 \ T0)).trans (V_main_arg0 m c),
      ((h c).2 main_arg1 (by decide : main_arg1 ∈ Pipeline.restRefs sig spec0 \ T0)).trans (V_main_arg1 m c),
      ((h c).2 main_arg2 (by decide : main_arg2 ∈ Pipeline.restRefs sig spec0 \ T0)).trans (V_main_arg2 m c),
      ((h c).2 main_arg3 (by decide : main_arg3 ∈ Pipeline.restRefs sig spec0 \ T0)).trans (V_main_arg3 m c),
      (Pipeline.RDat.FramePostR.arr_in h c 4 rfl).trans ((hA c 4).trans (V_main_arg4 m c)),
      ((h c).2 main_arg5 (by decide : main_arg5 ∈ Pipeline.restRefs sig spec0 \ T0)).trans (V_main_arg5 m c),
      ((h c).2 main_arg6 (by decide : main_arg6 ∈ Pipeline.restRefs sig spec0 \ T0)).trans (V_main_arg6 m c),
      ((h c).2 main_arg7 (by decide : main_arg7 ∈ Pipeline.restRefs sig spec0 \ T0)).trans (V_main_arg7 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin grid0.N, cond0_0 (grid0.coords t) ↔ t.val % 168 = 0 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_0, k0_cond1, e0, e1]
    word_cmp
   : ∀ t : Fin grid0.N, cond0_0 (grid0.coords t) ↔ t.val % 168 = 0)

/-- The condition of the body's `scf.if` 1 (`k0_h2`), from the grid coordinates (the skeleton's scalar
    chain substituted). -/
abbrev cond0_1 (i : grid0.Coords) : Prop := k0_cond2 i = 1#1
/-- It holds at the points ≡ 0 (mod 12) — by arithmetic of the point. -/
theorem hcond0_1 : ∀ t : Fin grid0.N, cond0_1 (grid0.coords t) ↔ t.val % 12 = 0 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_1, k0_cond2, e0, e1]
    word_cmp
   : ∀ t : Fin grid0.N, cond0_1 (grid0.coords t) ↔ t.val % 12 = 0)

/-- The condition of the body's `scf.if` 2: over WORDS the body reads from its tables or input SMEM windows
    (`v1`), so no function of the point — a case variable: a hypothesis of each run, a `by_cases`
    of the obligation and an `if` of `outsAt`, stated over the argument blocks' words there. -/
abbrev cond0_2 (i : grid0.Coords) (v1 : BitVec 32) : Prop := (Scalar.cmpi .ne (Scalar.extui (Scalar.cmpi .slt (Scalar.muli (BitVec.ofNat 32 (i 1).val) 512#32) v1)) 0#32) = 1#1

/-- The condition of the body's `scf.if` 3 (`k0_h4`), from the grid coordinates (the skeleton's scalar
    chain substituted). -/
abbrev cond0_3 (i : grid0.Coords) : Prop := k0_cond4 i = 1#1
/-- It holds at the points ≡ 11 (mod 12) — by arithmetic of the point. -/
theorem hcond0_3 : ∀ t : Fin grid0.N, cond0_3 (grid0.coords t) ↔ t.val % 12 = 11 :=
  (fun t => by
    have ht : t.val < 168 := Nat.lt_of_lt_of_eq t.isLt N_0
    have e0 : (grid0.coords t 0).val = t.val / 12 % 14 := Pipeline.Grid.coords_val t 0 (by decide) rfl
    have e1 : (grid0.coords t 1).val = t.val / 1 % 12 := Pipeline.Grid.coords_val t 1 (by decide) rfl
    simp only [cond0_3, k0_cond4, e0, e1]
    word_cmp
   : ∀ t : Fin grid0.N, cond0_3 (grid0.coords t) ↔ t.val % 12 = 11)

/-! ## Where the windows are idle (the printed configuration's table `Cfg.idle`) -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-- Window 5 is never idle (an input). -/
theorem liveAt0_5 (hO : Ok m) : ∀ t : Fin (cfgM m hO).N, (cfgM m hO).idle 5 (grid0.coords t) = false :=
  (fun _ => rfl : ∀ t : Fin grid0.N, idle0 5 (grid0.coords t) = false)
/-- Window 6 is never idle (an input). -/
theorem liveAt0_6 (hO : Ok m) : ∀ t : Fin (cfgM m hO).N, (cfgM m hO).idle 6 (grid0.coords t) = false :=
  (fun _ => rfl : ∀ t : Fin grid0.N, idle0 6 (grid0.coords t) = false)
/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x288x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x3x64x96 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S3x14x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S3x14x64 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x512x512 .fp8e4m3 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x4x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x512 .bf16 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x288x512 .bf16 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S3x14x512 .fp8e4m3 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S3x14x4 .f32 := spec0_9.stage ((cfgM m hO).slots t 9)
abbrev hs0_9 (hO : Ok m) (t : Fin (cfgM m hO).N) : (ms0_9 m hO t).IsWhole := hstage0_9 (((cfgM m hO).slots t 9).cast nbuf0_9)
/-- The scratch operands: whole scoped buffers of the kernel's own, passed beside the windows. -/
abbrev scM0_0 : Memref sig .tc .vmem S288x64 .bf16 := Memref.whole cc0_scratch0
abbrev scM0_1 : Memref sig .tc .vmem S288x512 .f32 := Memref.whole cc0_scratch1
abbrev scM0_2 : Memref sig .tc .vmem S288x128 .f32 := Memref.whole cc0_scratch2
abbrev scM0_3 : Memref sig .tc .vmem S288x128 .f32 := Memref.whole cc0_scratch3
abbrev scM0_4 : Memref sig .tc .vmem S3x14x512 .f32 := Memref.whole cc0_scratch4
abbrev scM0_5 : Memref sig .tc .vmem S3x14x64 .f32 := Memref.whole cc0_scratch5
/-- The scratch `arg13` the kernel carries between points, as a view: what it holds is stated through it. -/
abbrev VS0_0 : View sig .tc .vmem S288x64 .bf16 := scM0_0.view
/-- The scratch `arg14` the kernel carries between points, as a view: what it holds is stated through it. -/
abbrev VS0_1 : View sig .tc .vmem S288x512 .f32 := scM0_1.view
/-- The scratch `arg15` the kernel carries between points, as a view: what it holds is stated through it. -/
abbrev VS0_2 : View sig .tc .vmem S288x128 .f32 := scM0_2.view
/-- The scratch `arg16` the kernel carries between points, as a view: what it holds is stated through it. -/
abbrev VS0_3 : View sig .tc .vmem S288x128 .f32 := scM0_3.view
/-- The scratch `arg17` the kernel carries between points, as a view: what it holds is stated through it. -/
abbrev VS0_4 : View sig .tc .vmem S3x14x512 .f32 := scM0_4.view
/-- The scratch `arg18` the kernel carries between points, as a view: what it holds is stated through it. -/
abbrev VS0_5 : View sig .tc .vmem S3x14x64 .f32 := scM0_5.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

end Cert.KernelIdeal.Run

end
-- ==== Proof.KSections.lean ====
/- The kernel's body as four consecutive sections, one for each of its conditionals. -/
module

public import proofs.«01_k».proof.Proof.KBase

@[expose] public section

set_option maxRecDepth 65536

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

/-- A conditional followed by a program is the conditional of the two branches followed by it. -/
theorem dite_bind.{v} {E : Type → Type v} {α β : Type} {c : Prop} [Decidable c] (A : c → Prog E α) (B : ¬ c → Prog E α) (k : α → Prog E β) :
    (dite c A B >>= k) = dite c (fun h => A h >>= k) (fun h => B h >>= k) := by
  by_cases h : c
  · rw [dif_pos h, dif_pos h]
  · rw [dif_neg h, dif_neg h]

/-- The same for a conditional whose branches do not use the condition. -/
theorem ite_bind.{v} {E : Type → Type v} {α β : Type} {c : Prop} [Decidable c] (A B : Prog E α) (k : α → Prog E β) :
    ((if c then A else B) >>= k) = if c then A >>= k else B >>= k := by
  by_cases h : c
  · rw [if_pos h, if_pos h]
  · rw [if_neg h, if_neg h]

/-- The section that quantises the new latents, at the first grid point only. -/
noncomputable def secQ (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h1 : k0_cond1 i = 1#1 then do
    let ⟨v46, v58⟩ : Σ' (v46 : FVec F S14x1 .f32), FVec F S14x128 .fp8e4m3 ← k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let ⟨v72, v94, v98⟩ : Σ' (v72 : FVec F S14x128 .f32) (v94 : IVec S14x1 32), IVec S14x1 32 ← k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v46 v58
    let ⟨v99, v125, v130, v139⟩ : Σ' (v99 : FVec F S14x1 .f32) (v125 : FVec F S14x128 .f32) (v130 : FVec F S14x1 .f32), IVec S14x252 32 ← k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v72 v94 v98
    let ⟨v152, v178⟩ : Σ' (v152 : FVec F S14x1 .f32), FVec F S14x128 .f32 ← k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v125 v130 v139
    let ⟨v205, v217⟩ : Σ' (v205 : FVec F S14x1 .f32), FVec F S14x128 .fp8e4m3 ← k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v178
    let ⟨v241, v246, v257⟩ : Σ' (v241 : FVec F S14x128 .f32) (v246 : FVec F S14x1 .f32), IVec S14x1 32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v46 v99 v152 v205 v217
    let ⟨v268, v294, v296⟩ : Σ' (v268 : FVec F S14x1 .f32) (v294 : FVec F S14x128 .f32), FVec F S14 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v241 v246 v257
    let ⟨v321, v337, v339⟩ : Σ' (v321 : FVec F S14x1 .f32) (v337 : FVec F S14x128 .f32), FVec F S14x1 .f32 ← k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v294 v296
    let ⟨v347, v374, v380⟩ : Σ' (v347 : FVec F S14x128 .f32) (v374 : FVec F S14x1 .f32), FVec F S14x128 .f32 ← k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v337 v339
    let ⟨v400, v418, v420⟩ : Σ' (v400 : FVec F S14x128 .f32) (v418 : IVec S14x1 32), IVec S14x1 1 ← k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v347 v374 v380
    let v457 : FVec F S14x64 .f32 ← k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v268 v321 v374 v400 v418 v420
    let ⟨v490, v497, cst_212, cst_213⟩ : Σ' (v490 : FVec F S14x1 .f32) (v497 : FVec F S14x128 .f32) (cst_212 : F .f32), F .f32 ← k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v457
    let ⟨v516, v538⟩ : Σ' (v516 : FVec F S14x128 .f32), IVec S14x1 32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v490 v497 cst_212 cst_213
    let ⟨v543, v569, v574, v577, c23_i32_249⟩ : Σ' (v543 : FVec F S14x1 .f32) (v569 : FVec F S14x128 .f32) (v574 : FVec F S14x1 .f32) (v577 : IVec S14x252 32), BitVec 32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v516 v538
    let v596 : FVec F S14x1 .f32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v569 v574 v577 c23_i32_249
    let ⟨v649, v661⟩ : Σ' (v649 : FVec F S14x1 .f32), FVec F S14x128 .fp8e4m3 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
    let v662 : Vec F S1x14x128 .fp8e4m3 ← Prog.lift (.load arg11 (Rect.unit (s := S3x14x512) ![2, 0, 384] S1x14x128.size inb_S3x14x512_S1x14x128_2_0_384).toLoadRect (View.loadsAt_vmem h_S1x14x128))
    Prog.lift (.store arg11 (Rect.unit (s := S3x14x512) ![2, 0, 384] S1x14x128.size inb_S3x14x512_S1x14x128_2_0_384) (k0_pay1 v661) Finset.univ (View.stores_vmem h_S1x14x128 (harg11.storeExact_slice_tiles rfl _ tilesfp8e4m3_S3x14x512_S1x14x128_2_0_384) (fun _ => rfl)) (.inl rfl))
    let v670 : Vec F S1x14x128 .f32 ← Prog.lift (.load arg17 (Rect.unit (s := S3x14x512) ![2, 0, 384] S1x14x128.size inb_S3x14x512_S1x14x128_2_0_384).toLoadRect (View.loadsAt_vmem h_S1x14x128))
    Prog.lift (.store arg17 (Rect.unit (s := S3x14x512) ![2, 0, 384] S1x14x128.size inb_S3x14x512_S1x14x128_2_0_384) (k0_pay2 v649 v661) Finset.univ (View.stores_vmem_bits_univ h_S1x14x128 rfl) (.inl rfl))
    let v674 : Vec F S1x14x4 .f32 ← Prog.lift (.load arg12 (Rect.unit (s := S3x14x4) ![2, 0, 0] S1x14x4.size inb_S3x14x4_S1x14x4_2_0_0).toLoadRect (View.loadsAt_vmem h_S1x14x4))
    Prog.lift (.store arg12 (Rect.unit (s := S3x14x4) ![2, 0, 0] S1x14x4.size inb_S3x14x4_S1x14x4_2_0_0) (k0_pay3 v490 v543 v596 v649) Finset.univ (View.stores_vmem_bits_univ h_S1x14x4 rfl) (.inl rfl))
    let v677 : Vec F S1x14x64 .bf16 ← Prog.lift (.load arg6 (Rect.unit (s := S3x14x64) ![2, 0, 0] S1x14x64.size inb_S3x14x64_S1x14x64_2_0_0).toLoadRect (View.loadsAt_vmem h_S1x14x64))
    let v680 : Vec F S1x14x64 .f32 ← Prog.lift (.load arg18 (Rect.unit (s := S3x14x64) ![2, 0, 0] S1x14x64.size inb_S3x14x64_S1x14x64_2_0_0).toLoadRect (View.loadsAt_vmem h_S1x14x64))
    Prog.lift (.store arg18 (Rect.unit (s := S3x14x64) ![2, 0, 0] S1x14x64.size inb_S3x14x64_S1x14x64_2_0_0) (k0_pay4 v677) Finset.univ (View.stores_vmem_bits_univ h_S1x14x64 rfl) (.inl rfl))
    pure ⟨⟩
  else do
    pure ⟨⟩

/-- The section that opens a batch: the query rope is laid out and the new tokens start the online softmax. -/
noncomputable def secI (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h2 : k0_cond2 i = 1#1 then do
    let ⟨v43, v46, v49⟩ : Σ' (v43 : FVec F S1x512 .f32) (v46 : FVec F S1x512 .f32), FVec F S1x512 .f32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h2
    let ⟨v52, v83, v88⟩ : Σ' (v52 : FVec F S16x512 .bf16) (v83 : FVec F S288x1 .f32), FVec F S288x16 .f32 ← k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 k0_h2 v43 v46 v49
    let v91 : Vec F S288x128 .f32 ← Prog.lift (.load arg15 (Rect.unit (s := S288x128) ![0, 0] S288x128.size inb_S288x128_S288x128_0_0).toLoadRect (View.loadsAt_vmem h_S288x128))
    Prog.lift (.store arg15 (Rect.unit (s := S288x128) ![0, 0] S288x128.size inb_S288x128_S288x128_0_0) (k0_pay5 v83) Finset.univ (View.stores_vmem_bits_univ h_S288x128 rfl) (.inl rfl))
    let v98 : Vec F S288x128 .f32 ← Prog.lift (.load arg16 (Rect.unit (s := S288x128) ![0, 0] S288x128.size inb_S288x128_S288x128_0_0).toLoadRect (View.loadsAt_vmem h_S288x128))
    Prog.lift (.store arg16 (Rect.unit (s := S288x128) ![0, 0] S288x128.size inb_S288x128_S288x128_0_0) (k0_pay6 v88) Finset.univ (View.stores_vmem_bits_univ h_S288x128 rfl) (.inl rfl))
    let v103 : Vec F S288x512 .f32 ← Prog.lift (.load arg14 (Rect.unit (s := S288x512) ![0, 0] S288x512.size inb_S288x512_S288x512_0_0).toLoadRect (View.loadsAt_vmem h_S288x512))
    Prog.lift (.store arg14 (Rect.unit (s := S288x512) ![0, 0] S288x512.size inb_S288x512_S288x512_0_0) (k0_pay7 v52 v88) Finset.univ (View.stores_vmem_bits_univ h_S288x512 rfl) (.inl rfl))
    pure ⟨⟩
  else do
    pure ⟨⟩

/-- The section that takes one cache block into the online softmax, where the block holds a cached token. -/
noncomputable def secS (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32) :
    Prog (TpuEff nD τ sig (Elt F) Λ₀ .tc) PUnit := do
  let arg0 : BitVec 32 := BitVec.ofNat 32 (i 0).val
  let arg1 : BitVec 32 := BitVec.ofNat 32 (i 1).val
  let v10 : BitVec 32 := Scalar.muli arg1 512#32
  let v11 : BitVec 1 := Scalar.cmpi .slt v10 v1
  let v12 : BitVec 32 := Scalar.extui v11
  let v13 : BitVec 1 := Scalar.cmpi .ne v12 0#32
  if v13 = 1#1 then do
    let ⟨v47, v55, v56, v59⟩ : Σ' (v47 : FVec F S512x512 .bf16) (v55 : FVec F S288x512 .f32) (v56 : IVec S288x512 32), IVec S288x512 32 ← k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg1 v1
    let v99 : FVec F S288x512 .f32 ← k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v47 v55 v56 v59
    Prog.lift (.store arg14 (Rect.unit (s := S288x512) ![0, 0] S288x512.size inb_S288x512_S288x512_0_0) v99 Finset.univ (View.stores_vmem_bits_univ h_S288x512 rfl) (.inl rfl))
    pure ⟨⟩
  else do
    pure ⟨⟩

/-- The section that closes a batch: the accumulator divided by the sum. -/
noncomputable def secF (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    Prog (TpuEff nD τ sig (Elt F) Λ₀ .tc) PUnit := do
  let arg0 : BitVec 32 := BitVec.ofNat 32 (i 0).val
  let arg1 : BitVec 32 := BitVec.ofNat 32 (i 1).val
  if k0_h4 : k0_cond4 i = 1#1 then do
    let v17 : Vec F S288x512 .f32 ← Prog.lift (.load arg14 (Rect.unit (s := S288x512) ![0, 0] S288x512.size inb_S288x512_S288x512_0_0).toLoadRect (View.loadsAt_vmem h_S288x512))
    let v18 : Vec F S288x1 .f32 ← Prog.lift (.load arg16 (Rect.unit (s := S288x128) ![0, 0] S288x1.size inb_S288x128_S288x1_0_0).toLoadRect (View.loadsAt_vmem h_S288x1))
    let v22 : Vec F S1x288x512 .bf16 ← Prog.lift (.load arg10 (Rect.unit (s := S1x288x512) ![0, 0, 0] S1x288x512.size inb_S1x288x512_S1x288x512_0_0_0).toLoadRect (View.loadsAt_vmem h_S1x288x512))
    Prog.lift (.store arg10 (Rect.unit (s := S1x288x512) ![0, 0, 0] S1x288x512.size inb_S1x288x512_S1x288x512_0_0_0) (k0_pay8 v17 v18) Finset.univ (View.stores_vmem h_S1x288x512 (harg10.storeExact_slice rfl _ packedbf16_S1x288x512_S1x288x512_0_0_0) (fun _ => rfl)) (.inl rfl))
    pure ⟨⟩
  else do
    pure ⟨⟩

set_option maxHeartbeats 2000000 in
/-- The body is the load of the batch's length and then the four sections. -/
theorem body_eq (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) :
    cc0_mla_decode (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = (do
      let v1 : Elt F .i32 ← smemLoad arg2 (Rect.unit (s := S14) (k0_off1 i) S1.size (k0_off1_inb i)) numel1_S1 rfl
      secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
      secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1
      secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc0_mla_decode_eq_skeleton]
  unfold cc0_mla_decode_skel secQ secI secS secF
  simp only [dite_bind, ite_bind, bind_assoc, pure_bind, bind_pure]

end Cert.KernelIdeal.Run

end
-- ==== Proof.KTriples.lean ====
/- What each section of the kernel's body leaves in the buffers it stores into. -/
module

public import proofs.«01_k».proof.Proof.KSections
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- A load through a unit-stride rectangle of a whole memref that holds `X` reads the rectangle of `X`. -/
theorem readAt_rect {κ : Kind} {sp : Space} {s : Shape} {e : EltTy} {m : Memref sig κ sp s e} (h : m.IsWhole) (X : s.Idx → Elt F e)
    (R : Rect s) : m.view.readAt (Elt F) R.toLoadRect (h.unread X) = View.ld X R :=
  funext fun x => h.readAt_unread X R.toLoadRect x

/-- A load of a whole memref that holds `X` reads `X`. -/
theorem readAt_all {κ : Kind} {sp : Space} {s : Shape} {e : EltTy} {m : Memref sig κ sp s e} (h : m.IsWhole) (X : s.Idx → Elt F e)
    {off : Fin s.rank → ℕ} (inb : ∀ a, off a + s.size a ≤ s.size a) :
    m.view.readAt (Elt F) (Rect.unit off s.size inb).toLoadRect (h.unread X) = X := by
  rw [View.readAt_full, h.read_unread]

theorem readAt_S288x128 {κ : Kind} {sp : Space} {e : EltTy} {m : Memref sig κ sp S288x128 e} (h : m.IsWhole) (X : S288x128.Idx → Elt F e)
    (inb : ∀ a, (![0, 0] : Fin _ → ℕ) a + (![288, 128] : Fin _ → ℕ) a ≤ S288x128.size a) :
    m.view.readAt (Elt F) (Rect.unit (s := S288x128) ![0, 0] ![288, 128] inb).toLoadRect (h.unread X) = X := readAt_all h X inb

theorem readAt_S288x512 {κ : Kind} {sp : Space} {e : EltTy} {m : Memref sig κ sp S288x512 e} (h : m.IsWhole) (X : S288x512.Idx → Elt F e)
    (inb : ∀ a, (![0, 0] : Fin _ → ℕ) a + (![288, 512] : Fin _ → ℕ) a ≤ S288x512.size a) :
    m.view.readAt (Elt F) (Rect.unit (s := S288x512) ![0, 0] ![288, 512] inb).toLoadRect (h.unread X) = X := readAt_all h X inb

theorem readAt_S288x64 {κ : Kind} {sp : Space} {e : EltTy} {m : Memref sig κ sp S288x64 e} (h : m.IsWhole) (X : S288x64.Idx → Elt F e)
    (inb : ∀ a, (![0, 0] : Fin _ → ℕ) a + (![288, 64] : Fin _ → ℕ) a ≤ S288x64.size a) :
    m.view.readAt (Elt F) (Rect.unit (s := S288x64) ![0, 0] ![288, 64] inb).toLoadRect (h.unread X) = X := readAt_all h X inb

theorem readAt_S1x288x512 {κ : Kind} {sp : Space} {e : EltTy} {m : Memref sig κ sp S1x288x512 e} (h : m.IsWhole) (X : S1x288x512.Idx → Elt F e)
    (inb : ∀ a, (![0, 0, 0] : Fin _ → ℕ) a + (![1, 288, 512] : Fin _ → ℕ) a ≤ S1x288x512.size a) :
    m.view.readAt (Elt F) (Rect.unit (s := S1x288x512) ![0, 0, 0] ![1, 288, 512] inb).toLoadRect (h.unread X) = X := readAt_all h X inb

theorem readAt_S1x4x512 {κ : Kind} {sp : Space} {e : EltTy} {m : Memref sig κ sp S1x4x512 e} (h : m.IsWhole) (X : S1x4x512.Idx → Elt F e)
    (inb : ∀ a, (![0, 0, 0] : Fin _ → ℕ) a + (![1, 4, 512] : Fin _ → ℕ) a ≤ S1x4x512.size a) :
    m.view.readAt (Elt F) (Rect.unit (s := S1x4x512) ![0, 0, 0] ![1, 4, 512] inb).toLoadRect (h.unread X) = X := readAt_all h X inb

theorem readAt_S1x512x512 {κ : Kind} {sp : Space} {e : EltTy} {m : Memref sig κ sp S1x512x512 e} (h : m.IsWhole) (X : S1x512x512.Idx → Elt F e)
    (inb : ∀ a, (![0, 0, 0] : Fin _ → ℕ) a + (![1, 512, 512] : Fin _ → ℕ) a ≤ S1x512x512.size a) :
    m.view.readAt (Elt F) (Rect.unit (s := S1x512x512) ![0, 0, 0] ![1, 512, 512] inb).toLoadRect (h.unread X) = X := readAt_all h X inb

theorem readAt_S1x64x512 {κ : Kind} {sp : Space} {e : EltTy} {m : Memref sig κ sp S1x64x512 e} (h : m.IsWhole) (X : S1x64x512.Idx → Elt F e)
    (inb : ∀ a, (![0, 0, 0] : Fin _ → ℕ) a + (![1, 64, 512] : Fin _ → ℕ) a ≤ S1x64x512.size a) :
    m.view.readAt (Elt F) (Rect.unit (s := S1x64x512) ![0, 0, 0] ![1, 64, 512] inb).toLoadRect (h.unread X) = X := readAt_all h X inb

/-! A function of several arguments at arguments that are equal one by one. -/

theorem cong2 {Ta : Type*} {Tb : Type*} {R : Type*} (f : Ta → Tb → R) {a a' : Ta} {b b' : Tb} (ha : a = a') (hb : b = b') :
    f a b = f a' b' := by
  subst ha; subst hb; rfl

theorem cong3 {Ta : Type*} {Tb : Type*} {Tc : Type*} {R : Type*} (f : Ta → Tb → Tc → R) {a a' : Ta} {b b' : Tb} {c c' : Tc} (ha : a = a') (hb : b = b') (hc : c = c') :
    f a b c = f a' b' c' := by
  subst ha; subst hb; subst hc; rfl

theorem cong4 {Ta : Type*} {Tb : Type*} {Tc : Type*} {Td : Type*} {R : Type*} (f : Ta → Tb → Tc → Td → R) {a a' : Ta} {b b' : Tb} {c c' : Tc} {d d' : Td} (ha : a = a') (hb : b = b') (hc : c = c') (hd : d = d') :
    f a b c d = f a' b' c' d' := by
  subst ha; subst hb; subst hc; subst hd; rfl

theorem cong5 {Ta : Type*} {Tb : Type*} {Tc : Type*} {Td : Type*} {Te : Type*} {R : Type*} (f : Ta → Tb → Tc → Td → Te → R) {a a' : Ta} {b b' : Tb} {c c' : Tc} {d d' : Td} {e e' : Te} (ha : a = a') (hb : b = b') (hc : c = c') (hd : d = d') (he : e = e') :
    f a b c d e = f a' b' c' d' e' := by
  subst ha; subst hb; subst hc; subst hd; subst he; rfl

theorem cong6 {Ta : Type*} {Tb : Type*} {Tc : Type*} {Td : Type*} {Te : Type*} {Tu : Type*} {R : Type*} (f : Ta → Tb → Tc → Td → Te → Tu → R) {a a' : Ta} {b b' : Tb} {c c' : Tc} {d d' : Td} {e e' : Te} {u u' : Tu} (ha : a = a') (hb : b = b') (hc : c = c') (hd : d = d') (he : e = e') (hu : u = u') :
    f a b c d e u = f a' b' c' d' e' u' := by
  subst ha; subst hb; subst hc; subst hd; subst he; subst hu; rfl

theorem cong7 {Ta : Type*} {Tb : Type*} {Tc : Type*} {Td : Type*} {Te : Type*} {Tu : Type*} {Tv : Type*} {R : Type*} (f : Ta → Tb → Tc → Td → Te → Tu → Tv → R) {a a' : Ta} {b b' : Tb} {c c' : Tc} {d d' : Td} {e e' : Te} {u u' : Tu} {v v' : Tv} (ha : a = a') (hb : b = b') (hc : c = c') (hd : d = d') (he : e = e') (hu : u = u') (hv : v = v') :
    f a b c d e u v = f a' b' c' d' e' u' v' := by
  subst ha; subst hb; subst hc; subst hd; subst he; subst hu; subst hv; rfl

theorem cong8 {Ta : Type*} {Tb : Type*} {Tc : Type*} {Td : Type*} {Te : Type*} {Tu : Type*} {Tv : Type*} {Tw : Type*} {R : Type*} (f : Ta → Tb → Tc → Td → Te → Tu → Tv → Tw → R) {a a' : Ta} {b b' : Tb} {c c' : Tc} {d d' : Td} {e e' : Te} {u u' : Tu} {v v' : Tv} {w w' : Tw} (ha : a = a') (hb : b = b') (hc : c = c') (hd : d = d') (he : e = e') (hu : u = u') (hv : v = v') (hw : w = w') :
    f a b c d e u v w = f a' b' c' d' e' u' v' w' := by
  subst ha; subst hb; subst hc; subst hd; subst he; subst hu; subst hv; subst hw; rfl

/-- The masked scores of the cache block that the point reads. -/
def sM (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 : Vec F S288x128 .f32) : Vec F S288x128 .f32 :=
  k0_pay116 (k0_pay110 x5 x4 x0 s0 x6) (iota .tc S288x512 32 [1] iota_S288x512_d1_w32) (k0_pay111 (BitVec.ofNat 32 (i 1).val) v1) s2
/-- The running sum after the cache block. -/
def sL (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 s3 : Vec F S288x128 .f32) : Vec F S288x128 .f32 :=
  k0_pay117 (k0_pay110 x5 x4 x0 s0 x6) (iota .tc S288x512 32 [1] iota_S288x512_d1_w32) (k0_pay111 (BitVec.ofNat 32 (i 1).val) v1) s2 s3
/-- The running weighted sum of the latents after the cache block. -/
def sA (i : grid0.Coords) (v1 : Elt F .i32) (x0 : Vec F S1x288x512 .bf16) (s0 : Vec F S288x64 .bf16) (x4 : Vec F S1x512x512 .fp8e4m3) (x5 : Vec F S1x4x512 .f32)
    (x6 : Vec F S1x64x512 .bf16) (s2 : Vec F S288x128 .f32) (s1 : Vec F S288x512 .f32) : Vec F S288x512 .f32 :=
  k0_pay118 (k0_pay109 x5 x4) (k0_pay110 x5 x4 x0 s0 x6) (iota .tc S288x512 32 [1] iota_S288x512_d1_w32) (k0_pay111 (BitVec.ofNat 32 (i 1).val) v1) s2 s1

/-- Where the block holds a cached token the section takes one step of the online softmax. -/
theorem secS_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32) (hc : cond0_2 i v1)
    (x0 : Vec F S1x288x512 .bf16) (x4 : Vec F S1x512x512 .fp8e4m3) (x5 : Vec F S1x4x512 .f32) (x6 : Vec F S1x64x512 .bf16) (s0 : Vec F S288x64 .bf16) (s1 : Vec F S288x512 .f32) (s2 : Vec F S288x128 .f32) (s3 : Vec F S288x128 .f32)
    (E : Set ℕ) (K : PUnit → sProp 𝕄) :
    iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg13 fullShare s0 ∗ owns (c : Thread nD τ) arg14 fullShare s1 ∗ owns (c : Thread nD τ) arg15 fullShare s2 ∗ owns (c : Thread nD τ) arg16 fullShare s3
        ∗ (iprop(owns (c : Thread nD τ) arg3 fullShare x0 ∗ owns (c : Thread nD τ) arg7 fullShare x4 ∗ owns (c : Thread nD τ) arg8 fullShare x5 ∗ owns (c : Thread nD τ) arg9 fullShare x6 ∗ owns (c : Thread nD τ) arg13 fullShare s0 ∗ owns (c : Thread nD τ) arg14 fullShare (sA i v1 x0 s0 x4 x5 x6 s2 s1) ∗ owns (c : Thread nD τ) arg15 fullShare (sM i v1 x0 s0 x4 x5 x6 s2) ∗ owns (c : Thread nD τ) arg16 fullShare (sL i v1 x0 s0 x4 x5 x6 s2 s3)) -∗ K ⟨⟩))
      ⊢ wp frame (wpE (defs₀ (F := F)) Variants.none c none) E (secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18  v1) K := by
  unfold secS
  simp only [k0_part19_eq_skeleton, k0_part20_eq_skeleton]
  unfold owns
  iintro ⟨⟨%f3, %hf3, H3⟩, ⟨%f7, %hf7, H7⟩, ⟨%f8, %hf8, H8⟩, ⟨%f9, %hf9, H9⟩, ⟨%f13, %hf13, H13⟩, ⟨%f14, %hf14, H14⟩, ⟨%f15, %hf15, H15⟩, ⟨%f16, %hf16, H16⟩, Hk⟩
  obtain rfl := harg3.eq_unread hf3; obtain rfl := harg7.eq_unread hf7; obtain rfl := harg8.eq_unread hf8; obtain rfl := harg9.eq_unread hf9; obtain rfl := harg13.eq_unread hf13; obtain rfl := harg14.eq_unread hf14; obtain rfl := harg15.eq_unread hf15; obtain rfl := harg16.eq_unread hf16
  sl_exec (disch := first | sl_exact hc)
  sl_step
  iapply Hk
  isplitl [H3]
  · iexists _; isplitr; swap; · iexact H3
    ipureintro; exact harg3.read_unread _
  isplitl [H7]
  · iexists _; isplitr; swap; · iexact H7
    ipureintro; exact harg7.read_unread _
  isplitl [H8]
  · iexists _; isplitr; swap; · iexact H8
    ipureintro; exact harg8.read_unread _
  isplitl [H9]
  · iexists _; isplitr; swap; · iexact H9
    ipureintro; exact harg9.read_unread _
  isplitl [H13]
  · iexists _; isplitr; swap; · iexact H13
    ipureintro; exact harg13.read_unread _
  isplitl [H14]
  · iexists _; isplitr; swap; · iexact H14
    ipureintro; exact (View.read_writes_full _ _ _ _ _).trans (cong6 k0_pay118 (cong2 k0_pay109 (readAt_S1x4x512 harg8 x5 _) (readAt_S1x512x512 harg7 x4 _)) (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _) (readAt_S288x512 harg14 s1 _))
  isplitl [H15]
  · iexists _; isplitr; swap; · iexact H15
    ipureintro; exact (View.read_writes_full _ _ _ _ _).trans (cong4 k0_pay116 (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _))
  iexists _; isplitr; swap; · iexact H16
  ipureintro; exact (View.read_writes_full _ _ _ _ _).trans (cong5 k0_pay117 (cong5 k0_pay110 (readAt_S1x4x512 harg8 x5 _) (readAt_S1x512x512 harg7 x4 _) (readAt_S1x288x512 harg3 x0 _) (readAt_S288x64 harg13 s0 _) (readAt_S1x64x512 harg9 x6 _)) rfl rfl (readAt_S288x128 harg15 s2 _) (readAt_S288x128 harg16 s3 _))

end Cert.KernelIdeal.Run

end
-- ==== Proof.KValues.lean ====
/- What the kernel leaves in the buffers it fills once a call or once a batch, as functions of the blocks it reads. -/
module

public import proofs.«01_k».proof.Proof.KTriples
public import Idealize.ShloMosaic.Lib.Pipeline.ValueKit
public import Idealize.ShloMosaic.Lib.Pointwise.Index
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The group of 128 entries of the new latents at new token `s` and group `g`. -/
def chunk (x2 : Vec F S3x14x512 .bf16) (s : Fin 3) (g : Fin 4) : Vec F S1x14x128 .bf16 :=
  fun j => x2 (ix3 s (j 1) ⟨128 * g.val + (j 2).val, by have := (j 2).isLt; have h : (j 2).val < 128 := this; omega⟩)

/-- The position of an entry of a row of 512 among its group of 128. -/
def lane (p : Fin 512) : Fin 128 := ⟨p.val % 128, Nat.mod_lt _ (by norm_num)⟩
/-- The group of 128 an entry of a row of 512 lies in. -/
def grp (p : Fin 512) : Fin 4 := ⟨p.val / 128, by omega⟩

/-- The codes of the new latents. -/
def NC (x2 : Vec F S3x14x512 .bf16) : Vec F S3x14x512 .fp8e4m3 :=
  fun y => k0_pay13 (k0_pay12 (chunk x2 (y 0) (grp (y 2)))) (ix3 0 (y 1) (lane (y 2)))
/-- The new latents read back from their codes and scales. -/
def LN (x2 : Vec F S3x14x512 .bf16) : Vec F S3x14x512 .f32 :=
  fun y => k0_pay14 (k0_pay11 (chunk x2 (y 0) (grp (y 2)))) (k0_pay12 (chunk x2 (y 0) (grp (y 2)))) (ix3 0 (y 1) (lane (y 2)))
/-- The scales of the new latents. -/
def NS (x2 : Vec F S3x14x512 .bf16) : Vec F S3x14x4 .f32 :=
  fun y => k0_pay3 (k0_pay11 (chunk x2 (y 0) 0)) (k0_pay11 (chunk x2 (y 0) 1)) (k0_pay11 (chunk x2 (y 0) 2)) (k0_pay11 (chunk x2 (y 0) 3)) (ix3 0 (y 1) (y 2))
/-- The rotary keys of new token `s`. -/
def chunkR (x3 : Vec F S3x14x64 .bf16) (s : Fin 3) : Vec F S1x14x64 .bf16 := fun j => x3 (ix3 s (j 1) (j 2))
/-- The rotary keys of the new tokens. -/
def RN (x3 : Vec F S3x14x64 .bf16) : Vec F S3x14x64 .f32 := fun y => k0_pay4 (chunkR x3 (y 0)) (ix3 0 (y 1) (y 2))
/-- The rotary queries of new token `s`, as the block holds them. -/
def chunkQ (x1 : Vec F S1x3x64x96 .bf16) (s : Fin 3) : Vec F S1x1x64x96 .bf16 := fun j => x1 (ix4 0 s (j 2) (j 3))
/-- The new token of a row of 288. -/
def tok (r : Fin 288) : Fin 3 := ⟨r.val / 96, by omega⟩
/-- The head of a row of 288. -/
def hd (r : Fin 288) : Fin 96 := ⟨r.val % 96, Nat.mod_lt _ (by norm_num)⟩
/-- The rotary queries of a batch, a row a token and head. -/
def QR (x1 : Vec F S1x3x64x96 .bf16) : Vec F S288x64 .bf16 := fun y => k0_pay99 (chunkQ x1 (tok (y 0))) (ix2 (hd (y 0)) (y 1))
/-- Row `(s, b)` of the new latents. -/
def rowL (s4 : Vec F S3x14x512 .f32) (s : Fin 3) (b : Fin 14) : Vec F S1x1x512 .f32 := fun j => s4 (ix3 s b (j 2))
/-- Row `(s, b)` of the new rotary keys. -/
def rowR (s5 : Vec F S3x14x64 .f32) (s : Fin 3) (b : Fin 14) : Vec F S1x1x64 .f32 := fun j => s5 (ix3 s b (j 2))
/-- The running maximum after the new tokens. -/
def iM (x0 : Vec F S1x288x512 .bf16) (x1 : Vec F S1x3x64x96 .bf16) (s4 : Vec F S3x14x512 .f32) (s5 : Vec F S3x14x64 .f32) (b : Fin 14) : Vec F S288x128 .f32 :=
  k0_pay5 (k0_pay107 (k0_pay102 (rowL s4 0 b)) (k0_pay103 (rowL s4 1 b)) (k0_pay104 (rowL s4 2 b)) (rowR s5 0 b) (rowR s5 1 b) (rowR s5 2 b) x0 (QR x1))
/-- The running sum after the new tokens. -/
def iL (x0 : Vec F S1x288x512 .bf16) (x1 : Vec F S1x3x64x96 .bf16) (s4 : Vec F S3x14x512 .f32) (s5 : Vec F S3x14x64 .f32) (b : Fin 14) : Vec F S288x128 .f32 :=
  k0_pay6 (k0_pay108 (k0_pay102 (rowL s4 0 b)) (k0_pay103 (rowL s4 1 b)) (k0_pay104 (rowL s4 2 b)) (rowR s5 0 b) (rowR s5 1 b) (rowR s5 2 b) x0 (QR x1))
/-- The running weighted sum of the latents after the new tokens. -/
def iA (x0 : Vec F S1x288x512 .bf16) (x1 : Vec F S1x3x64x96 .bf16) (s4 : Vec F S3x14x512 .f32) (s5 : Vec F S3x14x64 .f32) (b : Fin 14) : Vec F S288x512 .f32 :=
  k0_pay7 (k0_pay105 (k0_pay102 (rowL s4 0 b)) (k0_pay103 (rowL s4 1 b)) (k0_pay104 (rowL s4 2 b)))
    (k0_pay108 (k0_pay102 (rowL s4 0 b)) (k0_pay103 (rowL s4 1 b)) (k0_pay104 (rowL s4 2 b)) (rowR s5 0 b) (rowR s5 1 b) (rowR s5 2 b) x0 (QR x1))
/-- The first lane of the running sum. -/
def lane0 (s3 : Vec F S288x128 .f32) : Vec F S288x1 .f32 := fun j => s3 (ix2 (j 0) 0)
/-- The output block: the weighted sum over the sum. -/
def fO (s1 : Vec F S288x512 .f32) (s3 : Vec F S288x128 .f32) : Vec F S1x288x512 .bf16 := k0_pay8 s1 (lane0 s3)

/-! Loads of parts. -/

theorem ld_chunk (x2 : Vec F S3x14x512 .bf16) (s : Fin 3) (g : Fin 4) (off : Fin 3 → ℕ) (ho : off = ![s.val, 0, 128 * g.val]) (inb : ∀ a, off a + S1x14x128.size a ≤ S3x14x512.size a) :
    View.ld x2 (Rect.unit (s := S3x14x512) off S1x14x128.size inb) = chunk x2 s g := by
  subst ho
  funext j
  refine View.ld_unit_apply_of x2 _ _ _ j _ fun a => ?_
  have h0 : (j 0).val < 1 := (j 0).isLt
  match a with
  | ⟨0, _⟩ => show s.val = s.val + (j 0).val; omega
  | ⟨1, _⟩ => exact (Nat.zero_add _).symm
  | ⟨2, _⟩ => rfl

theorem ld_chunkR (x3 : Vec F S3x14x64 .bf16) (s : Fin 3) (off : Fin 3 → ℕ) (ho : off = ![s.val, 0, 0]) (inb : ∀ a, off a + S1x14x64.size a ≤ S3x14x64.size a) :
    View.ld x3 (Rect.unit (s := S3x14x64) off S1x14x64.size inb) = chunkR x3 s := by
  subst ho
  funext j
  refine View.ld_unit_apply_of x3 _ _ _ j _ fun a => ?_
  have h0 : (j 0).val < 1 := (j 0).isLt
  match a with
  | ⟨0, _⟩ => show s.val = s.val + (j 0).val; omega
  | ⟨1, _⟩ => exact (Nat.zero_add _).symm
  | ⟨2, _⟩ => exact (Nat.zero_add _).symm

theorem ld_chunkQ (x1 : Vec F S1x3x64x96 .bf16) (s : Fin 3) (off : Fin 4 → ℕ) (ho : off = ![0, s.val, 0, 0]) (inb : ∀ a, off a + S1x1x64x96.size a ≤ S1x3x64x96.size a) :
    View.ld x1 (Rect.unit (s := S1x3x64x96) off S1x1x64x96.size inb) = chunkQ x1 s := by
  subst ho
  funext j
  refine View.ld_unit_apply_of x1 _ _ _ j _ fun a => ?_
  have h0 : (j 0).val < 1 := (j 0).isLt
  have h1 : (j 1).val < 1 := (j 1).isLt
  match a with
  | ⟨0, _⟩ => show 0 = 0 + (j 0).val; omega
  | ⟨1, _⟩ => show s.val = s.val + (j 1).val; omega
  | ⟨2, _⟩ => exact (Nat.zero_add _).symm
  | ⟨3, _⟩ => exact (Nat.zero_add _).symm

theorem ld_rowL (s4 : Vec F S3x14x512 .f32) (s : Fin 3) (b : Fin 14) (off : Fin 3 → ℕ) (ho : off = ![s.val, b.val, 0]) (inb : ∀ a, off a + S1x1x512.size a ≤ S3x14x512.size a) :
    View.ld s4 (Rect.unit (s := S3x14x512) off S1x1x512.size inb) = rowL s4 s b := by
  subst ho
  funext j
  refine View.ld_unit_apply_of s4 _ _ _ j _ fun a => ?_
  have h0 : (j 0).val < 1 := (j 0).isLt
  have h1 : (j 1).val < 1 := (j 1).isLt
  match a with
  | ⟨0, _⟩ => show s.val = s.val + (j 0).val; omega
  | ⟨1, _⟩ => show b.val = b.val + (j 1).val; omega
  | ⟨2, _⟩ => exact (Nat.zero_add _).symm

theorem ld_rowR (s5 : Vec F S3x14x64 .f32) (s : Fin 3) (b : Fin 14) (off : Fin 3 → ℕ) (ho : off = ![s.val, b.val, 0]) (inb : ∀ a, off a + S1x1x64.size a ≤ S3x14x64.size a) :
    View.ld s5 (Rect.unit (s := S3x14x64) off S1x1x64.size inb) = rowR s5 s b := by
  subst ho
  funext j
  refine View.ld_unit_apply_of s5 _ _ _ j _ fun a => ?_
  have h0 : (j 0).val < 1 := (j 0).isLt
  have h1 : (j 1).val < 1 := (j 1).isLt
  match a with
  | ⟨0, _⟩ => show s.val = s.val + (j 0).val; omega
  | ⟨1, _⟩ => show b.val = b.val + (j 1).val; omega
  | ⟨2, _⟩ => exact (Nat.zero_add _).symm

theorem ld_lane0 (s3 : Vec F S288x128 .f32) (inb : ∀ a, (![0, 0] : Fin 2 → ℕ) a + S288x1.size a ≤ S288x128.size a) :
    View.ld s3 (Rect.unit (s := S288x128) ![0, 0] S288x1.size inb) = lane0 s3 := by
  funext j
  refine View.ld_unit_apply_of s3 _ _ _ j _ fun a => ?_
  have h1 : (j 1).val < 1 := (j 1).isLt
  match a with
  | ⟨0, _⟩ => exact (Nat.zero_add _).symm
  | ⟨1, _⟩ => show 0 = 0 + (j 1).val; omega

/-! The offsets of the loads of a batch's rows. -/

theorem off2_eq (i : grid0.Coords) : k0_off2 i = ![0, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off2
  simp only [e]

theorem off3_eq (i : grid0.Coords) : k0_off3 i = ![1, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off3
  simp only [e]

theorem off4_eq (i : grid0.Coords) : k0_off4 i = ![2, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off4
  simp only [e]

theorem off5_eq (i : grid0.Coords) : k0_off5 i = ![0, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off5
  simp only [e]

theorem off6_eq (i : grid0.Coords) : k0_off6 i = ![1, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off6
  simp only [e]

theorem off7_eq (i : grid0.Coords) : k0_off7 i = ![2, (i 0).val, 0] := by
  have h : (i 0).val < 14 := (i 0).isLt
  have e : (Scalar.indexCast (BitVec.ofNat 32 (i 0).val) : Index).toNat = (i 0).val := by
    show (BitVec.ofNat 32 (i 0).val).toNat = _
    rw [BitVec.toNat_ofNat]; exact Nat.mod_eq_of_lt (by omega)
  unfold k0_off7
  simp only [e]

/-! What a stored part agrees with. -/

theorem at_chunk (s : Fin 3) (g : Fin 4) (off : Fin 3 → ℕ) (ho : off = ![s.val, 0, 128 * g.val]) (inb : ∀ a, off a + S1x14x128.size a ≤ S3x14x512.size a) (x : S1x14x128.Idx) :
    (Rect.unit (s := S3x14x512) off S1x14x128.size inb).idx x 0 = s ∧ (Rect.unit (s := S3x14x512) off S1x14x128.size inb).idx x 1 = x 1
      ∧ grp ((Rect.unit (s := S3x14x512) off S1x14x128.size inb).idx x 2) = g ∧ lane ((Rect.unit (s := S3x14x512) off S1x14x128.size inb).idx x 2) = x 2 := by
  subst ho
  have h0 : (x 0).val < 1 := (x 0).isLt
  have h2 : (x 2).val < 128 := (x 2).isLt
  have e2 : ((Rect.unit (s := S3x14x512) ![s.val, 0, 128 * g.val] S1x14x128.size inb).idx x 2).val = 128 * g.val + (x 2).val := Rect.idx_unit_val (s := S3x14x512) ![s.val, 0, 128 * g.val] S1x14x128.size inb x 2
  refine ⟨Fin.ext ?_, Fin.ext ?_, Fin.ext ?_, Fin.ext ?_⟩
  · refine (Rect.idx_unit_val (s := S3x14x512) ![s.val, 0, 128 * g.val] S1x14x128.size inb x 0).trans ?_
    show s.val + (x 0).val = s.val; omega
  · exact (Rect.idx_unit_val (s := S3x14x512) ![s.val, 0, 128 * g.val] S1x14x128.size inb x 1).trans (Nat.zero_add _)
  · show _ / 128 = g.val
    rw [e2]; omega
  · show _ % 128 = (x 2).val
    rw [e2]; omega

theorem eq_ix3_0 {n1 n2 : ℕ} (x : (⟨3, ![1, n1, n2]⟩ : Shape).Idx) : ix3 (0 : Fin 1) (x 1) (x 2) = x := by
  funext a
  match a with
  | ⟨0, _⟩ => exact (Fin.ext (by have h : (x 0).val < 1 := (x 0).isLt; show 0 = (x 0).val; omega))
  | ⟨1, _⟩ => rfl
  | ⟨2, _⟩ => rfl

/-- A part of a function of the shape of the new latents that is given group by group. -/
theorem grouped {e : EltTy} (P : Fin 3 → Fin 4 → Vec F S1x14x128 e) (s : Fin 3) (g : Fin 4) (off : Fin 3 → ℕ) (ho : off = ![s.val, 0, 128 * g.val])
    (inb : ∀ a, off a + S1x14x128.size a ≤ S3x14x512.size a) (x : S1x14x128.Idx) :
    P s g x = (fun y : S3x14x512.Idx => P (y 0) (grp (y 2)) (ix3 0 (y 1) (lane (y 2)))) ((Rect.unit (s := S3x14x512) off S1x14x128.size inb).idx x) := by
  obtain ⟨a, b, c, d⟩ := at_chunk s g off ho inb x
  show _ = P _ _ _
  rw [a, b, c, d]
  exact congrArg (P s g) (eq_ix3_0 x).symm

/-- A part of a function of three tokens' rows that is given token by token. -/
theorem tokened {e : EltTy} {n : ℕ} (P : Fin 3 → Vec F ⟨3, ![1, 14, n]⟩ e) (s : Fin 3) (off : Fin 3 → ℕ) (ho : off = ![s.val, 0, 0])
    (inb : ∀ a, off a + (![1, 14, n] : Fin 3 → ℕ) a ≤ (⟨3, ![3, 14, n]⟩ : Shape).size a) (x : (⟨3, ![1, 14, n]⟩ : Shape).Idx) :
    P s x = (fun y : (⟨3, ![3, 14, n]⟩ : Shape).Idx => P (y 0) (ix3 0 (y 1) (y 2))) ((Rect.unit (s := ⟨3, ![3, 14, n]⟩) off ![1, 14, n] inb).idx x) := by
  subst ho
  have h0 : (x 0).val < 1 := (x 0).isLt
  have e0 : (Rect.unit (s := ⟨3, ![3, 14, n]⟩) ![s.val, 0, 0] ![1, 14, n] inb).idx x 0 = s :=
    Fin.ext ((Rect.idx_unit_val (s := ⟨3, ![3, 14, n]⟩) ![s.val, 0, 0] ![1, 14, n] inb x 0).trans (by show s.val + (x 0).val = s.val; omega))
  have e1 : (Rect.unit (s := ⟨3, ![3, 14, n]⟩) ![s.val, 0, 0] ![1, 14, n] inb).idx x 1 = x 1 :=
    Fin.ext ((Rect.idx_unit_val (s := ⟨3, ![3, 14, n]⟩) ![s.val, 0, 0] ![1, 14, n] inb x 1).trans (Nat.zero_add _))
  have e2 : (Rect.unit (s := ⟨3, ![3, 14, n]⟩) ![s.val, 0, 0] ![1, 14, n] inb).idx x 2 = x 2 :=
    Fin.ext ((Rect.idx_unit_val (s := ⟨3, ![3, 14, n]⟩) ![s.val, 0, 0] ![1, 14, n] inb x 2).trans (Nat.zero_add _))
  show _ = P _ _
  rw [e0, e1, e2]
  exact congrArg (P s) (eq_ix3_0 x).symm

/-- A part of a function of the 288 rows that is given token by token. -/
theorem rowed {e : EltTy} (P : Fin 3 → Vec F S96x64 e) (s : Fin 3) (off : Fin 2 → ℕ) (ho : off = ![96 * s.val, 0])
    (inb : ∀ a, off a + S96x64.size a ≤ S288x64.size a) (x : S96x64.Idx) :
    P s x = (fun y : S288x64.Idx => P (tok (y 0)) (ix2 (hd (y 0)) (y 1))) ((Rect.unit (s := S288x64) off S96x64.size inb).idx x) := by
  subst ho
  have h0 : (x 0).val < 96 := (x 0).isLt
  have v0 : ((Rect.unit (s := S288x64) ![96 * s.val, 0] S96x64.size inb).idx x 0).val = 96 * s.val + (x 0).val := Rect.idx_unit_val (s := S288x64) ![96 * s.val, 0] S96x64.size inb x 0
  have e0 : tok ((Rect.unit (s := S288x64) ![96 * s.val, 0] S96x64.size inb).idx x 0) = s := Fin.ext (by show _ / 96 = s.val; rw [v0]; omega)
  have e0' : hd ((Rect.unit (s := S288x64) ![96 * s.val, 0] S96x64.size inb).idx x 0) = x 0 := Fin.ext (by show _ % 96 = (x 0).val; rw [v0]; omega)
  have e1 : (Rect.unit (s := S288x64) ![96 * s.val, 0] S96x64.size inb).idx x 1 = x 1 :=
    Fin.ext ((Rect.idx_unit_val (s := S288x64) ![96 * s.val, 0] S96x64.size inb x 1).trans (Nat.zero_add _))
  show _ = P _ _
  rw [e0, e0', e1]
  exact congrArg (P s) (eq_ix2 x)

theorem NC_part (x2 : Vec F S3x14x512 .bf16) (s : Fin 3) (g : Fin 4) (off : Fin 3 → ℕ) (ho : off = ![s.val, 0, 128 * g.val]) (inb : ∀ a, off a + S1x14x128.size a ≤ S3x14x512.size a) (x : S1x14x128.Idx) :
    k0_pay13 (k0_pay12 (chunk x2 s g)) x = NC x2 ((Rect.unit (s := S3x14x512) off S1x14x128.size inb).idx x) :=
  grouped (F := F) (e := .fp8e4m3) (fun s g => k0_pay13 (k0_pay12 (chunk x2 s g))) s g off ho inb x
theorem LN_part (x2 : Vec F S3x14x512 .bf16) (s : Fin 3) (g : Fin 4) (off : Fin 3 → ℕ) (ho : off = ![s.val, 0, 128 * g.val]) (inb : ∀ a, off a + S1x14x128.size a ≤ S3x14x512.size a) (x : S1x14x128.Idx) :
    k0_pay14 (k0_pay11 (chunk x2 s g)) (k0_pay12 (chunk x2 s g)) x = LN x2 ((Rect.unit (s := S3x14x512) off S1x14x128.size inb).idx x) :=
  grouped (F := F) (e := .f32) (fun s g => k0_pay14 (k0_pay11 (chunk x2 s g)) (k0_pay12 (chunk x2 s g))) s g off ho inb x
theorem NS_part (x2 : Vec F S3x14x512 .bf16) (s : Fin 3) (off : Fin 3 → ℕ) (ho : off = ![s.val, 0, 0]) (inb : ∀ a, off a + S1x14x4.size a ≤ S3x14x4.size a) (x : S1x14x4.Idx) :
    k0_pay3 (k0_pay11 (chunk x2 s 0)) (k0_pay11 (chunk x2 s 1)) (k0_pay11 (chunk x2 s 2)) (k0_pay11 (chunk x2 s 3)) x = NS x2 ((Rect.unit (s := S3x14x4) off S1x14x4.size inb).idx x) :=
  tokened (F := F) (e := .f32) (fun s => k0_pay3 (k0_pay11 (chunk x2 s 0)) (k0_pay11 (chunk x2 s 1)) (k0_pay11 (chunk x2 s 2)) (k0_pay11 (chunk x2 s 3))) s off ho inb x
theorem RN_part (x3 : Vec F S3x14x64 .bf16) (s : Fin 3) (off : Fin 3 → ℕ) (ho : off = ![s.val, 0, 0]) (inb : ∀ a, off a + S1x14x64.size a ≤ S3x14x64.size a) (x : S1x14x64.Idx) :
    k0_pay4 (chunkR x3 s) x = RN x3 ((Rect.unit (s := S3x14x64) off S1x14x64.size inb).idx x) :=
  tokened (F := F) (e := .f32) (fun s => k0_pay4 (chunkR x3 s)) s off ho inb x
theorem QR_part (x1 : Vec F S1x3x64x96 .bf16) (s : Fin 3) (off : Fin 2 → ℕ) (ho : off = ![96 * s.val, 0]) (inb : ∀ a, off a + S96x64.size a ≤ S288x64.size a) (x : S96x64.Idx) :
    k0_pay99 (chunkQ x1 s) x = QR x1 ((Rect.unit (s := S288x64) off S96x64.size inb).idx x) :=
  rowed (F := F) (e := .bf16) (fun s => k0_pay99 (chunkQ x1 s)) s off ho inb x

end Cert.KernelIdeal.Run

end
-- ==== Proof.KTriplesI.lean ====
/- What the first and the last section of a batch leave in the buffers they store into. -/
module

public import proofs.«01_k».proof.Proof.KValues
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Three stores of 96 rows each leave the rotary queries. -/
theorem QR_writes {κ : Kind} {sp : Space} (v : View sig κ sp S288x64 .bf16) (f : v.ty.Contents (Elt F)) (x1 : Vec F S1x3x64x96 .bf16)
    (i0 : ∀ a, (![0, 0] : Fin 2 → ℕ) a + S96x64.size a ≤ S288x64.size a) (i1 : ∀ a, (![96, 0] : Fin 2 → ℕ) a + S96x64.size a ≤ S288x64.size a)
    (i2 : ∀ a, (![192, 0] : Fin 2 → ℕ) a + S96x64.size a ≤ S288x64.size a) (u0 u1 u2 : Vec F S1x1x64x96 .bf16)
    (h0 : u0 = chunkQ x1 0) (h1 : u1 = chunkQ x1 1) (h2 : u2 = chunkQ x1 2) :
    v.read (Elt F) (v.writes (Elt F) f [⟨Rect.unit (s := S288x64) ![192, 0] S96x64.size i2, k0_pay101 u2⟩, ⟨Rect.unit (s := S288x64) ![96, 0] S96x64.size i1, k0_pay100 u1⟩,
      ⟨Rect.unit (s := S288x64) ![0, 0] S96x64.size i0, k0_pay99 u0⟩]) = QR x1 := by
  subst h0; subst h1; subst h2
  funext y
  refine View.read_writes_apply_of_pieces v f (QR x1) _ ?_ y (View.cover_of_tiledL _ ![96, 64] (by sl_kernel_rfl) y)
  refine List.forall_mem_cons.2 ⟨fun x => QR_part x1 2 ![192, 0] rfl i2 x, List.forall_mem_cons.2 ⟨fun x => QR_part x1 1 ![96, 0] rfl i1 x,
    List.forall_mem_cons.2 ⟨fun x => QR_part x1 0 ![0, 0] rfl i0 x, fun p h => absurd h List.not_mem_nil⟩⟩⟩

set_option maxHeartbeats 4000000 in
/-- A batch's first block starts the online softmax with the new tokens. -/
theorem secI_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_1 i)
    (x0 : Vec F S1x288x512 .bf16) (x1 : Vec F S1x3x64x96 .bf16) (s0 : Vec F S288x64 .bf16) (s1 : Vec F S288x512 .f32) (s2 : Vec F S288x128 .f32) (s3 : Vec F S288x128 .f32) (s4 : Vec F S3x14x512 .f32) (s5 : Vec F S3x14x64 .f32)
    (E : Set ℕ) (K : PUnit → sProp 𝕄) :
    iprop(owns (c : Thread nD τ) arg3 fullShare x0 ∗ owns (c : Thread nD τ) arg4 fullShare x1 ∗ owns (c : Thread nD τ) arg13 fullShare s0 ∗ owns (c : Thread nD τ) arg14 fullShare s1 ∗ owns (c : Thread nD τ) arg15 fullShare s2 ∗ owns (c : Thread nD τ) arg16 fullShare s3 ∗ owns (c : Thread nD τ) arg17 fullShare s4 ∗ owns (c : Thread nD τ) arg18 fullShare s5
        ∗ (iprop(owns (c : Thread nD τ) arg3 fullShare x0 ∗ owns (c : Thread nD τ) arg4 fullShare x1 ∗ owns (c : Thread nD τ) arg13 fullShare (QR x1) ∗ owns (c : Thread nD τ) arg14 fullShare (iA x0 x1 s4 s5 (i 0)) ∗ owns (c : Thread nD τ) arg15 fullShare (iM x0 x1 s4 s5 (i 0)) ∗ owns (c : Thread nD τ) arg16 fullShare (iL x0 x1 s4 s5 (i 0)) ∗ owns (c : Thread nD τ) arg17 fullShare s4 ∗ owns (c : Thread nD τ) arg18 fullShare s5) -∗ K ⟨⟩))
      ⊢ wp frame (wpE (defs₀ (F := F)) Variants.none c none) E (secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secI
  simp only [k0_part17_eq_skeleton, k0_part18_eq_skeleton]
  unfold owns
  iintro ⟨⟨%f3, %hf3, H3⟩, ⟨%f4, %hf4, H4⟩, ⟨%f13, %hf13, H13⟩, ⟨%f14, %hf14, H14⟩, ⟨%f15, %hf15, H15⟩, ⟨%f16, %hf16, H16⟩, ⟨%f17, %hf17, H17⟩, ⟨%f18, %hf18, H18⟩, Hk⟩
  obtain rfl := harg3.eq_unread hf3; obtain rfl := harg4.eq_unread hf4; obtain rfl := harg13.eq_unread hf13; obtain rfl := harg14.eq_unread hf14; obtain rfl := harg15.eq_unread hf15; obtain rfl := harg16.eq_unread hf16; obtain rfl := harg17.eq_unread hf17; obtain rfl := harg18.eq_unread hf18
  sl_exec (disch := first | sl_exact hc)
  sl_step
  iapply Hk
  isplitl [H3]
  · iexists _; isplitr; swap; · iexact H3
    ipureintro; exact harg3.read_unread _
  isplitl [H4]
  · iexists _; isplitr; swap; · iexact H4
    ipureintro; exact harg4.read_unread _
  isplitl [H13]
  · iexists _; isplitr; swap; · iexact H13
    ipureintro; exact QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))
  isplitl [H14]
  · iexists _; isplitr; swap; · iexact H14
    ipureintro; exact (View.read_writes_full _ _ _ _ _).trans (cong2 k0_pay7 (cong3 k0_pay105 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _)))) (cong8 k0_pay108 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H15]
  · iexists _; isplitr; swap; · iexact H15
    ipureintro; exact (View.read_writes_full _ _ _ _ _).trans (congrArg k0_pay5 (cong8 k0_pay107 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H16]
  · iexists _; isplitr; swap; · iexact H16
    ipureintro; exact (View.read_writes_full _ _ _ _ _).trans (congrArg k0_pay6 (cong8 k0_pay108 (congrArg k0_pay102 ((readAt_rect harg17 s4 _).trans (ld_rowL s4 0 (i 0) _ (off2_eq i) _))) (congrArg k0_pay103 ((readAt_rect harg17 s4 _).trans (ld_rowL s4 1 (i 0) _ (off3_eq i) _))) (congrArg k0_pay104 ((readAt_rect harg17 s4 _).trans (ld_rowL s4 2 (i 0) _ (off4_eq i) _))) ((readAt_rect harg18 s5 _).trans (ld_rowR s5 0 (i 0) _ (off5_eq i) _)) ((readAt_rect harg18 s5 _).trans (ld_rowR s5 1 (i 0) _ (off6_eq i) _)) ((readAt_rect harg18 s5 _).trans (ld_rowR s5 2 (i 0) _ (off7_eq i) _)) (readAt_S1x288x512 harg3 x0 _) ((View.readAt_full _ _ _).trans (QR_writes _ _ x1 _ _ _ _ _ _ ((readAt_rect harg4 x1 _).trans (ld_chunkQ x1 0 _ rfl _)) ((readAt_rect harg4 x1 _).trans (ld_chunkQ x1 1 _ rfl _)) ((readAt_rect harg4 x1 _).trans (ld_chunkQ x1 2 _ rfl _))))))
  isplitl [H17]
  · iexists _; isplitr; swap; · iexact H17
    ipureintro; exact harg17.read_unread _
  iexists _; isplitr; swap; · iexact H18
  ipureintro; exact harg18.read_unread _

/-- A batch's last block stores the output block. -/
theorem secF_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_3 i)
    (y7 : Vec F S1x288x512 .bf16) (s1 : Vec F S288x512 .f32) (s3 : Vec F S288x128 .f32)
    (E : Set ℕ) (K : PUnit → sProp 𝕄) :
    iprop(owns (c : Thread nD τ) arg10 fullShare y7 ∗ owns (c : Thread nD τ) arg14 fullShare s1 ∗ owns (c : Thread nD τ) arg16 fullShare s3
        ∗ (iprop(owns (c : Thread nD τ) arg10 fullShare (fO s1 s3) ∗ owns (c : Thread nD τ) arg14 fullShare s1 ∗ owns (c : Thread nD τ) arg16 fullShare s3) -∗ K ⟨⟩))
      ⊢ wp frame (wpE (defs₀ (F := F)) Variants.none c none) E (secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secF
  unfold owns
  iintro ⟨⟨%f10, %hf10, H10⟩, ⟨%f14, %hf14, H14⟩, ⟨%f16, %hf16, H16⟩, Hk⟩
  obtain rfl := harg10.eq_unread hf10; obtain rfl := harg14.eq_unread hf14; obtain rfl := harg16.eq_unread hf16
  sl_exec (disch := first | sl_exact hc)
  sl_step
  iapply Hk
  isplitl [H10]
  · iexists _; isplitr; swap; · iexact H10
    ipureintro; exact (View.read_writes_full _ _ _ _ _).trans (cong2 k0_pay8 (readAt_S288x512 harg14 s1 _) ((readAt_rect harg16 s3 _).trans (ld_lane0 s3 _)))
  isplitl [H14]
  · iexists _; isplitr; swap; · iexact H14
    ipureintro; exact harg14.read_unread _
  iexists _; isplitr; swap; · iexact H16
  ipureintro; exact harg16.read_unread _

end Cert.KernelIdeal.Run

end
-- ==== Proof.KChunks.lean ====
/- The chunks of the new latents are all quantised alike, however the body's parts cut the computation. -/
module

public import proofs.«01_k».proof.Proof.KValues
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

theorem code_00 (u : Vec F S1x14x128 .bf16) : (k0_pay13 (k0_pay12 u)) = k0_pay13 (k0_pay12 u) := by
  rfl
theorem back_00 (u : Vec F S1x14x128 .bf16) : (k0_pay14 (k0_pay11 u) (k0_pay12 u)) = k0_pay14 (k0_pay11 u) (k0_pay12 u) := by
  rfl
theorem code_01 (u : Vec F S1x14x128 .bf16) : (k0_pay20 (k0_pay15 u) (k0_pay16 u)) = k0_pay13 (k0_pay12 u) := by
  rfl
theorem back_01 (u : Vec F S1x14x128 .bf16) : (k0_pay21 (k0_pay15 u) (k0_pay16 u) (k0_pay17 u)) = k0_pay14 (k0_pay11 u) (k0_pay12 u) := by
  rfl
theorem code_02 (u : Vec F S1x14x128 .bf16) : (k0_pay28 (k0_pay22 u) (k0_pay23 u) (k0_pay24 u)) = k0_pay13 (k0_pay12 u) := by
  rfl
theorem back_02 (u : Vec F S1x14x128 .bf16) : (k0_pay29 (k0_pay22 u) (k0_pay23 u) (k0_pay24 u)) = k0_pay14 (k0_pay11 u) (k0_pay12 u) := by
  rfl
theorem code_03 (u : Vec F S1x14x128 .bf16) : (k0_pay34 (k0_pay30 u)) = k0_pay13 (k0_pay12 u) := by
  rfl
theorem back_03 (u : Vec F S1x14x128 .bf16) : (k0_pay35 (k0_pay32 (k0_pay30 u)) (k0_pay33 (k0_pay30 u))) = k0_pay14 (k0_pay11 u) (k0_pay12 u) := by
  rfl
theorem code_10 (u : Vec F S1x14x128 .bf16) : (k0_pay44 (k0_pay38 u) (k0_pay39 u) (k0_pay40 u)) = k0_pay13 (k0_pay12 u) := by
  rfl
theorem back_10 (u : Vec F S1x14x128 .bf16) : (k0_pay45 (k0_pay38 u) (k0_pay39 u) (k0_pay40 u)) = k0_pay14 (k0_pay11 u) (k0_pay12 u) := by
  rfl
theorem code_11 (u : Vec F S1x14x128 .bf16) : (k0_pay51 (k0_pay46 u) (k0_pay47 u)) = k0_pay13 (k0_pay12 u) := by
  rfl
theorem back_11 (u : Vec F S1x14x128 .bf16) : (k0_pay54 (k0_pay52 (k0_pay46 u) (k0_pay47 u)) (k0_pay53 (k0_pay47 u))) = k0_pay14 (k0_pay11 u) (k0_pay12 u) := by
  rfl
theorem code_12 (u : Vec F S1x14x128 .bf16) : (k0_pay60 (k0_pay55 u) (k0_pay58 u)) = k0_pay13 (k0_pay12 u) := by
  rfl
theorem back_12 (u : Vec F S1x14x128 .bf16) : (k0_pay61 (k0_pay55 u) (k0_pay57 u) (k0_pay58 u)) = k0_pay14 (k0_pay11 u) (k0_pay12 u) := by
  rfl
theorem code_13 (u : Vec F S1x14x128 .bf16) : (k0_pay69 (k0_pay62 u) (k0_pay64 u) (k0_pay65 u)) = k0_pay13 (k0_pay12 u) := by
  rfl
theorem back_13 (u : Vec F S1x14x128 .bf16) : (k0_pay70 (k0_pay62 u) (k0_pay64 u) (k0_pay65 u)) = k0_pay14 (k0_pay11 u) (k0_pay12 u) := by
  rfl
theorem code_20 (u : Vec F S1x14x128 .bf16) : (k0_pay79 (k0_pay77 u) (Scalar.ofBits .f32 0xC3E00000#32) (Scalar.ofBits .f32 0x43E00000#32)) = k0_pay13 (k0_pay12 u) := by
  rfl
theorem back_20 (u : Vec F S1x14x128 .bf16) : (k0_pay80 (k0_pay76 u) (k0_pay77 u) (Scalar.ofBits .f32 0xC3E00000#32) (Scalar.ofBits .f32 0x43E00000#32)) = k0_pay14 (k0_pay11 u) (k0_pay12 u) := by
  rfl
theorem code_21 (u : Vec F S1x14x128 .bf16) : (k0_pay85 (k0_pay81 u) (k0_pay82 u)) = k0_pay13 (k0_pay12 u) := by
  rfl
theorem back_21 (u : Vec F S1x14x128 .bf16) : (k0_pay86 (k0_pay81 u) (k0_pay82 u)) = k0_pay14 (k0_pay11 u) (k0_pay12 u) := by
  rfl
theorem code_22 (u : Vec F S1x14x128 .bf16) : (k0_pay93 (k0_pay87 u) (k0_pay88 u) (k0_pay89) 23#32) = k0_pay13 (k0_pay12 u) := by
  rfl
theorem back_22 (u : Vec F S1x14x128 .bf16) : (k0_pay94 (k0_pay87 u) (k0_pay88 u) (k0_pay89) 23#32) = k0_pay14 (k0_pay11 u) (k0_pay12 u) := by
  rfl
theorem code_23 (u : Vec F S1x14x128 .bf16) : (k0_pay1 (k0_pay98 u)) = k0_pay13 (k0_pay12 u) := by
  rfl
theorem back_23 (u : Vec F S1x14x128 .bf16) : (k0_pay2 (k0_pay97 u) (k0_pay98 u)) = k0_pay14 (k0_pay11 u) (k0_pay12 u) := by
  rfl
theorem scales_0 (u0 u1 u2 u3 : Vec F S1x14x128 .bf16) : (k0_pay36 (k0_pay11 u0) (k0_pay18 (F := F) (k0_pay17 u1)) (k0_pay26 (k0_pay23 u2) (k0_pay24 u2)) (k0_pay32 (k0_pay30 u3))) = k0_pay3 (k0_pay11 u0) (k0_pay11 u1) (k0_pay11 u2) (k0_pay11 u3) := by
  rfl
theorem scales_1 (u0 u1 u2 u3 : Vec F S1x14x128 .bf16) : (k0_pay71 (k0_pay42 (k0_pay39 u0) (k0_pay40 u0)) (k0_pay49 (k0_pay47 u1)) (k0_pay57 u2) (k0_pay64 u3) (k0_pay65 u3)) = k0_pay3 (k0_pay11 u0) (k0_pay11 u1) (k0_pay11 u2) (k0_pay11 u3) := by
  rfl
theorem scales_2 (u0 u1 u2 u3 : Vec F S1x14x128 .bf16) : (k0_pay3 (k0_pay76 u0) (k0_pay83 (F := F) (k0_pay82 u1)) (k0_pay91 (k0_pay88 u2) (k0_pay89) 23#32) (k0_pay97 u3)) = k0_pay3 (k0_pay11 u0) (k0_pay11 u1) (k0_pay11 u2) (k0_pay11 u3) := by
  rfl
end Cert.KernelIdeal.Run

end
-- ==== Proof.KTriplesQ.lean ====
/- What the first point of a call leaves in the buffers of the new tokens. -/
module

public import proofs.«01_k».proof.Proof.KChunks
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- Twelve stores of a group each leave the codes. -/
theorem NC_writes {κ : Kind} {sp : Space} (v : View sig κ sp S3x14x512 .fp8e4m3) (f : v.ty.Contents (Elt F)) (x2 : Vec F S3x14x512 .bf16)
    (p23 : Vec F S1x14x128 .fp8e4m3) (h23 : p23 = k0_pay13 (k0_pay12 (chunk x2 2 3)))
    (p22 : Vec F S1x14x128 .fp8e4m3) (h22 : p22 = k0_pay13 (k0_pay12 (chunk x2 2 2)))
    (p21 : Vec F S1x14x128 .fp8e4m3) (h21 : p21 = k0_pay13 (k0_pay12 (chunk x2 2 1)))
    (p20 : Vec F S1x14x128 .fp8e4m3) (h20 : p20 = k0_pay13 (k0_pay12 (chunk x2 2 0)))
    (p13 : Vec F S1x14x128 .fp8e4m3) (h13 : p13 = k0_pay13 (k0_pay12 (chunk x2 1 3)))
    (p12 : Vec F S1x14x128 .fp8e4m3) (h12 : p12 = k0_pay13 (k0_pay12 (chunk x2 1 2)))
    (p11 : Vec F S1x14x128 .fp8e4m3) (h11 : p11 = k0_pay13 (k0_pay12 (chunk x2 1 1)))
    (p10 : Vec F S1x14x128 .fp8e4m3) (h10 : p10 = k0_pay13 (k0_pay12 (chunk x2 1 0)))
    (p03 : Vec F S1x14x128 .fp8e4m3) (h03 : p03 = k0_pay13 (k0_pay12 (chunk x2 0 3)))
    (p02 : Vec F S1x14x128 .fp8e4m3) (h02 : p02 = k0_pay13 (k0_pay12 (chunk x2 0 2)))
    (p01 : Vec F S1x14x128 .fp8e4m3) (h01 : p01 = k0_pay13 (k0_pay12 (chunk x2 0 1)))
    (p00 : Vec F S1x14x128 .fp8e4m3) (h00 : p00 = k0_pay13 (k0_pay12 (chunk x2 0 0))) :
    v.read (Elt F) (v.writes (Elt F) f [⟨Rect.unit (s := S3x14x512) ![2, 0, 384] S1x14x128.size inb_S3x14x512_S1x14x128_2_0_384, p23⟩, ⟨Rect.unit (s := S3x14x512) ![2, 0, 256] S1x14x128.size inb_S3x14x512_S1x14x128_2_0_256, p22⟩, ⟨Rect.unit (s := S3x14x512) ![2, 0, 128] S1x14x128.size inb_S3x14x512_S1x14x128_2_0_128, p21⟩, ⟨Rect.unit (s := S3x14x512) ![2, 0, 0] S1x14x128.size inb_S3x14x512_S1x14x128_2_0_0, p20⟩, ⟨Rect.unit (s := S3x14x512) ![1, 0, 384] S1x14x128.size inb_S3x14x512_S1x14x128_1_0_384, p13⟩, ⟨Rect.unit (s := S3x14x512) ![1, 0, 256] S1x14x128.size inb_S3x14x512_S1x14x128_1_0_256, p12⟩, ⟨Rect.unit (s := S3x14x512) ![1, 0, 128] S1x14x128.size inb_S3x14x512_S1x14x128_1_0_128, p11⟩, ⟨Rect.unit (s := S3x14x512) ![1, 0, 0] S1x14x128.size inb_S3x14x512_S1x14x128_1_0_0, p10⟩, ⟨Rect.unit (s := S3x14x512) ![0, 0, 384] S1x14x128.size inb_S3x14x512_S1x14x128_0_0_384, p03⟩, ⟨Rect.unit (s := S3x14x512) ![0, 0, 256] S1x14x128.size inb_S3x14x512_S1x14x128_0_0_256, p02⟩, ⟨Rect.unit (s := S3x14x512) ![0, 0, 128] S1x14x128.size inb_S3x14x512_S1x14x128_0_0_128, p01⟩, ⟨Rect.unit (s := S3x14x512) ![0, 0, 0] S1x14x128.size inb_S3x14x512_S1x14x128_0_0_0, p00⟩]) = NC x2 := by
  subst h23; subst h22; subst h21; subst h20; subst h13; subst h12; subst h11; subst h10; subst h03; subst h02; subst h01; subst h00
  funext y
  refine View.read_writes_apply_of_pieces v f (NC x2) _ ?_ y (View.cover_of_tiledL _ ![1, 14, 128] (by sl_kernel_rfl) y)
  exact List.forall_mem_cons.2 ⟨fun x => NC_part x2 2 3 ![2, 0, 384] rfl inb_S3x14x512_S1x14x128_2_0_384 x, List.forall_mem_cons.2 ⟨fun x => NC_part x2 2 2 ![2, 0, 256] rfl inb_S3x14x512_S1x14x128_2_0_256 x, List.forall_mem_cons.2 ⟨fun x => NC_part x2 2 1 ![2, 0, 128] rfl inb_S3x14x512_S1x14x128_2_0_128 x, List.forall_mem_cons.2 ⟨fun x => NC_part x2 2 0 ![2, 0, 0] rfl inb_S3x14x512_S1x14x128_2_0_0 x, List.forall_mem_cons.2 ⟨fun x => NC_part x2 1 3 ![1, 0, 384] rfl inb_S3x14x512_S1x14x128_1_0_384 x, List.forall_mem_cons.2 ⟨fun x => NC_part x2 1 2 ![1, 0, 256] rfl inb_S3x14x512_S1x14x128_1_0_256 x, List.forall_mem_cons.2 ⟨fun x => NC_part x2 1 1 ![1, 0, 128] rfl inb_S3x14x512_S1x14x128_1_0_128 x, List.forall_mem_cons.2 ⟨fun x => NC_part x2 1 0 ![1, 0, 0] rfl inb_S3x14x512_S1x14x128_1_0_0 x, List.forall_mem_cons.2 ⟨fun x => NC_part x2 0 3 ![0, 0, 384] rfl inb_S3x14x512_S1x14x128_0_0_384 x, List.forall_mem_cons.2 ⟨fun x => NC_part x2 0 2 ![0, 0, 256] rfl inb_S3x14x512_S1x14x128_0_0_256 x, List.forall_mem_cons.2 ⟨fun x => NC_part x2 0 1 ![0, 0, 128] rfl inb_S3x14x512_S1x14x128_0_0_128 x, List.forall_mem_cons.2 ⟨fun x => NC_part x2 0 0 ![0, 0, 0] rfl inb_S3x14x512_S1x14x128_0_0_0 x, fun p h => absurd h List.not_mem_nil⟩⟩⟩⟩⟩⟩⟩⟩⟩⟩⟩⟩

/-- Twelve stores of a group each leave the new latents. -/
theorem LN_writes {κ : Kind} {sp : Space} (v : View sig κ sp S3x14x512 .f32) (f : v.ty.Contents (Elt F)) (x2 : Vec F S3x14x512 .bf16)
    (p23 : Vec F S1x14x128 .f32) (h23 : p23 = k0_pay14 (k0_pay11 (chunk x2 2 3)) (k0_pay12 (chunk x2 2 3)))
    (p22 : Vec F S1x14x128 .f32) (h22 : p22 = k0_pay14 (k0_pay11 (chunk x2 2 2)) (k0_pay12 (chunk x2 2 2)))
    (p21 : Vec F S1x14x128 .f32) (h21 : p21 = k0_pay14 (k0_pay11 (chunk x2 2 1)) (k0_pay12 (chunk x2 2 1)))
    (p20 : Vec F S1x14x128 .f32) (h20 : p20 = k0_pay14 (k0_pay11 (chunk x2 2 0)) (k0_pay12 (chunk x2 2 0)))
    (p13 : Vec F S1x14x128 .f32) (h13 : p13 = k0_pay14 (k0_pay11 (chunk x2 1 3)) (k0_pay12 (chunk x2 1 3)))
    (p12 : Vec F S1x14x128 .f32) (h12 : p12 = k0_pay14 (k0_pay11 (chunk x2 1 2)) (k0_pay12 (chunk x2 1 2)))
    (p11 : Vec F S1x14x128 .f32) (h11 : p11 = k0_pay14 (k0_pay11 (chunk x2 1 1)) (k0_pay12 (chunk x2 1 1)))
    (p10 : Vec F S1x14x128 .f32) (h10 : p10 = k0_pay14 (k0_pay11 (chunk x2 1 0)) (k0_pay12 (chunk x2 1 0)))
    (p03 : Vec F S1x14x128 .f32) (h03 : p03 = k0_pay14 (k0_pay11 (chunk x2 0 3)) (k0_pay12 (chunk x2 0 3)))
    (p02 : Vec F S1x14x128 .f32) (h02 : p02 = k0_pay14 (k0_pay11 (chunk x2 0 2)) (k0_pay12 (chunk x2 0 2)))
    (p01 : Vec F S1x14x128 .f32) (h01 : p01 = k0_pay14 (k0_pay11 (chunk x2 0 1)) (k0_pay12 (chunk x2 0 1)))
    (p00 : Vec F S1x14x128 .f32) (h00 : p00 = k0_pay14 (k0_pay11 (chunk x2 0 0)) (k0_pay12 (chunk x2 0 0))) :
    v.read (Elt F) (v.writes (Elt F) f [⟨Rect.unit (s := S3x14x512) ![2, 0, 384] S1x14x128.size inb_S3x14x512_S1x14x128_2_0_384, p23⟩, ⟨Rect.unit (s := S3x14x512) ![2, 0, 256] S1x14x128.size inb_S3x14x512_S1x14x128_2_0_256, p22⟩, ⟨Rect.unit (s := S3x14x512) ![2, 0, 128] S1x14x128.size inb_S3x14x512_S1x14x128_2_0_128, p21⟩, ⟨Rect.unit (s := S3x14x512) ![2, 0, 0] S1x14x128.size inb_S3x14x512_S1x14x128_2_0_0, p20⟩, ⟨Rect.unit (s := S3x14x512) ![1, 0, 384] S1x14x128.size inb_S3x14x512_S1x14x128_1_0_384, p13⟩, ⟨Rect.unit (s := S3x14x512) ![1, 0, 256] S1x14x128.size inb_S3x14x512_S1x14x128_1_0_256, p12⟩, ⟨Rect.unit (s := S3x14x512) ![1, 0, 128] S1x14x128.size inb_S3x14x512_S1x14x128_1_0_128, p11⟩, ⟨Rect.unit (s := S3x14x512) ![1, 0, 0] S1x14x128.size inb_S3x14x512_S1x14x128_1_0_0, p10⟩, ⟨Rect.unit (s := S3x14x512) ![0, 0, 384] S1x14x128.size inb_S3x14x512_S1x14x128_0_0_384, p03⟩, ⟨Rect.unit (s := S3x14x512) ![0, 0, 256] S1x14x128.size inb_S3x14x512_S1x14x128_0_0_256, p02⟩, ⟨Rect.unit (s := S3x14x512) ![0, 0, 128] S1x14x128.size inb_S3x14x512_S1x14x128_0_0_128, p01⟩, ⟨Rect.unit (s := S3x14x512) ![0, 0, 0] S1x14x128.size inb_S3x14x512_S1x14x128_0_0_0, p00⟩]) = LN x2 := by
  subst h23; subst h22; subst h21; subst h20; subst h13; subst h12; subst h11; subst h10; subst h03; subst h02; subst h01; subst h00
  funext y
  refine View.read_writes_apply_of_pieces v f (LN x2) _ ?_ y (View.cover_of_tiledL _ ![1, 14, 128] (by sl_kernel_rfl) y)
  exact List.forall_mem_cons.2 ⟨fun x => LN_part x2 2 3 ![2, 0, 384] rfl inb_S3x14x512_S1x14x128_2_0_384 x, List.forall_mem_cons.2 ⟨fun x => LN_part x2 2 2 ![2, 0, 256] rfl inb_S3x14x512_S1x14x128_2_0_256 x, List.forall_mem_cons.2 ⟨fun x => LN_part x2 2 1 ![2, 0, 128] rfl inb_S3x14x512_S1x14x128_2_0_128 x, List.forall_mem_cons.2 ⟨fun x => LN_part x2 2 0 ![2, 0, 0] rfl inb_S3x14x512_S1x14x128_2_0_0 x, List.forall_mem_cons.2 ⟨fun x => LN_part x2 1 3 ![1, 0, 384] rfl inb_S3x14x512_S1x14x128_1_0_384 x, List.forall_mem_cons.2 ⟨fun x => LN_part x2 1 2 ![1, 0, 256] rfl inb_S3x14x512_S1x14x128_1_0_256 x, List.forall_mem_cons.2 ⟨fun x => LN_part x2 1 1 ![1, 0, 128] rfl inb_S3x14x512_S1x14x128_1_0_128 x, List.forall_mem_cons.2 ⟨fun x => LN_part x2 1 0 ![1, 0, 0] rfl inb_S3x14x512_S1x14x128_1_0_0 x, List.forall_mem_cons.2 ⟨fun x => LN_part x2 0 3 ![0, 0, 384] rfl inb_S3x14x512_S1x14x128_0_0_384 x, List.forall_mem_cons.2 ⟨fun x => LN_part x2 0 2 ![0, 0, 256] rfl inb_S3x14x512_S1x14x128_0_0_256 x, List.forall_mem_cons.2 ⟨fun x => LN_part x2 0 1 ![0, 0, 128] rfl inb_S3x14x512_S1x14x128_0_0_128 x, List.forall_mem_cons.2 ⟨fun x => LN_part x2 0 0 ![0, 0, 0] rfl inb_S3x14x512_S1x14x128_0_0_0 x, fun p h => absurd h List.not_mem_nil⟩⟩⟩⟩⟩⟩⟩⟩⟩⟩⟩⟩

/-- Three stores of a token each leave the scales. -/
theorem NS_writes {κ : Kind} {sp : Space} (v : View sig κ sp S3x14x4 .f32) (f : v.ty.Contents (Elt F)) (x2 : Vec F S3x14x512 .bf16)
    (p2 : Vec F S1x14x4 .f32) (h2 : p2 = k0_pay3 (k0_pay11 (chunk x2 2 0)) (k0_pay11 (chunk x2 2 1)) (k0_pay11 (chunk x2 2 2)) (k0_pay11 (chunk x2 2 3)))
    (p1 : Vec F S1x14x4 .f32) (h1 : p1 = k0_pay3 (k0_pay11 (chunk x2 1 0)) (k0_pay11 (chunk x2 1 1)) (k0_pay11 (chunk x2 1 2)) (k0_pay11 (chunk x2 1 3)))
    (p0 : Vec F S1x14x4 .f32) (h0 : p0 = k0_pay3 (k0_pay11 (chunk x2 0 0)) (k0_pay11 (chunk x2 0 1)) (k0_pay11 (chunk x2 0 2)) (k0_pay11 (chunk x2 0 3))) :
    v.read (Elt F) (v.writes (Elt F) f [⟨Rect.unit (s := S3x14x4) ![2, 0, 0] S1x14x4.size inb_S3x14x4_S1x14x4_2_0_0, p2⟩, ⟨Rect.unit (s := S3x14x4) ![1, 0, 0] S1x14x4.size inb_S3x14x4_S1x14x4_1_0_0, p1⟩, ⟨Rect.unit (s := S3x14x4) ![0, 0, 0] S1x14x4.size inb_S3x14x4_S1x14x4_0_0_0, p0⟩]) = NS x2 := by
  subst h2; subst h1; subst h0
  funext y
  refine View.read_writes_apply_of_pieces v f (NS x2) _ ?_ y (View.cover_of_tiledL _ ![1, 14, 4] (by sl_kernel_rfl) y)
  exact List.forall_mem_cons.2 ⟨fun x => NS_part x2 2 ![2, 0, 0] rfl inb_S3x14x4_S1x14x4_2_0_0 x, List.forall_mem_cons.2 ⟨fun x => NS_part x2 1 ![1, 0, 0] rfl inb_S3x14x4_S1x14x4_1_0_0 x, List.forall_mem_cons.2 ⟨fun x => NS_part x2 0 ![0, 0, 0] rfl inb_S3x14x4_S1x14x4_0_0_0 x, fun p h => absurd h List.not_mem_nil⟩⟩⟩

/-- Three stores of a token each leave the new rotary keys. -/
theorem RN_writes {κ : Kind} {sp : Space} (v : View sig κ sp S3x14x64 .f32) (f : v.ty.Contents (Elt F)) (x3 : Vec F S3x14x64 .bf16)
    (p2 : Vec F S1x14x64 .f32) (h2 : p2 = k0_pay4 (chunkR x3 2))
    (p1 : Vec F S1x14x64 .f32) (h1 : p1 = k0_pay4 (chunkR x3 1))
    (p0 : Vec F S1x14x64 .f32) (h0 : p0 = k0_pay4 (chunkR x3 0)) :
    v.read (Elt F) (v.writes (Elt F) f [⟨Rect.unit (s := S3x14x64) ![2, 0, 0] S1x14x64.size inb_S3x14x64_S1x14x64_2_0_0, p2⟩, ⟨Rect.unit (s := S3x14x64) ![1, 0, 0] S1x14x64.size inb_S3x14x64_S1x14x64_1_0_0, p1⟩, ⟨Rect.unit (s := S3x14x64) ![0, 0, 0] S1x14x64.size inb_S3x14x64_S1x14x64_0_0_0, p0⟩]) = RN x3 := by
  subst h2; subst h1; subst h0
  funext y
  refine View.read_writes_apply_of_pieces v f (RN x3) _ ?_ y (View.cover_of_tiledL _ ![1, 14, 64] (by sl_kernel_rfl) y)
  exact List.forall_mem_cons.2 ⟨fun x => RN_part x3 2 ![2, 0, 0] rfl inb_S3x14x64_S1x14x64_2_0_0 x, List.forall_mem_cons.2 ⟨fun x => RN_part x3 1 ![1, 0, 0] rfl inb_S3x14x64_S1x14x64_1_0_0 x, List.forall_mem_cons.2 ⟨fun x => RN_part x3 0 ![0, 0, 0] rfl inb_S3x14x64_S1x14x64_0_0_0 x, fun p h => absurd h List.not_mem_nil⟩⟩⟩

set_option maxHeartbeats 1000000 in
/-- The first point of a call quantises the new tokens. -/
theorem secQ_pos (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (hc : cond0_0 i)
    (x2 : Vec F S3x14x512 .bf16) (x3 : Vec F S3x14x64 .bf16) (y8 : Vec F S3x14x512 .fp8e4m3) (y9 : Vec F S3x14x4 .f32) (s4 : Vec F S3x14x512 .f32) (s5 : Vec F S3x14x64 .f32)
    (E : Set ℕ) (K : PUnit → sProp 𝕄) :
    iprop(owns (c : Thread nD τ) arg5 fullShare x2 ∗ owns (c : Thread nD τ) arg6 fullShare x3 ∗ owns (c : Thread nD τ) arg11 fullShare y8 ∗ owns (c : Thread nD τ) arg12 fullShare y9 ∗ owns (c : Thread nD τ) arg17 fullShare s4 ∗ owns (c : Thread nD τ) arg18 fullShare s5
        ∗ (iprop(owns (c : Thread nD τ) arg5 fullShare x2 ∗ owns (c : Thread nD τ) arg6 fullShare x3 ∗ owns (c : Thread nD τ) arg11 fullShare (NC x2) ∗ owns (c : Thread nD τ) arg12 fullShare (NS x2) ∗ owns (c : Thread nD τ) arg17 fullShare (LN x2) ∗ owns (c : Thread nD τ) arg18 fullShare (RN x3)) -∗ K ⟨⟩))
      ⊢ wp frame (wpE (defs₀ (F := F)) Variants.none c none) E (secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  unfold secQ
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
  unfold owns
  iintro ⟨⟨%f5, %hf5, H5⟩, ⟨%f6, %hf6, H6⟩, ⟨%f11, %hf11, H11⟩, ⟨%f12, %hf12, H12⟩, ⟨%f17, %hf17, H17⟩, ⟨%f18, %hf18, H18⟩, Hk⟩
  obtain rfl := harg5.eq_unread hf5; obtain rfl := harg6.eq_unread hf6; obtain rfl := harg11.eq_unread hf11; obtain rfl := harg12.eq_unread hf12; obtain rfl := harg17.eq_unread hf17; obtain rfl := harg18.eq_unread hf18
  sl_exec (disch := first | sl_exact hc)
  sl_step
  iapply Hk
  isplitl [H5]
  · iexists _; isplitr; swap; · iexact H5
    ipureintro; exact harg5.read_unread _
  isplitl [H6]
  · iexists _; isplitr; swap; · iexact H6
    ipureintro; exact harg6.read_unread _
  isplitl [H11]
  · iexists _; isplitr; swap; · iexact H11
    ipureintro; exact NC_writes _ _ x2 _ ((congrArg (fun u => (k0_pay1 (k0_pay98 u))) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (code_23 _)) _ ((congrArg (fun u => (k0_pay93 (k0_pay87 u) (k0_pay88 u) (k0_pay89) 23#32)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256))).trans (code_22 _)) _ ((congrArg (fun u => (k0_pay85 (k0_pay81 u) (k0_pay82 u))) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128))).trans (code_21 _)) _ ((congrArg (fun u => (k0_pay79 (k0_pay77 u) (Scalar.ofBits .f32 0xC3E00000#32) (Scalar.ofBits .f32 0x43E00000#32))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0))).trans (code_20 _)) _ ((congrArg (fun u => (k0_pay69 (k0_pay62 u) (k0_pay64 u) (k0_pay65 u))) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (code_13 _)) _ ((congrArg (fun u => (k0_pay60 (k0_pay55 u) (k0_pay58 u))) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256))).trans (code_12 _)) _ ((congrArg (fun u => (k0_pay51 (k0_pay46 u) (k0_pay47 u))) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128))).trans (code_11 _)) _ ((congrArg (fun u => (k0_pay44 (k0_pay38 u) (k0_pay39 u) (k0_pay40 u))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0))).trans (code_10 _)) _ ((congrArg (fun u => (k0_pay34 (k0_pay30 u))) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (code_03 _)) _ ((congrArg (fun u => (k0_pay28 (k0_pay22 u) (k0_pay23 u) (k0_pay24 u))) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256))).trans (code_02 _)) _ ((congrArg (fun u => (k0_pay20 (k0_pay15 u) (k0_pay16 u))) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128))).trans (code_01 _)) _ ((congrArg (fun u => (k0_pay13 (k0_pay12 u))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0))).trans (code_00 _))
  isplitl [H12]
  · iexists _; isplitr; swap; · iexact H12
    ipureintro; exact NS_writes _ _ x2 _ ((cong4 (fun u0 u1 u2 u3 => (k0_pay3 (k0_pay76 u0) (k0_pay83 (F := F) (k0_pay82 u1)) (k0_pay91 (k0_pay88 u2) (k0_pay89) 23#32) (k0_pay97 u3))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0)) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256)) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (scales_2 _ _ _ _)) _ ((cong4 (fun u0 u1 u2 u3 => (k0_pay71 (k0_pay42 (k0_pay39 u0) (k0_pay40 u0)) (k0_pay49 (k0_pay47 u1)) (k0_pay57 u2) (k0_pay64 u3) (k0_pay65 u3))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0)) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128)) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256)) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (scales_1 _ _ _ _)) _ ((cong4 (fun u0 u1 u2 u3 => (k0_pay36 (k0_pay11 u0) (k0_pay18 (F := F) (k0_pay17 u1)) (k0_pay26 (k0_pay23 u2) (k0_pay24 u2)) (k0_pay32 (k0_pay30 u3)))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0)) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128)) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256)) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (scales_0 _ _ _ _))
  isplitl [H17]
  · iexists _; isplitr; swap; · iexact H17
    ipureintro; exact LN_writes _ _ x2 _ ((congrArg (fun u => (k0_pay2 (k0_pay97 u) (k0_pay98 u))) ((readAt_rect harg5 x2 (Rect.unit (s := S3x14x512) ![2, 0, 384] S1x14x128.size inb_S3x14x512_S1x14x128_2_0_384)).trans (ld_chunk x2 2 3 ![2, 0, 384] rfl inb_S3x14x512_S1x14x128_2_0_384))).trans (back_23 _)) _ ((congrArg (fun u => (k0_pay94 (k0_pay87 u) (k0_pay88 u) (k0_pay89) 23#32)) ((readAt_rect harg5 x2 (Rect.unit (s := S3x14x512) ![2, 0, 256] S1x14x128.size inb_S3x14x512_S1x14x128_2_0_256)).trans (ld_chunk x2 2 2 ![2, 0, 256] rfl inb_S3x14x512_S1x14x128_2_0_256))).trans (back_22 _)) _ ((congrArg (fun u => (k0_pay86 (k0_pay81 u) (k0_pay82 u))) ((readAt_rect harg5 x2 (Rect.unit (s := S3x14x512) ![2, 0, 128] S1x14x128.size inb_S3x14x512_S1x14x128_2_0_128)).trans (ld_chunk x2 2 1 ![2, 0, 128] rfl inb_S3x14x512_S1x14x128_2_0_128))).trans (back_21 _)) _ ((congrArg (fun u => (k0_pay80 (k0_pay76 u) (k0_pay77 u) (Scalar.ofBits .f32 0xC3E00000#32) (Scalar.ofBits .f32 0x43E00000#32))) ((readAt_rect harg5 x2 (Rect.unit (s := S3x14x512) ![2, 0, 0] S1x14x128.size inb_S3x14x512_S1x14x128_2_0_0)).trans (ld_chunk x2 2 0 ![2, 0, 0] rfl inb_S3x14x512_S1x14x128_2_0_0))).trans (back_20 _)) _ ((congrArg (fun u => (k0_pay70 (k0_pay62 u) (k0_pay64 u) (k0_pay65 u))) ((readAt_rect harg5 x2 (Rect.unit (s := S3x14x512) ![1, 0, 384] S1x14x128.size inb_S3x14x512_S1x14x128_1_0_384)).trans (ld_chunk x2 1 3 ![1, 0, 384] rfl inb_S3x14x512_S1x14x128_1_0_384))).trans (back_13 _)) _ ((congrArg (fun u => (k0_pay61 (k0_pay55 u) (k0_pay57 u) (k0_pay58 u))) ((readAt_rect harg5 x2 (Rect.unit (s := S3x14x512) ![1, 0, 256] S1x14x128.size inb_S3x14x512_S1x14x128_1_0_256)).trans (ld_chunk x2 1 2 ![1, 0, 256] rfl inb_S3x14x512_S1x14x128_1_0_256))).trans (back_12 _)) _ ((congrArg (fun u => (k0_pay54 (k0_pay52 (k0_pay46 u) (k0_pay47 u)) (k0_pay53 (k0_pay47 u)))) ((readAt_rect harg5 x2 (Rect.unit (s := S3x14x512) ![1, 0, 128] S1x14x128.size inb_S3x14x512_S1x14x128_1_0_128)).trans (ld_chunk x2 1 1 ![1, 0, 128] rfl inb_S3x14x512_S1x14x128_1_0_128))).trans (back_11 _)) _ ((congrArg (fun u => (k0_pay45 (k0_pay38 u) (k0_pay39 u) (k0_pay40 u))) ((readAt_rect harg5 x2 (Rect.unit (s := S3x14x512) ![1, 0, 0] S1x14x128.size inb_S3x14x512_S1x14x128_1_0_0)).trans (ld_chunk x2 1 0 ![1, 0, 0] rfl inb_S3x14x512_S1x14x128_1_0_0))).trans (back_10 _)) _ ((congrArg (fun u => (k0_pay35 (k0_pay32 (k0_pay30 u)) (k0_pay33 (k0_pay30 u)))) ((readAt_rect harg5 x2 (Rect.unit (s := S3x14x512) ![0, 0, 384] S1x14x128.size inb_S3x14x512_S1x14x128_0_0_384)).trans (ld_chunk x2 0 3 ![0, 0, 384] rfl inb_S3x14x512_S1x14x128_0_0_384))).trans (back_03 _)) _ ((congrArg (fun u => (k0_pay29 (k0_pay22 u) (k0_pay23 u) (k0_pay24 u))) ((readAt_rect harg5 x2 (Rect.unit (s := S3x14x512) ![0, 0, 256] S1x14x128.size inb_S3x14x512_S1x14x128_0_0_256)).trans (ld_chunk x2 0 2 ![0, 0, 256] rfl inb_S3x14x512_S1x14x128_0_0_256))).trans (back_02 _)) _ ((congrArg (fun u => (k0_pay21 (k0_pay15 u) (k0_pay16 u) (k0_pay17 u))) ((readAt_rect harg5 x2 (Rect.unit (s := S3x14x512) ![0, 0, 128] S1x14x128.size inb_S3x14x512_S1x14x128_0_0_128)).trans (ld_chunk x2 0 1 ![0, 0, 128] rfl inb_S3x14x512_S1x14x128_0_0_128))).trans (back_01 _)) _ ((congrArg (fun u => (k0_pay14 (k0_pay11 u) (k0_pay12 u))) ((readAt_rect harg5 x2 (Rect.unit (s := S3x14x512) ![0, 0, 0] S1x14x128.size inb_S3x14x512_S1x14x128_0_0_0)).trans (ld_chunk x2 0 0 ![0, 0, 0] rfl inb_S3x14x512_S1x14x128_0_0_0))).trans (back_00 _))
  iexists _; isplitr; swap; · iexact H18
  ipureintro; exact RN_writes _ _ x3 _ (congrArg k0_pay4 ((readAt_rect harg6 x3 _).trans (ld_chunkR x3 2 ![2, 0, 0] rfl inb_S3x14x64_S1x14x64_2_0_0))) _ (congrArg k0_pay4 ((readAt_rect harg6 x3 _).trans (ld_chunkR x3 1 ![1, 0, 0] rfl inb_S3x14x64_S1x14x64_1_0_0))) _ (congrArg k0_pay4 ((readAt_rect harg6 x3 _).trans (ld_chunkR x3 0 ![0, 0, 0] rfl inb_S3x14x64_S1x14x64_0_0_0)))

end Cert.KernelIdeal.Run

end
-- ==== Proof.KBody.lean ====
/- What the whole body leaves at a grid point, section by section. -/
module

public import proofs.«01_k».proof.Proof.KTriplesI
public import proofs.«01_k».proof.Proof.KTriplesQ
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the kernel carries from point to point: the rotary queries, the weighted sum, the maximum, the sum, and the new latents and rotary keys. -/
structure St (F : FTy → Type) [FloatOps F] [Named F] where
  qr : Vec F S288x64 .bf16
  acc : Vec F S288x512 .f32
  mx : Vec F S288x128 .f32
  sm : Vec F S288x128 .f32
  ln : Vec F S3x14x512 .f32
  rn : Vec F S3x14x64 .f32

/-- The state after a batch's first section, given the new latents and rotary keys. -/
def initSt (i : grid0.Coords) (x0 : Vec F S1x288x512 .bf16) (x1 : Vec F S1x3x64x96 .bf16) (s4 : Vec F S3x14x512 .f32) (s5 : Vec F S3x14x64 .f32) : St F :=
  ⟨QR x1, iA x0 x1 s4 s5 (i 0), iM x0 x1 s4 s5 (i 0), iL x0 x1 s4 s5 (i 0), s4, s5⟩

/-- The state after the section of the cache block. -/
def scoreSt (i : grid0.Coords) (v1 : Elt F .i32) (x0 : Vec F S1x288x512 .bf16) (x4 : Vec F S1x512x512 .fp8e4m3) (x5 : Vec F S1x4x512 .f32) (x6 : Vec F S1x64x512 .bf16) (st : St F) : St F :=
  if cond0_2 i v1 then ⟨st.qr, sA i v1 x0 st.qr x4 x5 x6 st.mx st.acc, sM i v1 x0 st.qr x4 x5 x6 st.mx, sL i v1 x0 st.qr x4 x5 x6 st.mx st.sm, st.ln, st.rn⟩ else st

/-- The state after the section of the new tokens. -/
def quantSt (i : grid0.Coords) (x2 : Vec F S3x14x512 .bf16) (x3 : Vec F S3x14x64 .bf16) (st : St F) : St F :=
  if cond0_0 i then ⟨st.qr, st.acc, st.mx, st.sm, LN x2, RN x3⟩ else st

/-- The state after a batch's first section, where it runs. -/
def startSt (i : grid0.Coords) (x0 : Vec F S1x288x512 .bf16) (x1 : Vec F S1x3x64x96 .bf16) (st : St F) : St F :=
  if cond0_1 i then initSt i x0 x1 st.ln st.rn else st

/-- The state after a point. -/
def stepSt (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (st : St F) : St F :=
  scoreSt i v1 x0 x4 x5 x6 (startSt i x0 x1 (quantSt i x2 x3 st))

/-- The body's memrefs at their contents. -/
def All (c : Dev nD) (arg3 : Memref sig .tc .vmem S1x288x512 .bf16) (arg4 : Memref sig .tc .vmem S1x3x64x96 .bf16) (arg5 : Memref sig .tc .vmem S3x14x512 .bf16) (arg6 : Memref sig .tc .vmem S3x14x64 .bf16) (arg7 : Memref sig .tc .vmem S1x512x512 .fp8e4m3) (arg8 : Memref sig .tc .vmem S1x4x512 .f32) (arg9 : Memref sig .tc .vmem S1x64x512 .bf16) (arg10 : Memref sig .tc .vmem S1x288x512 .bf16) (arg11 : Memref sig .tc .vmem S3x14x512 .fp8e4m3) (arg12 : Memref sig .tc .vmem S3x14x4 .f32) (arg13 : Memref sig .tc .vmem S288x64 .bf16) (arg14 : Memref sig .tc .vmem S288x512 .f32) (arg15 : Memref sig .tc .vmem S288x128 .f32) (arg16 : Memref sig .tc .vmem S288x128 .f32) (arg17 : Memref sig .tc .vmem S3x14x512 .f32) (arg18 : Memref sig .tc .vmem S3x14x64 .f32)  (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) : sProp 𝕄 :=
  iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare y7 ∗ owns (c : Thread nD τ) arg11 fullShare y8 ∗ owns (c : Thread nD τ) arg12 fullShare y9 ∗ owns (c : Thread nD τ) arg13 fullShare st.qr ∗ owns (c : Thread nD τ) arg14 fullShare st.acc ∗ owns (c : Thread nD τ) arg15 fullShare st.mx ∗ owns (c : Thread nD τ) arg16 fullShare st.sm ∗ owns (c : Thread nD τ) arg17 fullShare st.ln ∗ owns (c : Thread nD τ) arg18 fullShare st.rn)

/-- The section of the new tokens. -/
theorem secQ_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 (if cond0_0 i then NC x2 else y8) (if cond0_0 i then NS x2 else y9) (quantSt i x2 x3 st)) -∗ K ⟨⟩))
      ⊢ wp frame (wpE (defs₀ (F := F)) Variants.none c none) E (secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_0 i
  · unfold All quantSt
    simp only [if_pos hc]
    iintro ⟨⟨H3, H4, H5, H6, H7, H8, H9, H10, H11, H12, H13, H14, H15, H16, H17, H18⟩, Hk⟩
    iapply (secQ_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x2 x3 y8 y9 (st.ln) (st.rn) E K)
    isplitl [H5]; · iexact H5
    isplitl [H6]; · iexact H6
    isplitl [H11]; · iexact H11
    isplitl [H12]; · iexact H12
    isplitl [H17]; · iexact H17
    isplitl [H18]; · iexact H18
    iintro ⟨H5, H6, H11, H12, H17, H18⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secQ (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secQ; exact dif_neg hc
    rw [e, wp_pure]
    unfold quantSt
    simp only [if_neg hc]
    iintro ⟨H, Hk⟩
    imodintro
    iapply Hk
    iexact H

/-- A batch's first section. -/
theorem secI_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 y8 y9 (startSt i x0 x1 st)) -∗ K ⟨⟩))
      ⊢ wp frame (wpE (defs₀ (F := F)) Variants.none c none) E (secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_1 i
  · unfold All startSt initSt
    simp only [if_pos hc]
    iintro ⟨⟨H3, H4, H5, H6, H7, H8, H9, H10, H11, H12, H13, H14, H15, H16, H17, H18⟩, Hk⟩
    iapply (secI_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc x0 x1 (st.qr) (st.acc) (st.mx) (st.sm) (st.ln) (st.rn) E K)
    isplitl [H3]; · iexact H3
    isplitl [H4]; · iexact H4
    isplitl [H13]; · iexact H13
    isplitl [H14]; · iexact H14
    isplitl [H15]; · iexact H15
    isplitl [H16]; · iexact H16
    isplitl [H17]; · iexact H17
    isplitl [H18]; · iexact H18
    iintro ⟨H3, H4, H13, H14, H15, H16, H17, H18⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secI (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secI; exact dif_neg hc
    rw [e, wp_pure]
    unfold startSt
    simp only [if_neg hc]
    iintro ⟨H, Hk⟩
    imodintro
    iapply Hk
    iexact H

/-- The section of the cache block. -/
theorem secS_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 y7 y8 y9 (scoreSt i v1 x0 x4 x5 x6 st)) -∗ K ⟨⟩))
      ⊢ wp frame (wpE (defs₀ (F := F)) Variants.none c none) E (secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1) K := by
  by_cases hc : cond0_2 i v1
  · unfold All scoreSt
    simp only [if_pos hc]
    iintro ⟨⟨H3, H4, H5, H6, H7, H8, H9, H10, H11, H12, H13, H14, H15, H16, H17, H18⟩, Hk⟩
    iapply (secS_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 hc x0 x4 x5 x6 (st.qr) (st.acc) (st.mx) (st.sm) E K)
    isplitl [H3]; · iexact H3
    isplitl [H7]; · iexact H7
    isplitl [H8]; · iexact H8
    isplitl [H9]; · iexact H9
    isplitl [H13]; · iexact H13
    isplitl [H14]; · iexact H14
    isplitl [H15]; · iexact H15
    isplitl [H16]; · iexact H16
    iintro ⟨H3, H7, H8, H9, H13, H14, H15, H16⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secS (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 = pure ⟨⟩ := by unfold secS; exact if_neg hc
    rw [e, wp_pure]
    unfold scoreSt
    simp only [if_neg hc]
    iintro ⟨H, Hk⟩
    imodintro
    iapply Hk
    iexact H

/-- A batch's last section. -/
theorem secF_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st ∗ (iprop(All c arg3 arg4 arg5 arg6 arg7 arg8 arg9 arg10 arg11 arg12 arg13 arg14 arg15 arg16 arg17 arg18 x0 x1 x2 x3 x4 x5 x6 (if cond0_3 i then fO st.acc st.sm else y7) y8 y9 st) -∗ K ⟨⟩))
      ⊢ wp frame (wpE (defs₀ (F := F)) Variants.none c none) E (secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  by_cases hc : cond0_3 i
  · unfold All
    simp only [if_pos hc]
    iintro ⟨⟨H3, H4, H5, H6, H7, H8, H9, H10, H11, H12, H13, H14, H15, H16, H17, H18⟩, Hk⟩
    iapply (secF_pos c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc y7 (st.acc) (st.sm) E K)
    isplitl [H10]; · iexact H10
    isplitl [H14]; · iexact H14
    isplitl [H16]; · iexact H16
    iintro ⟨H10, H14, H16⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · have e : secF (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 = pure ⟨⟩ := by unfold secF; exact dif_neg hc
    rw [e, wp_pure]
    simp only [if_neg hc]
    iintro ⟨H, Hk⟩
    imodintro
    iapply Hk
    iexact H

/-- The body after the load of the batch's length. -/
theorem rest_all (c : Dev nD) (i : grid0.Coords) (arg2 : Memref sig .tc .smem S14 .i32) (harg2 : arg2.IsWhole) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (v1 : Elt F .i32)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(All c arg3 arg4 arg5 arg6 arg7 arg8 arg9 arg10 arg11 arg12 arg13 arg14 arg15 arg16 arg17 arg18 x0 x1 x2 x3 x4 x5 x6 y7 y8 y9 st
        ∗ (iprop(All c arg3 arg4 arg5 arg6 arg7 arg8 arg9 arg10 arg11 arg12 arg13 arg14 arg15 arg16 arg17 arg18 x0 x1 x2 x3 x4 x5 x6 (if cond0_3 i then fO (stepSt i v1 x0 x1 x2 x3 x4 x5 x6 st).acc (stepSt i v1 x0 x1 x2 x3 x4 x5 x6 st).sm else y7) (if cond0_0 i then NC x2 else y8) (if cond0_0 i then NS x2 else y9) (stepSt i v1 x0 x1 x2 x3 x4 x5 x6 st)) -∗ K ⟨⟩))
      ⊢ wp frame (wpE (defs₀ (F := F)) Variants.none c none) E (do
        secQ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        secI i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18
        secS i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1
        secF i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [wp_bind, wp_bind, wp_bind]
  iintro ⟨H, Hk⟩
  iapply secQ_all
  isplitl [H]; · iexact H
  iintro H
  iapply secI_all
  isplitl [H]; · iexact H
  iintro H
  iapply secS_all
  isplitl [H]; · iexact H
  iintro H
  iapply secF_all
  isplitl [H]; · iexact H
  iintro H
  iapply Hk
  iexact H

end Cert.KernelIdeal.Run

end
-- ==== Proof.KRun.lean ====
/- The run of the whole program, with what every array holds at the end. -/
module

public import proofs.«01_k».proof.Proof.KBody
public import proofs.«01_k».proof.Proof.KBase
public import Idealize.ShloMosaic.Lib.Pipeline.TableIdle
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The word of the table that a point reads: the number of cached tokens of its batch. -/
def lenW (i : grid0.Coords) (f : tbM0_0.view.ty.Contents (Elt F)) : Elt F .i32 :=
  tbM0_0.view.readAt (Elt F) (Rect.unit (s := S14) (k0_off1 i) S1.size (k0_off1_inb i)).toLoadRect f (Shape.Idx.first (numel1_S1.symm ▸ Nat.one_pos))

/-- The whole body, the table read first. -/
theorem body_all (c : Dev nD) (i : grid0.Coords) (arg3 : Memref sig .tc .vmem S1x288x512 .bf16) (harg3 : arg3.IsWhole) (arg4 : Memref sig .tc .vmem S1x3x64x96 .bf16) (harg4 : arg4.IsWhole) (arg5 : Memref sig .tc .vmem S3x14x512 .bf16) (harg5 : arg5.IsWhole) (arg6 : Memref sig .tc .vmem S3x14x64 .bf16) (harg6 : arg6.IsWhole) (arg7 : Memref sig .tc .vmem S1x512x512 .fp8e4m3) (harg7 : arg7.IsWhole) (arg8 : Memref sig .tc .vmem S1x4x512 .f32) (harg8 : arg8.IsWhole) (arg9 : Memref sig .tc .vmem S1x64x512 .bf16) (harg9 : arg9.IsWhole) (arg10 : Memref sig .tc .vmem S1x288x512 .bf16) (harg10 : arg10.IsWhole) (arg11 : Memref sig .tc .vmem S3x14x512 .fp8e4m3) (harg11 : arg11.IsWhole) (arg12 : Memref sig .tc .vmem S3x14x4 .f32) (harg12 : arg12.IsWhole) (arg13 : Memref sig .tc .vmem S288x64 .bf16) (harg13 : arg13.IsWhole) (arg14 : Memref sig .tc .vmem S288x512 .f32) (harg14 : arg14.IsWhole) (arg15 : Memref sig .tc .vmem S288x128 .f32) (harg15 : arg15.IsWhole) (arg16 : Memref sig .tc .vmem S288x128 .f32) (harg16 : arg16.IsWhole) (arg17 : Memref sig .tc .vmem S3x14x512 .f32) (harg17 : arg17.IsWhole) (arg18 : Memref sig .tc .vmem S3x14x64 .f32) (harg18 : arg18.IsWhole) (ft : TbBuf0 (F := F) c tbM0_0)
    (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (y7 : Vec F S1x288x512 .bf16) (y8 : Vec F S3x14x512 .fp8e4m3) (y9 : Vec F S3x14x4 .f32) (st : St F) (E : Set ℕ) (K : PUnit → sProp 𝕄) :
    iprop(tbPt0 c tbM0_0 ft ∗ All c arg3 arg4 arg5 arg6 arg7 arg8 arg9 arg10 arg11 arg12 arg13 arg14 arg15 arg16 arg17 arg18 x0 x1 x2 x3 x4 x5 x6 y7 y8 y9 st
        ∗ (iprop(tbPt0 c tbM0_0 ft ∗ All c arg3 arg4 arg5 arg6 arg7 arg8 arg9 arg10 arg11 arg12 arg13 arg14 arg15 arg16 arg17 arg18 x0 x1 x2 x3 x4 x5 x6 (if cond0_3 i then fO (stepSt i (lenW i ft) x0 x1 x2 x3 x4 x5 x6 st).acc (stepSt i (lenW i ft) x0 x1 x2 x3 x4 x5 x6 st).sm else y7) (if cond0_0 i then NC x2 else y8) (if cond0_0 i then NS x2 else y9) (stepSt i (lenW i ft) x0 x1 x2 x3 x4 x5 x6 st)) -∗ K ⟨⟩))
      ⊢ wp frame (wpE (defs₀ (F := F)) Variants.none c none) E (cc0_mla_decode i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  rw [body_eq, wp_bind]
  iintro ⟨HT, H, Hk⟩
  unfold smemLoad smemLoadElt
  sl_step
  sl_step
  iapply (rest_all c i tbM0_0 htbM0_0 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (lenW i ft) x0 x1 x2 x3 x4 x5 x6 y7 y8 y9 st E K)
  isplitl [H]; · iexact H
  iintro H
  iapply Hk
  isplitl [HT]; · iexact HT
  iexact H

variable (m : (ℓ : Loc nD τ sig) → Buf (Elt F) ℓ) (ρ : Dev nD → PrngReg)

/-- The block of window 0 at a point, at its literal shape. -/
abbrev X0 (hO : Ok m) (c : Dev nD) (t : Fin (cfgM m hO).N) : Vec F S1x288x512 .bf16 := iblk m hO c 0 t
/-- The block of window 1 at a point, at its literal shape. -/
abbrev X1 (hO : Ok m) (c : Dev nD) (t : Fin (cfgM m hO).N) : Vec F S1x3x64x96 .bf16 := iblk m hO c 1 t
/-- The block of window 2 at a point, at its literal shape. -/
abbrev X2 (hO : Ok m) (c : Dev nD) (t : Fin (cfgM m hO).N) : Vec F S3x14x512 .bf16 := iblk m hO c 2 t
/-- The block of window 3 at a point, at its literal shape. -/
abbrev X3 (hO : Ok m) (c : Dev nD) (t : Fin (cfgM m hO).N) : Vec F S3x14x64 .bf16 := iblk m hO c 3 t
/-- The block of window 4 at a point, at its literal shape. -/
abbrev X4 (hO : Ok m) (c : Dev nD) (t : Fin (cfgM m hO).N) : Vec F S1x512x512 .fp8e4m3 := iblk m hO c 4 t
/-- The block of window 5 at a point, at its literal shape. -/
abbrev X5 (hO : Ok m) (c : Dev nD) (t : Fin (cfgM m hO).N) : Vec F S1x4x512 .f32 := iblk m hO c 5 t
/-- The block of window 6 at a point, at its literal shape. -/
abbrev X6 (hO : Ok m) (c : Dev nD) (t : Fin (cfgM m hO).N) : Vec F S1x64x512 .bf16 := iblk m hO c 6 t
/-- The table's contents. -/
abbrev tab : tbM0_0.view.ty.Contents (Elt F) := tbl m 0

/-- What a point starts from if it is the call's first. -/
def firstSt (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) : St F :=
  scoreSt i v1 x0 x4 x5 x6 (initSt i x0 x1 (LN x2) (RN x3))

/-- At a point that starts the call and a batch nothing of the state before is left. -/
theorem stepSt_first (i : grid0.Coords) (v1 : Elt F .i32) (x0 : Vec F S1x288x512 .bf16) (x1 : Vec F S1x3x64x96 .bf16) (x2 : Vec F S3x14x512 .bf16) (x3 : Vec F S3x14x64 .bf16) (x4 : Vec F S1x512x512 .fp8e4m3) (x5 : Vec F S1x4x512 .f32) (x6 : Vec F S1x64x512 .bf16) (st : St F) (h0 : cond0_0 i) (h1 : cond0_1 i) :
    stepSt i v1 x0 x1 x2 x3 x4 x5 x6 st = firstSt i v1 x0 x1 x2 x3 x4 x5 x6 := by
  unfold stepSt firstSt quantSt startSt; rw [if_pos h0, if_pos h1]

/-- The carried state after each point. -/
def stAt (hO : Ok m) (c : Dev nD) : (n : ℕ) → n < (cfgM m hO).N → St F
  | 0, h => firstSt (grid0.coords ⟨0, h⟩) (lenW (grid0.coords ⟨0, h⟩) (tab m)) (X0 m hO c ⟨0, h⟩) (X1 m hO c ⟨0, h⟩) (X2 m hO c ⟨0, h⟩) (X3 m hO c ⟨0, h⟩) (X4 m hO c ⟨0, h⟩) (X5 m hO c ⟨0, h⟩) (X6 m hO c ⟨0, h⟩)
  | n + 1, h => stepSt (grid0.coords ⟨n + 1, h⟩) (lenW (grid0.coords ⟨n + 1, h⟩) (tab m)) (X0 m hO c ⟨n + 1, h⟩) (X1 m hO c ⟨n + 1, h⟩) (X2 m hO c ⟨n + 1, h⟩) (X3 m hO c ⟨n + 1, h⟩) (X4 m hO c ⟨n + 1, h⟩) (X5 m hO c ⟨n + 1, h⟩) (X6 m hO c ⟨n + 1, h⟩) (stAt hO c n (Nat.lt_of_succ_lt h))

/-- The region's invariant: before the first point every scratch at anything, afterwards at the carried state. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare (stAt m hO c n hn).qr ∗ owns (c : Thread nD τ) scM0_1 fullShare (stAt m hO c n hn).acc ∗ owns (c : Thread nD τ) scM0_2 fullShare (stAt m hO c n hn).mx ∗ owns (c : Thread nD τ) scM0_3 fullShare (stAt m hO c n hn).sm ∗ owns (c : Thread nD τ) scM0_4 fullShare (stAt m hO c n hn).ln ∗ owns (c : Thread nD τ) scM0_5 fullShare (stAt m hO c n hn).rn) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare (stAt m hO c n hn).qr ∗ owns (c : Thread nD τ) scM0_1 fullShare (stAt m hO c n hn).acc ∗ owns (c : Thread nD τ) scM0_2 fullShare (stAt m hO c n hn).mx ∗ owns (c : Thread nD τ) scM0_3 fullShare (stAt m hO c n hn).sm ∗ owns (c : Thread nD τ) scM0_4 fullShare (stAt m hO c n hn).ln ∗ owns (c : Thread nD τ) scM0_5 fullShare (stAt m hO c n hn).rn) ∗ (∃ r, prngReg c r)) ∗ Pipeline.ΦT pre0 (tbl m) c) := rfl

theorem N_pos (hO : Ok m) : 0 < (cfgM m hO).N := lt_of_lt_of_eq (by norm_num) (show 168 = (cfgM m hO).N from N_0.symm)

/-- The proof data: every input's buffer at its block, the output block at the weighted sum over the sum of the state, the codes and the scales at the first point's. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => fO (stAt m hO c t.val t.isLt).acc (stAt m hO c t.val t.isLt).sm
    | ⟨8, _⟩ => NC (X2 m hO c ⟨0, N_pos m hO⟩)
    | ⟨9, _⟩ => NS (X2 m hO c ⟨0, N_pos m hO⟩)
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

/-- What window 7 is handed with, at its literal shape. -/
abbrev Y7 (hO : Ok m) (c : Dev nD) (t : Fin (cfgM m hO).N) (d : ((cfgM m hO).win 7).block.Idx → Elt F ((cfgM m hO).win 7).elt) : Vec F S1x288x512 .bf16 := (dats m hO 0 c).before 7 t d
/-- What window 8 is handed with, at its literal shape. -/
abbrev Y8 (hO : Ok m) (c : Dev nD) (t : Fin (cfgM m hO).N) (d : ((cfgM m hO).win 8).block.Idx → Elt F ((cfgM m hO).win 8).elt) : Vec F S3x14x512 .fp8e4m3 := (dats m hO 0 c).before 8 t d
/-- What window 9 is handed with, at its literal shape. -/
abbrev Y9 (hO : Ok m) (c : Dev nD) (t : Fin (cfgM m hO).N) (d : ((cfgM m hO).win 9).block.Idx → Elt F ((cfgM m hO).win 9).elt) : Vec F S3x14x4 .f32 := (dats m hO 0 c).before 9 t d

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = fO (stAt m hO c t.val t.isLt).acc (stAt m hO c t.val t.isLt).sm := by dsimp only [dats]; try rfl
theorem after0_8 (hO : Ok m) (c : Dev nD) (t : Fin (cfgM m hO).N) : (dats m hO 0 c).after 8 t = NC (X2 m hO c ⟨0, N_pos m hO⟩) := by dsimp only [dats]; try rfl
theorem after0_9 (hO : Ok m) (c : Dev nD) (t : Fin (cfgM m hO).N) : (dats m hO 0 c).after 9 t = NS (X2 m hO c ⟨0, N_pos m hO⟩) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

theorem idle0_8 (hO : Ok m) (t : Fin (cfgM m hO).N) : (cfgM m hO).idle 8 ((cfgM m hO).grid.coords t) = !decide (t.val % 168 = 0) := by
  show (!(k0_cond1 (grid0.coords t) == 1#1)) = _
  have h := hcond0_0 t
  by_cases e : t.val % 168 = 0
  · rw [show k0_cond1 (grid0.coords t) = 1#1 from h.2 e]; simp [e]
  · have e' : ¬ k0_cond1 (grid0.coords t) = 1#1 := fun x => e (h.1 x)
    simp [e, e']

theorem fresh0_8 (hO : Ok m) (n : ℕ) (hn : n ≤ (cfgM m hO).N) : (cfgM m hO).fresh 8 n = decide (n = 0 ∨ n = 168) := by
  refine Pipeline.Cfg.fresh_tab (cfgM m hO) 8 (fun n => decide (n = 0 ∨ n = 168)) rfl (fun t => ?_) n hn
  have hN : t.val < 168 := lt_of_lt_of_eq t.isLt (show (cfgM m hO).N = 168 from N_0)
  have hf : ((cfgM m hO).win 8).flush t = decide (t.val % 168 = 167) := by
    rw [Bool.eq_iff_iff, flush0_8]; simp
  rw [hf, idle0_8, Bool.eq_iff_iff]
  simp only [decide_eq_true_eq, Bool.or_eq_true, Bool.and_eq_true, Bool.not_eq_true', decide_eq_false_iff_not]
  omega

theorem before0_8 (hO : Ok m) (c : Dev nD) (t : Fin (cfgM m hO).N) (ht : t.val ≠ 0) (d) : Y8 m hO c t d = NC (X2 m hO c ⟨0, N_pos m hO⟩) := by
  have hN : t.val < 168 := lt_of_lt_of_eq t.isLt (show (cfgM m hO).N = 168 from N_0)
  show (dats m hO 0 c).before 8 t d = _
  rw [(dats m hO 0 c).before_out_traj 8 rfl (fun _ _ => rfl) (fun t _ _ _ => by rw [after0_8, after0_8]) t.val t rfl d, fresh0_8 m hO _ (le_of_lt t.isLt), if_neg (by simp; omega), after0_8]

theorem leaves0_8 (hO : Ok m) (c : Dev nD) (t : Fin (cfgM m hO).N) (d) :
    owns (c : Thread nD τ) (ms0_8 m hO t) fullShare (if cond0_0 (grid0.coords t) then NC (X2 m hO c t) else Y8 m hO c t d) ⊢ (dats m hO 0 c).leavesExact 8 t := by
  have hN : t.val < 168 := lt_of_lt_of_eq t.isLt (show (cfgM m hO).N = 168 from N_0)
  by_cases h : t.val = 0
  · have h0 : t.val % 168 = 0 := by omega
    rw [if_pos ((hcond0_0 t).2 h0), show (dats m hO 0 c).leavesExact 8 t = owns (c : Thread nD τ) (ms0_8 m hO t) fullShare ((dats m hO 0 c).after 8 t) from by
      unfold Dat.leavesExact; rw [idle0_8 m hO t]; simp only [h0]; rfl, after0_8]
    have e : t = ⟨0, N_pos m hO⟩ := Fin.ext h
    rw [← e]
  · have h0 : ¬ t.val % 168 = 0 := by omega
    rw [if_neg (fun x => h0 ((hcond0_0 t).1 x))]
    by_cases h2 : t.val % 168 = 167
    · rw [show (dats m hO 0 c).leavesExact 8 t = owns (c : Thread nD τ) (ms0_8 m hO t) fullShare ((dats m hO 0 c).after 8 t) from by
        unfold Dat.leavesExact; rw [idle0_8 m hO t, (flush0_8 (adm m hO) t).2 h2]; simp only [h0]; rfl, after0_8, before0_8 m hO c t h]
    · rw [Dat.leavesExact_idle _ 8 t (by rw [idle0_8]; simp [h0]) (by rw [← Bool.not_eq_true]; exact fun x => h2 ((flush0_8 (adm m hO) t).1 x))]
      iintro H; iexists d; iexact H

theorem idle0_9 (hO : Ok m) (t : Fin (cfgM m hO).N) : (cfgM m hO).idle 9 ((cfgM m hO).grid.coords t) = !decide (t.val % 168 = 0) := by
  show (!(k0_cond1 (grid0.coords t) == 1#1)) = _
  have h := hcond0_0 t
  by_cases e : t.val % 168 = 0
  · rw [show k0_cond1 (grid0.coords t) = 1#1 from h.2 e]; simp [e]
  · have e' : ¬ k0_cond1 (grid0.coords t) = 1#1 := fun x => e (h.1 x)
    simp [e, e']

theorem fresh0_9 (hO : Ok m) (n : ℕ) (hn : n ≤ (cfgM m hO).N) : (cfgM m hO).fresh 9 n = decide (n = 0 ∨ n = 168) := by
  refine Pipeline.Cfg.fresh_tab (cfgM m hO) 9 (fun n => decide (n = 0 ∨ n = 168)) rfl (fun t => ?_) n hn
  have hN : t.val < 168 := lt_of_lt_of_eq t.isLt (show (cfgM m hO).N = 168 from N_0)
  have hf : ((cfgM m hO).win 9).flush t = decide (t.val % 168 = 167) := by
    rw [Bool.eq_iff_iff, flush0_9]; simp
  rw [hf, idle0_9, Bool.eq_iff_iff]
  simp only [decide_eq_true_eq, Bool.or_eq_true, Bool.and_eq_true, Bool.not_eq_true', decide_eq_false_iff_not]
  omega

theorem before0_9 (hO : Ok m) (c : Dev nD) (t : Fin (cfgM m hO).N) (ht : t.val ≠ 0) (d) : Y9 m hO c t d = NS (X2 m hO c ⟨0, N_pos m hO⟩) := by
  have hN : t.val < 168 := lt_of_lt_of_eq t.isLt (show (cfgM m hO).N = 168 from N_0)
  show (dats m hO 0 c).before 9 t d = _
  rw [(dats m hO 0 c).before_out_traj 9 rfl (fun _ _ => rfl) (fun t _ _ _ => by rw [after0_9, after0_9]) t.val t rfl d, fresh0_9 m hO _ (le_of_lt t.isLt), if_neg (by simp; omega), after0_9]

theorem leaves0_9 (hO : Ok m) (c : Dev nD) (t : Fin (cfgM m hO).N) (d) :
    owns (c : Thread nD τ) (ms0_9 m hO t) fullShare (if cond0_0 (grid0.coords t) then NS (X2 m hO c t) else Y9 m hO c t d) ⊢ (dats m hO 0 c).leavesExact 9 t := by
  have hN : t.val < 168 := lt_of_lt_of_eq t.isLt (show (cfgM m hO).N = 168 from N_0)
  by_cases h : t.val = 0
  · have h0 : t.val % 168 = 0 := by omega
    rw [if_pos ((hcond0_0 t).2 h0), show (dats m hO 0 c).leavesExact 9 t = owns (c : Thread nD τ) (ms0_9 m hO t) fullShare ((dats m hO 0 c).after 9 t) from by
      unfold Dat.leavesExact; rw [idle0_9 m hO t]; simp only [h0]; rfl, after0_9]
    have e : t = ⟨0, N_pos m hO⟩ := Fin.ext h
    rw [← e]
  · have h0 : ¬ t.val % 168 = 0 := by omega
    rw [if_neg (fun x => h0 ((hcond0_0 t).1 x))]
    by_cases h2 : t.val % 168 = 167
    · rw [show (dats m hO 0 c).leavesExact 9 t = owns (c : Thread nD τ) (ms0_9 m hO t) fullShare ((dats m hO 0 c).after 9 t) from by
        unfold Dat.leavesExact; rw [idle0_9 m hO t, (flush0_9 (adm m hO) t).2 h2]; simp only [h0]; rfl, after0_9, before0_9 m hO c t h]
    · rw [Dat.leavesExact_idle _ 9 t (by rw [idle0_9]; simp [h0]) (by rw [← Bool.not_eq_true]; exact fun x => h2 ((flush0_9 (adm m hO) t).1 x))]
      iintro H; iexists d; iexact H

theorem leaves0_7 (hO : Ok m) (c : Dev nD) (t : Fin (cfgM m hO).N) (d) :
    owns (c : Thread nD τ) (ms0_7 m hO t) fullShare (if cond0_3 (grid0.coords t) then fO (stAt m hO c t.val t.isLt).acc (stAt m hO c t.val t.isLt).sm else Y7 m hO c t d) ⊢ (dats m hO 0 c).leavesExact 7 t := by
  have hi : (cfgM m hO).idle 7 ((cfgM m hO).grid.coords t) = !(k0_cond4 (grid0.coords t) == 1#1) := rfl
  by_cases h : cond0_3 (grid0.coords t)
  · rw [if_pos h, show (dats m hO 0 c).leavesExact 7 t = owns (c : Thread nD τ) (ms0_7 m hO t) fullShare ((dats m hO 0 c).after 7 t) from by
      unfold Dat.leavesExact; rw [hi, show k0_cond4 (grid0.coords t) = 1#1 from h]; rfl, after0_7]
  · rw [if_neg h, Dat.leavesExact_idle _ 7 t (by rw [hi]; simp [show ¬ k0_cond4 (grid0.coords t) = 1#1 from h]) (by rw [← Bool.not_eq_true]; exact fun x => h ((hcond0_3 t).2 ((flush0_7 (adm m hO) t).1 x)))]
    iintro H; iexists d; iexact H

/-- What the body obligation hands the body at a point, the windows one by one. -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d)))

/-- What it takes back. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t
    ∗ (dats m hO 0 c).leavesExact 8 t
    ∗ (dats m hO 0 c).leavesExact 9 t)

theorem stAt_zero (hO : Ok m) (c : Dev nD) (t : Fin (cfgM m hO).N) (hz : t.val = 0) (st : St F) :
    stepSt (grid0.coords t) (lenW (grid0.coords t) (tab m)) (X0 m hO c t) (X1 m hO c t) (X2 m hO c t) (X3 m hO c t) (X4 m hO c t) (X5 m hO c t) (X6 m hO c t) st = stAt m hO c t.val t.isLt := by
  rw [stepSt_first _ _ _ _ _ _ _ _ _ _ ((hcond0_0 t).2 (by omega)) ((hcond0_1 t).2 (by omega))]
  obtain ⟨n, hn⟩ := t
  subst hz
  rfl

theorem stAt_pos (hO : Ok m) (c : Dev nD) (t : Fin (cfgM m hO).N) (hz : t.val ≠ 0) :
    stepSt (grid0.coords t) (lenW (grid0.coords t) (tab m)) (X0 m hO c t) (X1 m hO c t) (X2 m hO c t) (X3 m hO c t) (X4 m hO c t) (X5 m hO c t) (X6 m hO c t) (stAt m hO c (t.val - 1) (by omega)) = stAt m hO c t.val t.isLt := by
  obtain ⟨n, hn⟩ := t
  cases n with
  | zero => exact absurd rfl hz
  | succ n => rfl

theorem PhiS_pos (hO : Ok m) (c : Dev nD) (n : ℕ) (h : n ≤ (cfgM m hO).N) (hz : n ≠ 0) :
    PhiS m hO c n h = iprop(iprop(iprop(owns (c : Thread nD τ) scM0_0 fullShare (stAt m hO c (n - 1) (by omega)).qr ∗ owns (c : Thread nD τ) scM0_1 fullShare (stAt m hO c (n - 1) (by omega)).acc ∗ owns (c : Thread nD τ) scM0_2 fullShare (stAt m hO c (n - 1) (by omega)).mx ∗ owns (c : Thread nD τ) scM0_3 fullShare (stAt m hO c (n - 1) (by omega)).sm ∗ owns (c : Thread nD τ) scM0_4 fullShare (stAt m hO c (n - 1) (by omega)).ln ∗ owns (c : Thread nD τ) scM0_5 fullShare (stAt m hO c (n - 1) (by omega)).rn) ∗ (∃ r, prngReg c r)) ∗ Pipeline.ΦT pre0 (tbl m) c) := by
  cases n with
  | zero => exact absurd rfl hz
  | succ n => rfl

set_option maxHeartbeats 3200000 in
/-- The body at any point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  rw [show (dats m hO 0 c).leavesExact 0 t = owns (c : Thread nD τ) (ms0_0 m hO t) fullShare ((dats m hO 0 c).after 0 t) from by
    unfold Dat.leavesExact; rw [liveAt0_0 m hO t]; try rfl, after0_0]
  rw [show (dats m hO 0 c).leavesExact 1 t = owns (c : Thread nD τ) (ms0_1 m hO t) fullShare ((dats m hO 0 c).after 1 t) from by
    unfold Dat.leavesExact; rw [liveAt0_1 m hO t]; try rfl, after0_1]
  rw [show (dats m hO 0 c).leavesExact 2 t = owns (c : Thread nD τ) (ms0_2 m hO t) fullShare ((dats m hO 0 c).after 2 t) from by
    unfold Dat.leavesExact; rw [liveAt0_2 m hO t]; try rfl, after0_2]
  rw [show (dats m hO 0 c).leavesExact 3 t = owns (c : Thread nD τ) (ms0_3 m hO t) fullShare ((dats m hO 0 c).after 3 t) from by
    unfold Dat.leavesExact; rw [liveAt0_3 m hO t]; try rfl, after0_3]
  rw [show (dats m hO 0 c).leavesExact 4 t = owns (c : Thread nD τ) (ms0_4 m hO t) fullShare ((dats m hO 0 c).after 4 t) from by
    unfold Dat.leavesExact; rw [liveAt0_4 m hO t]; try rfl, after0_4]
  rw [show (dats m hO 0 c).leavesExact 5 t = owns (c : Thread nD τ) (ms0_5 m hO t) fullShare ((dats m hO 0 c).after 5 t) from by
    unfold Dat.leavesExact; rw [liveAt0_5 m hO t]; try rfl, after0_5]
  rw [show (dats m hO 0 c).leavesExact 6 t = owns (c : Thread nD τ) (ms0_6 m hO t) fullShare ((dats m hO 0 c).after 6 t) from by
    unfold Dat.leavesExact; rw [liveAt0_6 m hO t]; try rfl, after0_6]
  by_cases hz : t.val = 0
  · rw [PhiS_castSucc m hO c t, PhiS_zero m hO c _ _ hz, PhiT0_eq, PhiA0_eq]
    iintro ⟨⟨⟨⟨⟨%s0, HS0⟩, ⟨%s1, HS1⟩, ⟨%s2, HS2⟩, ⟨%s3, HS3⟩, ⟨%s4, HS4⟩, ⟨%s5, HS5⟩⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_all c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (tab m) (X0 m hO c t) (X1 m hO c t) (X2 m hO c t) (X3 m hO c t) (X4 m hO c t) (X5 m hO c t) (X6 m hO c t) (Y7 m hO c t d7) (Y8 m hO c t d8) (Y9 m hO c t d9) ⟨s0, s1, s2, s3, s4, s5⟩ Set.univ _)
    isplitl [HT0]; · iexact HT0
    isplitl [H0 H1 H2 H3 H4 H5 H6 H7 H8 H9 HS0 HS1 HS2 HS3 HS4 HS5]
    · unfold All
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iexact HS5
    rw [stAt_zero m hO c t hz]
    unfold All
    iintro ⟨HT0, H0, H1, H2, H3, H4, H5, H6, H7, H8, H9, HS0, HS1, HS2, HS3, HS4, HS5⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m hO c t d7); iexact H7
    isplitl [H8]; · iapply (leaves0_8 m hO c t d8); iexact H8
    iapply (leaves0_9 m hO c t d9); iexact H9
  · rw [PhiS_castSucc m hO c t, PhiS_pos m hO c _ _ hz, PhiT0_eq]
    iintro ⟨⟨⟨⟨HS0, HS1, HS2, HS3, HS4, HS5⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_all c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) (tab m) (X0 m hO c t) (X1 m hO c t) (X2 m hO c t) (X3 m hO c t) (X4 m hO c t) (X5 m hO c t) (X6 m hO c t) (Y7 m hO c t d7) (Y8 m hO c t d8) (Y9 m hO c t d9) (stAt m hO c (t.val - 1) (by omega)) Set.univ _)
    isplitl [HT0]; · iexact HT0
    isplitl [H0 H1 H2 H3 H4 H5 H6 H7 H8 H9 HS0 HS1 HS2 HS3 HS4 HS5]
    · unfold All
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      isplitl [HS4]; · iexact HS4
      iexact HS5
    rw [stAt_pos m hO c t hz]
    unfold All
    iintro ⟨HT0, H0, H1, H2, H3, H4, H5, H6, H7, H8, H9, HS0, HS1, HS2, HS3, HS4, HS5⟩
    isplitl [HS0 HS1 HS2 HS3 HS4 HS5 Hg HT0]
    · isplitl [HS0 HS1 HS2 HS3 HS4 HS5 Hg]
      · isplitl [HS0 HS1 HS2 HS3 HS4 HS5]
        · isplitl [HS0]; · iexact HS0
          isplitl [HS1]; · iexact HS1
          isplitl [HS2]; · iexact HS2
          isplitl [HS3]; · iexact HS3
          isplitl [HS4]; · iexact HS4
          iexact HS5
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply (leaves0_7 m hO c t d7); iexact H7
    isplitl [H8]; · iapply (leaves0_8 m hO c t d8); iexact H8
    iapply (leaves0_9 m hO c t d9); iexact H9

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region (`ΦA`, the tables beside it) is the invariant before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- After any point but the first the invariant gives `ΦA` back: the carried scratch's named contents are forgotten (and the tables' halves dropped). -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1, HS2, HS3, HS4, HS5⟩, Hg⟩, -⟩
  isplitl [HS0 HS1 HS2 HS3 HS4 HS5]
  · isplitl [HS0]
    · iexists _; iexact HS0
    isplitl [HS1]
    · iexists _; iexact HS1
    isplitl [HS2]
    · iexists _; iexact HS2
    isplitl [HS3]
    · iexists _; iexact HS3
    isplitl [HS4]
    · iexists _; iexact HS4
    iexists _; iexact HS5
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 168 := N_0; omega)

-- the launch theorem's implicit arguments are found by unifying its conclusion with this one, which takes unfolding plain
-- definitions in a metavariable's type
set_option backward.isDefEq.respectTransparency.types false in
set_option maxHeartbeats 1600000 in
/-- The launch: every execution ends, with every array at what the proof data say, every other buffer at what the host's lines after the call leave, and no semaphore counter raised. -/
theorem run_main (hO : Ok m) : θ_run defs (onTc (τ := τ) (main (F := F))) (s₀ m ρ)
    (fun r => Pipeline.FramePost (Pipeline.pin pcfgs fun _ => adm m hO) (dats m hO) 0 (Pipeline.afterTail pcfgs (fun _ => adm m hO) (dats m hO) 0 (V0 m) [hostOps1]) r ∧ r.2.sem = fun _ => 0) :=
  Pipeline.θ_run_frameP_around_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V₀ := V0 m) (opss := [hostOps1]) (hsub := sfx_sub) (hfresh := sfx_fresh) (hkeep := sfx_keeps)
    (hmain := hmain m Variants.none) (hA := A_eq m hO) (hpf := V_pre m) (hin := hin m hO) (hout := hout m hO)

end Cert.KernelIdeal.Run

end
-- ==== Proof.KFrame.lean ====
/- The frame of the program, and what its results hold at the end. -/
module

public import proofs.«01_k».proof.Proof.KRun
public import Idealize.ShloMosaic.Lib.Pipeline.ValueKit
public import Idealize.ShloMosaic.Lib.StableHlo.RunRead
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The arguments end as they were launched. -/
def Kept (r : MemSt nD τ sig (Elt F)) (c : Dev nD) : Prop :=
  r.mem ((c.tc : Thread nD τ).loc main_arg0) = m ((c.tc : Thread nD τ).loc main_arg0)
  ∧ r.mem ((c.tc : Thread nD τ).loc main_arg1) = m ((c.tc : Thread nD τ).loc main_arg1)
  ∧ r.mem ((c.tc : Thread nD τ).loc main_arg2) = m ((c.tc : Thread nD τ).loc main_arg2)
  ∧ r.mem ((c.tc : Thread nD τ).loc main_arg3) = m ((c.tc : Thread nD τ).loc main_arg3)
  ∧ r.mem ((c.tc : Thread nD τ).loc main_arg4) = m ((c.tc : Thread nD τ).loc main_arg4)
  ∧ r.mem ((c.tc : Thread nD τ).loc main_arg5) = m ((c.tc : Thread nD τ).loc main_arg5)
  ∧ r.mem ((c.tc : Thread nD τ).loc main_arg6) = m ((c.tc : Thread nD τ).loc main_arg6)
  ∧ r.mem ((c.tc : Thread nD τ).loc main_arg7) = m ((c.tc : Thread nD τ).loc main_arg7)

theorem kept (hO : Ok m) (r : PUnit × MemSt nD τ sig (Elt F))
    (h : Pipeline.FramePost (Pipeline.pin pcfgs fun _ => adm m hO) (dats m hO) 0 (Pipeline.afterTail pcfgs (fun _ => adm m hO) (dats m hO) 0 (V0 m) [hostOps1]) r) (c : Dev nD) : Kept m r.2 c :=
  ⟨((h c).2 main_arg0 (by decide : main_arg0 ∈ Pipeline.restRefs sig spec0)).trans (W_main_arg0 m hO (dats m hO) c),
    ((h c).2 main_arg1 (by decide : main_arg1 ∈ Pipeline.restRefs sig spec0)).trans (W_main_arg1 m hO (dats m hO) c),
    ((h c).2 main_arg2 (by decide : main_arg2 ∈ Pipeline.restRefs sig spec0)).trans (W_main_arg2 m hO (dats m hO) c),
    ((h c).2 main_arg3 (by decide : main_arg3 ∈ Pipeline.restRefs sig spec0)).trans (W_main_arg3 m hO (dats m hO) c),
    ((h c).1 4).trans (((dats m hO 0 c).arrAt_in 4 rfl _).trans ((A_eq m hO c 4).trans (V_main_arg4 m c))),
    ((h c).2 main_arg5 (by decide : main_arg5 ∈ Pipeline.restRefs sig spec0)).trans (W_main_arg5 m hO (dats m hO) c),
    ((h c).2 main_arg6 (by decide : main_arg6 ∈ Pipeline.restRefs sig spec0)).trans (W_main_arg6 m hO (dats m hO) c),
    ((h c).2 main_arg7 (by decide : main_arg7 ∈ Pipeline.restRefs sig spec0)).trans (W_main_arg7 m hO (dats m hO) c)⟩

/-- Every execution ends, the arguments as launched and every counter at zero. -/
theorem frame_main (hO : Ok m) : θ_run defs (onTc (τ := τ) (main (F := F))) (s₀ m ρ) (fun r => (∀ c : Dev nD, Kept m r.2 c) ∧ r.2.sem = fun _ => 0) :=
  (θ_run defs _ _).mono (fun r h => ⟨fun c => kept m hO r h.1 c, h.2⟩) (run_main m ρ hO)

end Cert.KernelIdeal.Run

end
-- ==== Proof.Quant.lean ====
module

public import Idealize.ShloMosaic.PureOps.Ideal
public import Mathlib.Analysis.SpecialFunctions.Pow.Real
public import Mathlib.Analysis.SpecialFunctions.Log.Basic

/-! # The exponent of the quantiser, counted and by logarithm

The quantiser scales a group of 128 values by a power of two. One program finds the exponent by counting how many of
the 252 powers of two `2 ^ -126 … 2 ^ 125` the group's largest magnitude (times a constant) reaches; the other takes
the floor of its logarithm to base two. Both give the same power of two, and the word `(127 ± e) << 23` reads as
`2 ^ ±e`. -/

@[expose] public section

set_option maxRecDepth 16384

noncomputable section

namespace Cert.Quant

open Idealize.ShloMosaic

/-- The fields of the word `n << 23` for `n ≤ 254`: sign 0, exponent `n`, fraction 0. -/
theorem fields (n : Fin 255) :
    (((BitVec.ofNat 32 n.val <<< 23).extractLsb' 31 1 == 1#1) = false)
      ∧ ((BitVec.ofNat 32 n.val <<< 23).extractLsb' 23 8).toNat = n.val
      ∧ ((BitVec.ofNat 32 n.val <<< 23).extractLsb' 0 23).toNat = 0 :=
  (by decide +kernel : ∀ n : Fin 255, (((BitVec.ofNat 32 n.val <<< 23).extractLsb' 31 1 == 1#1) = false)
      ∧ ((BitVec.ofNat 32 n.val <<< 23).extractLsb' 23 8).toNat = n.val
      ∧ ((BitVec.ofNat 32 n.val <<< 23).extractLsb' 0 23).toNat = 0) n

/-- A normal number with a zero fraction, of any format. -/
theorem ieee_normal {w : ℕ} (e m n : ℕ) (b : BitVec w) (hs : (b.extractLsb' (e + m) 1 == 1#1) = false)
    (he : (b.extractLsb' m e).toNat = n) (hf : (b.extractLsb' 0 m).toNat = 0) (h1 : n ≠ 2 ^ e - 1) (h0 : n ≠ 0) :
    Ideal.ieee e m b = (((1 : ℝ) * ((2 ^ m + 0 : ℕ) : ℝ) * (2 : ℝ) ^ ((n : ℤ) - (2 ^ (e - 1) - 1) - m) : ℝ) : EReal) := by
  unfold Ideal.ieee
  simp only [hs, he, hf]
  rw [if_neg h1, if_neg h0]
  rfl

/-- The word `n << 23` reads as `2 ^ (n - 127)` for `1 ≤ n ≤ 254`. -/
theorem bits_pow (n : ℕ) (h1 : 1 ≤ n) (h2 : n ≤ 254) :
    Ideal.ofBits .f32 (BitVec.ofNat 32 n <<< 23) = (((2 : ℝ) ^ ((n : ℤ) - 127) : ℝ) : EReal) := by
  obtain ⟨hs, he, hf⟩ := fields ⟨n, by omega⟩
  refine (ieee_normal 8 23 n _ hs he hf (by omega) (by omega)).trans ?_
  rw [EReal.coe_eq_coe_iff]
  have : ((n : ℤ) - (2 ^ (8 - 1) - 1) - ((23 : ℕ) : ℤ)) = ((n : ℤ) - 127) - 23 := by norm_num
  rw [this, zpow_sub₀ (by norm_num) _ 23]
  norm_num
  ring

instance : Std.Commutative (IntOp.addi : BitVec 32 → BitVec 32 → BitVec 32) := ⟨BitVec.add_comm⟩
instance : Std.Associative (IntOp.addi : BitVec 32 → BitVec 32 → BitVec 32) := ⟨BitVec.add_assoc⟩

/-- The word of a difference of integers. -/
theorem ofInt_sub (a b : ℤ) : BitVec.ofInt 32 (a - b) = BitVec.ofInt 32 a - BitVec.ofInt 32 b := by
  rw [Int.sub_eq_add_neg, BitVec.ofInt_add, BitVec.ofInt_neg, ← BitVec.sub_eq_add_neg]

/-- The counted thresholds: `(1 + k) << 23` reads as `2 ^ (k - 126)`. -/
theorem threshold (k : Fin 252) :
    Ideal.ofBits .f32 (IntOp.shli .vector (IntOp.addi 1#32 (BitVec.ofNat 32 k.val)) 23#32)
      = (((2 : ℝ) ^ ((k.val : ℤ) - 126) : ℝ) : EReal) := by
  have h : IntOp.shli .vector (IntOp.addi 1#32 (BitVec.ofNat 32 k.val)) 23#32 = BitVec.ofNat 32 (1 + k.val) <<< 23 := by
    unfold IntOp.shli IntOp.addi
    rw [if_pos (by decide), BitVec.ofNat_add]
    rfl
  rw [h, bits_pow _ (by omega) (by omega)]
  congr 2
  push_cast
  ring

/-- A sum of 32-bit ones and zeros is the number of ones. -/
theorem fold_count {n : ℕ} (p : Fin n → Prop) [DecidablePred p] (S : Finset (Fin n)) :
    S.fold IntOp.addi (0#32) (fun x => BitVec.setWidth 32 (BitVec.ofBool (decide (p x))))
      = BitVec.ofNat 32 (S.filter p).card := by
  induction S using Finset.induction_on with
  | empty => rfl
  | insert a S ha ih =>
    rw [Finset.fold_insert ha, ih, Finset.filter_insert]
    by_cases h : p a
    · rw [if_pos h, Finset.card_insert_of_notMem (by simp [ha]), Nat.add_comm, BitVec.ofNat_add]
      simp only [h, decide_true]
      rfl
    · rw [if_neg h]
      simp only [h, decide_false]
      show 0#32 + _ = _
      simp

/-- How many of the powers `2 ^ -126 … 2 ^ 125` the number `y` reaches. -/
def count (y : EReal) : ℕ := (Finset.univ.filter fun k : Fin 252 => (((2 : ℝ) ^ ((k.val : ℤ) - 126) : ℝ) : EReal) ≤ y).card

/-- The exponent as a word: the count less 126, and zero at zero. -/
def word (y : EReal) : BitVec 32 := if y = 0 then 0#32 else IntOp.subi (BitVec.ofNat 32 (count y)) 126#32

/-- The exponent by logarithm: `⌊log y / log 2⌋ + 1` kept between -126 and 126, and zero at zero. -/
def expo (y : EReal) : EReal :=
  if y = 0 then 0
  else min (126 : ℝ) (max ((-126 : ℝ) : EReal)
    (Ideal.liftRound Int.floor (Ideal.div (Ideal.log y) ((Real.log 2 : ℝ) : EReal)) + 1))

theorem count_top : count ⊤ = 252 := by
  unfold count
  rw [Finset.filter_true_of_mem (fun _ _ => le_top)]
  simp

/-- The number of naturals below 252 that are at most an integer. -/
theorem card_le (z : ℤ) : ((Finset.univ.filter fun k : Fin 252 => (k.val : ℤ) ≤ z).card : ℤ) = max 0 (min 252 (z + 1)) := by
  have h : (Finset.univ.filter fun k : Fin 252 => (k.val : ℤ) ≤ z)
      = Finset.univ.filter fun k : Fin 252 => k.val < (max 0 (min 252 (z + 1))).toNat := by
    ext k
    simp only [Finset.mem_filter, Finset.mem_univ, true_and]
    have := k.isLt
    omega
  rw [h, Fin.card_filter_val_lt]
  omega

/-- The count at a positive real, from the floor of its logarithm. -/
theorem count_coe (r : ℝ) (hr : 0 < r) : (count (r : EReal) : ℤ) = max 0 (min 252 (⌊Real.log r / Real.log 2⌋ + 127)) := by
  have h2 : 0 < Real.log 2 := Real.log_pos (by norm_num)
  unfold count
  have h : (Finset.univ.filter fun k : Fin 252 => (((2 : ℝ) ^ ((k.val : ℤ) - 126) : ℝ) : EReal) ≤ (r : EReal))
      = Finset.univ.filter fun k : Fin 252 => (k.val : ℤ) ≤ ⌊Real.log r / Real.log 2⌋ + 126 := by
    ext k
    simp only [Finset.mem_filter, Finset.mem_univ, true_and, EReal.coe_le_coe_iff]
    rw [show ((k.val : ℤ) ≤ ⌊Real.log r / Real.log 2⌋ + 126) ↔ ((k.val : ℤ) - 126 ≤ ⌊Real.log r / Real.log 2⌋) by omega,
      Int.le_floor, le_div_iff₀ h2, ← Real.log_zpow, Real.log_le_log_iff (by positivity) hr]
  rw [h, card_le]
  congr 2
  ring

/-- The two exponents agree: an integer between -126 and 126, as a word and as a number. -/
theorem agree (y : EReal) (hy : 0 ≤ y) :
    ∃ e : ℤ, -126 ≤ e ∧ e ≤ 126 ∧ word y = BitVec.ofInt 32 e ∧ expo y = ((e : ℝ) : EReal) := by
  by_cases h0 : y = 0
  · exact ⟨0, by norm_num, by norm_num, by simp [word, h0], by simp [expo, h0]⟩
  refine ⟨(count y : ℤ) - 126, ?_⟩
  have hle : count y ≤ 252 := by
    unfold count
    exact (Finset.card_le_univ _).trans (by simp)
  refine ⟨by omega, by omega, ?_, ?_⟩
  · unfold word
    rw [if_neg h0]
    show BitVec.ofNat 32 (count y) - 126#32 = _
    rw [ofInt_sub, BitVec.ofInt_natCast]
    rfl
  unfold expo
  rw [if_neg h0]
  have h2 : 0 < Real.log 2 := Real.log_pos (by norm_num)
  induction y with
  | bot => exact absurd hy (by simp)
  | top =>
    rw [count_top]
    have : Ideal.div (Ideal.log ⊤) ((Real.log 2 : ℝ) : EReal) = ⊤ := by
      unfold Ideal.div
      rw [if_neg (by exact_mod_cast h2.ne')]
      show (⊤ : EReal) * _ = ⊤
      rw [← EReal.coe_inv]
      exact EReal.top_mul_coe_of_pos (by positivity)
    rw [this]
    simp only [Ideal.liftRound_top]
    rw [show (⊤ : EReal) + 1 = ⊤ from EReal.top_add_coe 1, max_eq_right le_top, min_eq_left le_top]
    norm_num
  | coe r =>
    have hr : 0 < r := lt_of_le_of_ne (by exact_mod_cast hy) (fun h => h0 (by rw [← h]; rfl))
    have : Ideal.div (Ideal.log (r : EReal)) ((Real.log 2 : ℝ) : EReal) = ((Real.log r / Real.log 2 : ℝ) : EReal) := by
      unfold Ideal.div
      rw [if_neg (by exact_mod_cast h2.ne'), Ideal.log_coe, if_neg (by linarith), ← EReal.coe_inv, ← EReal.coe_mul]
      rfl
    rw [this, Ideal.liftRound_coe, count_coe r hr]
    rw [show (1 : EReal) = ((1 : ℝ) : EReal) from rfl, ← EReal.coe_add,
      ← EReal.coe_strictMono.monotone.map_max, ← EReal.coe_strictMono.monotone.map_min]
    congr 1
    rw [show (max 0 (min 252 (⌊Real.log r / Real.log 2⌋ + 127)) - 126 : ℤ)
      = min 126 (max (-126) (⌊Real.log r / Real.log 2⌋ + 1)) by omega]
    push_cast
    rfl

/-- The word `(127 + e) << 23` reads as two to the exponent. -/
theorem up (y : EReal) (hy : 0 ≤ y) :
    Ideal.ofBits .f32 (IntOp.shli .vector (IntOp.addi 127#32 (word y)) 23#32) = Ideal.exp2 (expo y) := by
  obtain ⟨e, h1, h2, hw, he⟩ := agree y hy
  have h : IntOp.shli .vector (IntOp.addi 127#32 (BitVec.ofInt 32 e)) 23#32 = BitVec.ofNat 32 (127 + e).toNat <<< 23 := by
    unfold IntOp.shli IntOp.addi
    rw [if_pos (by decide)]
    have : BitVec.ofNat 32 (127 + e).toNat = 127#32 + BitVec.ofInt 32 e := by
      rw [← BitVec.ofInt_natCast, Int.toNat_of_nonneg (by omega), BitVec.ofInt_add]
      rfl
    rw [this]
    rfl
  rw [hw, h, bits_pow _ (by omega) (by omega), he, Ideal.exp2_coe]
  congr 1
  rw [Int.toNat_of_nonneg (by omega)]
  show _ = (2 : ℝ) ^ (e : ℝ)
  rw [Real.rpow_intCast]
  congr 1
  ring

/-- The word `(127 - e) << 23` reads as two to the exponent negated. -/
theorem down (y : EReal) (hy : 0 ≤ y) :
    Ideal.ofBits .f32 (IntOp.shli .vector (IntOp.subi 127#32 (word y)) 23#32) = Ideal.exp2 (0 - expo y) := by
  obtain ⟨e, h1, h2, hw, he⟩ := agree y hy
  have h : IntOp.shli .vector (IntOp.subi 127#32 (BitVec.ofInt 32 e)) 23#32 = BitVec.ofNat 32 (127 - e).toNat <<< 23 := by
    unfold IntOp.shli IntOp.subi
    rw [if_pos (by decide)]
    have : BitVec.ofNat 32 (127 - e).toNat = 127#32 - BitVec.ofInt 32 e := by
      rw [← BitVec.ofInt_natCast, Int.toNat_of_nonneg (by omega), ofInt_sub]
      rfl
    rw [this]
    rfl
  rw [hw, h, bits_pow _ (by omega) (by omega), he, show (0 : EReal) - ((e : ℝ) : EReal) = ((-(e : ℝ) : ℝ) : EReal) by
    rw [zero_sub, EReal.coe_neg], Ideal.exp2_coe]
  congr 1
  rw [Int.toNat_of_nonneg (by omega)]
  show _ = (2 : ℝ) ^ (-(e : ℝ))
  rw [show (-(e : ℝ)) = ((-e : ℤ) : ℝ) by push_cast; rfl, Real.rpow_intCast]
  congr 1
  ring

end Cert.Quant

end
-- ==== Proof.Softmax.lean ====
/- Softmax weights over the extended reals: the running maximum, sum and weighted sum of a set of scores, and how they combine. -/
module

public import Idealize.ShloMosaic.PureOps.Ideal

@[expose] public section

noncomputable section

namespace Cert.Softmax

open Idealize.ShloMosaic

/-- The reciprocal of the square root of 192, the scale of the scores. -/
def κs : ℝ := (Real.sqrt 192)⁻¹
/-- The scale of the scores over the logarithm of two. -/
def κ2 : ℝ := κs * (Real.log 2)⁻¹

theorem κs_pos : 0 < κs := inv_pos.2 (Real.sqrt_pos.2 (by norm_num))
theorem log2_pos : 0 < Real.log 2 := Real.log_pos (by norm_num)
theorem κ2_pos : 0 < κ2 := mul_pos κs_pos (inv_pos.2 log2_pos)

/-- The weight of a score against a maximum. -/
def w (s m : EReal) : EReal := Ideal.exp2 ((s - m) * (κ2 : EReal))

theorem w_bot_left (m : EReal) : w ⊥ m = 0 := by
  unfold w
  rw [EReal.bot_sub, EReal.bot_mul_coe_of_pos κ2_pos]; rfl
theorem w_top_right (s : EReal) : w s ⊤ = 0 := by
  unfold w
  rw [EReal.sub_top, EReal.bot_mul_coe_of_pos κ2_pos]; rfl
theorem w_coe (x y : ℝ) : w (x : EReal) (y : EReal) = ((2 : ℝ) ^ ((x - y) * κ2) : ℝ) := by
  unfold w
  rw [← EReal.coe_sub, ← EReal.coe_mul, Ideal.exp2_coe]; rfl

/-- A weight against a maximum not below the score is a nonnegative real. -/
theorem w_real (s m : EReal) (h : s ≤ m) : ∃ r : ℝ, 0 ≤ r ∧ w s m = (r : EReal) := by
  induction s with
  | bot => exact ⟨0, le_refl _, by rw [w_bot_left]; rfl⟩
  | top => rw [top_le_iff.1 h, w_top_right]; exact ⟨0, le_refl _, rfl⟩
  | coe x =>
    induction m with
    | bot => exact absurd (le_bot_iff.1 h) (EReal.coe_ne_bot x)
    | top => rw [w_top_right]; exact ⟨0, le_refl _, rfl⟩
    | coe y => rw [w_coe]; exact ⟨_, Real.rpow_nonneg (by norm_num) _, rfl⟩

/-- Weights against two maxima, one after the other, multiply. -/
theorem w_mul (s m m' : EReal) (h : s ≤ m) (h' : m ≤ m') : w s m * w m m' = w s m' := by
  induction s with
  | bot => rw [w_bot_left, w_bot_left, zero_mul]
  | top =>
    have e := top_le_iff.1 h
    subst e
    rw [top_le_iff.1 h', w_top_right, zero_mul]
  | coe x =>
    induction m with
    | bot => exact absurd (le_bot_iff.1 h) (EReal.coe_ne_bot x)
    | top => rw [top_le_iff.1 h', w_top_right, zero_mul]
    | coe y =>
      induction m' with
      | bot => exact absurd (le_bot_iff.1 h') (EReal.coe_ne_bot y)
      | top => rw [w_top_right, w_top_right, mul_zero]
      | coe z =>
        rw [w_coe, w_coe, w_coe, ← EReal.coe_mul, ← Real.rpow_add (by norm_num)]
        congr 2; ring

/-- The exponential of a scaled score less the scaled maximum is the weight. -/
theorem exp_eq_w (s m : EReal) (h : s ≤ m) : Ideal.exp (s * (κs : EReal) - m * (κs : EReal)) = w s m := by
  induction s with
  | bot => rw [w_bot_left, EReal.bot_mul_coe_of_pos κs_pos, EReal.bot_sub]; rfl
  | top => rw [top_le_iff.1 h, w_top_right, EReal.top_mul_coe_of_pos κs_pos, EReal.sub_top]; rfl
  | coe x =>
    induction m with
    | bot => exact absurd (le_bot_iff.1 h) (EReal.coe_ne_bot x)
    | top => rw [w_top_right, EReal.top_mul_coe_of_pos κs_pos, EReal.sub_top]; rfl
    | coe y =>
      rw [w_coe, ← EReal.coe_mul, ← EReal.coe_mul, ← EReal.coe_sub, Ideal.exp_coe, Real.rpow_def_of_pos (by norm_num)]
      congr 2
      unfold κ2
      have := log2_pos.ne'
      field_simp

/-- Scaling commutes with the maximum of a finite set of scores. -/
theorem sup_scale {ι : Type} (S : Finset ι) (T : ι → EReal) : S.sup T * (κs : EReal) = S.sup fun i => T i * (κs : EReal) := by
  refine Finset.apply_sup_eq_sup_comp (g := fun x : EReal => x * (κs : EReal)) ?_ ?_
  · intro x y
    have hm : Monotone fun x : EReal => x * (κs : EReal) := fun a b h => mul_le_mul_of_nonneg_right h (EReal.coe_nonneg.2 κs_pos.le)
    exact hm.map_sup x y
  · exact EReal.bot_mul_coe_of_pos κs_pos

/-- A sum times a nonnegative real. -/
theorem sum_mul_coe {ι : Type} (S : Finset ι) (f : ι → EReal) (r : ℝ) (hr : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (EReal.coe_nonneg.2 hr) (EReal.coe_ne_top _), ih]

variable {ι : Type} [DecidableEq ι] (T : ι → EReal)

/-- The sum of the weights of a set of scores against their maximum. -/
def den (S : Finset ι) : EReal := ∑ i ∈ S, w (T i) (S.sup T)
/-- The sum of values under those weights. -/
def num (v : ι → EReal) (S : Finset ι) : EReal := ∑ i ∈ S, w (T i) (S.sup T) * v i

/-- Adding a block of scores: the weighted sum before, rescaled, plus the block's. -/
theorem num_union (v : ι → EReal) (S B : Finset ι) (h : Disjoint S B) :
    num T v S * w (S.sup T) (S.sup T ⊔ B.sup T) + ∑ i ∈ B, w (T i) (S.sup T ⊔ B.sup T) * v i = num T v (S ∪ B) := by
  unfold num
  rw [Finset.sup_union, Finset.sum_union h]
  congr 1
  obtain ⟨r, hr, e⟩ := w_real (S.sup T) (S.sup T ⊔ B.sup T) le_sup_left
  rw [e, sum_mul_coe _ _ _ hr]
  refine Finset.sum_congr rfl fun i hi => ?_
  rw [mul_right_comm, ← e, w_mul _ _ _ (Finset.le_sup hi) le_sup_left]

/-- The same of the sum of the weights. -/
theorem den_union (S B : Finset ι) (h : Disjoint S B) :
    den T S * w (S.sup T) (S.sup T ⊔ B.sup T) + ∑ i ∈ B, w (T i) (S.sup T ⊔ B.sup T) = den T (S ∪ B) := by
  have := num_union T (fun _ => 1) S B h
  unfold num at this
  unfold den
  simpa only [mul_one] using this

/-- A block of scores that are all minus infinity changes nothing. -/
theorem sup_union_bot (S B : Finset ι) (hB : ∀ i ∈ B, T i = ⊥) : (S ∪ B).sup T = S.sup T := by
  rw [Finset.sup_union, (Finset.sup_eq_bot_iff T B).2 hB, sup_bot_eq]
theorem num_union_bot (v : ι → EReal) (S B : Finset ι) (h : Disjoint S B) (hB : ∀ i ∈ B, T i = ⊥) : num T v (S ∪ B) = num T v S := by
  unfold num
  rw [sup_union_bot T S B hB, Finset.sum_union h, Finset.sum_eq_zero (s := B) (fun i hi => by rw [hB i hi, w_bot_left, zero_mul]), add_zero]
theorem den_union_bot (S B : Finset ι) (h : Disjoint S B) (hB : ∀ i ∈ B, T i = ⊥) : den T (S ∪ B) = den T S := by
  unfold den
  rw [sup_union_bot T S B hB, Finset.sum_union h, Finset.sum_eq_zero (s := B) (fun i hi => by rw [hB i hi, w_bot_left]), add_zero]

/-! ## The new tokens and the cache, block by block -/

/-- Three new tokens and 6144 cached ones. -/
abbrev Tok := Fin 3 ⊕ Fin 6144

/-- The cached token at a place of a block. -/
def place (k : ℕ) (hk : k < 12) (p : Fin 512) : Fin 6144 := ⟨512 * k + p.val, by omega⟩

/-- The tokens of a block of the cache. -/
def blockEmb (k : ℕ) (hk : k < 12) : Fin 512 ↪ Tok :=
  ⟨fun p => .inr (place k hk p), fun p q h => by
    have := Sum.inr.inj h
    unfold place at this
    have := congrArg Fin.val this
    simp only at this
    exact Fin.ext (by omega)⟩

/-- The new tokens and the first `k` blocks of the cache. -/
def upTo (k : ℕ) : Finset Tok := Finset.univ.filter fun i => Sum.elim (fun _ => true) (fun p : Fin 6144 => decide (p.val < 512 * k)) i = true

theorem inl_mem_upTo (k : ℕ) (j : Fin 3) : (.inl j : Tok) ∈ upTo k := by simp [upTo]
theorem inr_mem_upTo (k : ℕ) (p : Fin 6144) : (.inr p : Tok) ∈ upTo k ↔ p.val < 512 * k := by simp [upTo]

theorem upTo_succ (k : ℕ) (hk : k < 12) : upTo (k + 1) = upTo k ∪ Finset.univ.map (blockEmb k hk) := by
  ext i
  simp only [Finset.mem_union, Finset.mem_univ, true_and, Finset.mem_map]
  cases i with
  | inl j => exact ⟨fun _ => .inl (inl_mem_upTo _ _), fun _ => inl_mem_upTo _ _⟩
  | inr p =>
    simp only [inr_mem_upTo]
    constructor
    · intro h
      by_cases hp : p.val < 512 * k
      · exact .inl hp
      · exact .inr ⟨⟨p.val - 512 * k, by omega⟩, by
          show Sum.inr _ = Sum.inr _
          congr 1; apply Fin.ext; show 512 * k + (p.val - 512 * k) = p.val; omega⟩
    · rintro (h | ⟨q, h⟩)
      · omega
      · have := congrArg Fin.val (Sum.inr.inj (h : Sum.inr (place k hk q) = Sum.inr p))
        simp only [place] at this
        omega

theorem upTo_disjoint (k : ℕ) (hk : k < 12) : Disjoint (upTo k) (Finset.univ.map (blockEmb k hk)) := by
  rw [Finset.disjoint_left]
  intro i hi hm
  obtain ⟨q, -, rfl⟩ := Finset.mem_map.1 hm
  have : 512 * k + q.val < 512 * k := (inr_mem_upTo _ _).1 hi
  omega

theorem upTo_all : upTo 12 = Finset.univ := by
  ext i
  simp only [Finset.mem_univ, iff_true]
  cases i with
  | inl j => exact inl_mem_upTo _ _
  | inr p => exact (inr_mem_upTo _ _).2 p.isLt

theorem upTo_zero : upTo 0 = Finset.univ.map ⟨Sum.inl, Sum.inl_injective⟩ := by
  ext i
  simp only [Finset.mem_univ, true_and, Finset.mem_map]
  cases i with
  | inl j => exact ⟨fun _ => ⟨j, rfl⟩, fun _ => inl_mem_upTo _ _⟩
  | inr p => simp [inr_mem_upTo]

end Cert.Softmax

end
-- ==== Proof.Spec.lean ====
module

public import proofs.«01_k».proof.Proof.Quant
public import proofs.«01_k».proof.Proof.Softmax

/-! # What both programs compute

The three results as functions of the eight arguments, on the extended reals: the attention output, the codes of the new
latents and their scales. -/

@[expose] public section

set_option maxRecDepth 16384

noncomputable section

namespace Cert.Spec

open Idealize.ShloMosaic Cert.Softmax

/-- The arguments, read at indices. -/
structure Args where
  x : Fin 14 → Fin 3 → Fin 96 → Fin 512 → EReal
  q : Fin 14 → Fin 3 → Fin 96 → Fin 64 → EReal
  kv : Fin 14 → Fin 3 → Fin 512 → EReal
  kr : Fin 14 → Fin 3 → Fin 64 → EReal
  codes : Fin 14 → Fin 6144 → Fin 512 → EReal
  scale : Fin 14 → Fin 6144 → Fin 4 → EReal
  krc : Fin 14 → Fin 6144 → Fin 64 → EReal
  len : Fin 14 → BitVec 32

/-- A 512-wide row's group and place in the group. -/
def grp (d : Fin 512) : Fin 4 := ⟨d.val / 128, by omega⟩
def lane (d : Fin 512) : Fin 128 := ⟨d.val % 128, by omega⟩
/-- A row's token and head. -/
def tok (r : Fin 288) : Fin 3 := ⟨r.val / 96, by omega⟩
def hd (r : Fin 288) : Fin 96 := ⟨r.val % 96, by omega⟩
/-- The row of a token and a head. -/
def rowOf (s : Fin 3) (h : Fin 96) : Fin 288 := ⟨s.val * 96 + h.val, by omega⟩
/-- A group's element in the row. -/
def at4 (g : Fin 4) (k : Fin 128) : Fin 512 := ⟨g.val * 128 + k.val, by omega⟩

/-- The largest magnitude of a group of 128 values. -/
def amax (f : Fin 128 → EReal) : EReal := Finset.univ.sup fun k => max (f k) (-f k)

/-- The largest magnitude over 448. -/
def scaled (f : Fin 128 → EReal) : EReal := amax f * Ideal.ofBits .f32 991054117#32

/-- A group's scale. -/
def gscale (f : Fin 128 → EReal) : EReal := Ideal.exp2 (Quant.expo (scaled f))

/-- A group's codes. -/
def gcode (f : Fin 128 → EReal) (k : Fin 128) : EReal :=
  min (Ideal.ofBits .f32 1138753536#32) (max (Ideal.ofBits .f32 3286237184#32) (f k * Ideal.exp2 (0 - Quant.expo (scaled f))))

variable (a : Args)

/-- The new latents' groups. -/
def part (b : Fin 14) (s : Fin 3) (g : Fin 4) : Fin 128 → EReal := fun k => a.kv b s (at4 g k)

/-- The new latents' codes. -/
def code (b : Fin 14) (s : Fin 3) (d : Fin 512) : EReal := gcode (part a b s (grp d)) (lane d)

/-- The new latents' scales. -/
def scl (b : Fin 14) (s : Fin 3) (g : Fin 4) : EReal := gscale (part a b s g)

/-- The new latents read back from codes and scales. -/
def latN (b : Fin 14) (s : Fin 3) (d : Fin 512) : EReal := code a b s d * scl a b s (grp d)

/-- The cached latents read back from codes and scales. -/
def latC (b : Fin 14) (p : Fin 6144) (d : Fin 512) : EReal := a.codes b p d * a.scale b p (grp d)

/-- A new token's score before the mask. -/
def rawN (b : Fin 14) (r : Fin 288) (j : Fin 3) : EReal :=
  ∑ k : Fin 512, a.x b (tok r) (hd r) k * latN a b j k + ∑ k : Fin 64, a.q b (tok r) (hd r) k * a.kr b j k

/-- A cached token's score before the mask. -/
def rawC (b : Fin 14) (r : Fin 288) (p : Fin 6144) : EReal :=
  ∑ k : Fin 512, a.x b (tok r) (hd r) k * latC a b p k + ∑ k : Fin 64, a.q b (tok r) (hd r) k * a.krc b p k

/-- A row's masked scores: a new token is seen by the rows of its token and later, a cached token if it lies before the
    batch's length. -/
def score (b : Fin 14) (r : Fin 288) : Tok → EReal
  | .inl j => Scalar.select (IntOp.cmpi .sle (IntOp.muli (BitVec.ofNat 32 j.val) 96#32) (BitVec.ofNat 32 r.val)) (rawN a b r j) ⊥
  | .inr p => Scalar.select (IntOp.cmpi .slt (BitVec.ofNat 32 p.val) (a.len b)) (rawC a b r p) ⊥

/-- A token's latent. -/
def val (b : Fin 14) (d : Fin 512) : Tok → EReal
  | .inl j => latN a b j d
  | .inr p => latC a b p d

/-- The attention output. -/
def out (b : Fin 14) (r : Fin 288) (d : Fin 512) : EReal :=
  Ideal.div (num (score a b r) (val a b d) Finset.univ) (den (score a b r) Finset.univ)

/-- The constant 1/448 is a positive real. -/
theorem const_pos : ∃ c : ℝ, 0 < c ∧ Ideal.ofBits .f32 991054117#32 = (c : EReal) := by
  refine ⟨_, ?_, by simp only [Ideal.ofBits, Ideal.ieee]; simp [-EReal.coe_mul]; rfl⟩
  positivity

theorem amax_nonneg (f : Fin 128 → EReal) : 0 ≤ amax f := by
  refine le_trans ?_ (Finset.le_sup (f := fun k => max (f k) (-f k)) (Finset.mem_univ (0 : Fin 128)))
  by_cases h : 0 ≤ f 0
  · exact le_max_of_le_left h
  · exact le_max_of_le_right (by rw [EReal.neg_nonneg]; exact (not_le.mp h).le)

theorem scaled_nonneg (f : Fin 128 → EReal) : 0 ≤ scaled f := by
  obtain ⟨c, hc, h⟩ := const_pos
  unfold scaled
  rw [h]
  exact mul_nonneg (amax_nonneg f) (by exact_mod_cast hc.le)

theorem scaled_eq_zero (f : Fin 128 → EReal) : scaled f = 0 ↔ amax f = 0 := by
  obtain ⟨c, hc, h⟩ := const_pos
  unfold scaled
  rw [h, mul_eq_zero]
  exact ⟨fun h => h.resolve_right (by exact_mod_cast hc.ne'), Or.inl⟩

theorem bot_bits : Ideal.ofBits .f32 4286578688#32 = ⊥ := by simp [Ideal.ofBits, Ideal.ieee]

theorem bits126 : Ideal.ofBits .f32 1123811328#32 = ((126 : ℝ) : EReal) := by
  simp [Ideal.ofBits, Ideal.ieee, -EReal.coe_mul]; norm_num

theorem bitsm126 : Ideal.ofBits .f32 3271294976#32 = ((-126 : ℝ) : EReal) := by
  simp [Ideal.ofBits, Ideal.ieee, -EReal.coe_mul]; norm_num

/-- The supremum over all tokens, new and cached. -/
theorem sup_tok (f : Tok → EReal) :
    Finset.univ.sup f = (Finset.univ.sup fun p => f (.inr p)) ⊔ (Finset.univ.sup fun j => f (.inl j)) := by
  apply le_antisymm
  · refine Finset.sup_le fun t _ => ?_
    cases t with
    | inl j => exact le_sup_of_le_right (Finset.le_sup (f := fun j => f (.inl j)) (Finset.mem_univ j))
    | inr p => exact le_sup_of_le_left (Finset.le_sup (f := fun p => f (.inr p)) (Finset.mem_univ p))
  · exact sup_le (Finset.sup_le fun p _ => Finset.le_sup (Finset.mem_univ _)) (Finset.sup_le fun j _ => Finset.le_sup (Finset.mem_univ _))

end Cert.Spec

end
-- ==== Proof.KRead.lean ====
/- What the kernel's blocks of arithmetic leave, element by element, on the extended reals. -/
module

public import proofs.«01_k».proof.Proof.KValues
public import proofs.«01_k».proof.Proof.Spec
public import Idealize.ShloMosaic.Lib.Pointwise
public import Idealize.ShloMosaic.PureOps.Ideal

@[expose] public section

set_option maxRecDepth 16384

noncomputable section

namespace Cert.KernelIdeal.Run

open Cert.KernelIdeal Cert.KernelIdeal.Gen
open Idealize.ShloMosaic
open Cert.Softmax (κ2)
open Cert.Spec (amax scaled gscale gcode at4)

/-- A folded maximum from minus infinity is the supremum. -/
theorem fold_sup {n : ℕ} (f : Fin n → EReal) : Finset.fold max ⊥ f Finset.univ = Finset.univ.sup f := rfl

/-! The quantiser of a group of 128 entries, a row a batch. -/

theorem pay9_at (v : Vec Ideal S1x14x128 .bf16) (r : Fin 14) (d : Fin 128) : k0_pay9 v (ix2 r d) = v (ix3 0 r d) := by
  pointwise [k0_pay9]

theorem pay10_at (v : Vec Ideal S1x14x128 .bf16) (r : Fin 14) :
    k0_pay10 v (ix2 r 0) = Quant.word (scaled fun k => v (ix3 0 r k)) := by
  have h : (Finset.fold max (Ideal.ofBits .f32 4286578688#32) (fun x => FloatOps.absf (F := Ideal) (φ := .f32) (k0_pay9 v (ix2 r x))) Finset.univ : EReal) = amax fun k => v (ix3 0 r k) := by
    rw [Spec.bot_bits]
    simp only [pay9_at]
    rfl
  pointwise [k0_pay10]
  rw [h]
  unfold Quant.word Quant.count
  rw [Quant.fold_count]
  simp only [Quant.threshold]
  rfl

theorem pay11_at (v : Vec Ideal S1x14x128 .bf16) (r : Fin 14) :
    k0_pay11 v (ix2 r 0) = gscale fun k => v (ix3 0 r k) := by
  unfold gscale
  rw [← Quant.up _ (Spec.scaled_nonneg _), ← pay10_at]
  pointwise [k0_pay11]

theorem pay12_at (v : Vec Ideal S1x14x128 .bf16) (r : Fin 14) (d : Fin 128) :
    k0_pay12 v (ix2 r d) = gcode (fun k => v (ix3 0 r k)) d := by
  unfold gcode
  rw [← Quant.down _ (Spec.scaled_nonneg _), ← pay10_at]
  show _ = min _ (max _ (v (ix3 0 r d) * _))
  rw [← pay9_at v r d]
  pointwise [k0_pay12]

theorem pay14_at (u : FVec Ideal S14x1 .f32) (v : FVec Ideal S14x128 .fp8e4m3) (r : Fin 14) (d : Fin 128) : k0_pay14 u v (ix3 0 r d) = v (ix2 r d) * u (ix2 r 0) := by
  pointwise [k0_pay14]

theorem pay13_at (v : FVec Ideal S14x128 .fp8e4m3) (r : Fin 14) (d : Fin 128) : k0_pay13 v (ix3 0 r d) = v (ix2 r d) := by
  pointwise [k0_pay13]

theorem pay3_at (u : Fin 4 → FVec Ideal S14x1 .f32) (r : Fin 14) (g : Fin 4) : k0_pay3 (u 0) (u 1) (u 2) (u 3) (ix3 0 r g) = u g (ix2 r 0) := by
  pointwise [k0_pay3]
  match g with
  | 0 => rfl
  | 1 => rfl
  | 2 => rfl
  | 3 => rfl

theorem pay4_at (a : Vec Ideal S1x14x64 .bf16) (r : Fin 14) (j : Fin 64) : k0_pay4 a (ix3 0 r j) = a (ix3 0 r j) := by
  pointwise [k0_pay4]

theorem pay99_at (v : Vec Ideal S1x1x64x96 .bf16) (h : Fin 96) (j : Fin 64) : k0_pay99 v (ix2 h j) = v (ix4 0 0 j h) := by
  pointwise [k0_pay99]

/-! The sixteen columns of the new tokens. -/

section

variable (v43 v46 v49 : FVec Ideal S1x512 .f32) (v54 v57 v60 : Vec Ideal S1x1x64 .f32) (v65 : Vec Ideal S1x288x512 .bf16) (v68 : Vec Ideal S288x64 .bf16)

theorem pay102_at (v : Vec Ideal S1x1x512 .f32) (d : Fin 512) : k0_pay102 v (ix2 0 d) = v (ix3 0 0 d) := by
  pointwise [k0_pay102]
theorem pay103_at (v : Vec Ideal S1x1x512 .f32) (d : Fin 512) : k0_pay103 v (ix2 0 d) = v (ix3 0 0 d) := by
  pointwise [k0_pay103]
theorem pay104_at (v : Vec Ideal S1x1x512 .f32) (d : Fin 512) : k0_pay104 v (ix2 0 d) = v (ix3 0 0 d) := by
  pointwise [k0_pay104]

theorem pay105_at (c : Fin 16) (d : Fin 512) : k0_pay105 v43 v46 v49 (ix2 c d) = if c.val = 0 then v43 (ix2 0 d) else if c.val = 1 then v46 (ix2 0 d) else if c.val = 2 then v49 (ix2 0 d) else 0 := by
  by_cases h0 : c.val = 0
  · rw [if_pos h0]
    pointwise [k0_pay105]
    exact (dif_pos (by omega)).trans (congrArg (fun z => v43 (ix2 z d)) (Fin.ext (by show c.val = 0; omega)))
  rw [if_neg h0]
  by_cases h1 : c.val = 1
  · rw [if_pos h1]
    pointwise [k0_pay105]
    exact (dif_neg (by omega)).trans ((dif_pos (by omega)).trans (congrArg (fun z => v46 (ix2 z d)) (Fin.ext (by show c.val - 1 = 0; omega))))
  rw [if_neg h1]
  by_cases h2 : c.val = 2
  · rw [if_pos h2]
    pointwise [k0_pay105]
    exact (dif_neg (by omega)).trans ((dif_neg (by omega)).trans ((dif_pos (by omega)).trans (congrArg (fun z => v49 (ix2 z d)) (Fin.ext (by show c.val - 1 - 1 = 0; omega)))))
  rw [if_neg h2]
  pointwise [k0_pay105]
  exact (dif_neg (by omega)).trans ((dif_neg (by omega)).trans (dif_neg (by omega)))

/-- A column's rotary key. -/
def rotN (c : Fin 16) (x : Fin 64) : EReal :=
  if c.val = 0 then v54 (ix3 0 0 x) else if c.val = 1 then v57 (ix3 0 0 x) else if c.val = 2 then v60 (ix3 0 0 x) else 0

theorem pay106_at (r : Fin 288) (c : Fin 16) : k0_pay106 v43 v46 v49 v54 v57 v60 v65 v68 (ix2 r c)
    = Scalar.select (IntOp.cmpi .slt (BitVec.ofNat 32 c.val) 3#32)
        (Scalar.select (IntOp.cmpi .sle (IntOp.muli (BitVec.ofNat 32 c.val) 96#32) (BitVec.ofNat 32 r.val))
          (∑ x, v65 (ix3 0 r x) * k0_pay105 v43 v46 v49 (ix2 c x) + ∑ x, v68 (ix2 r x) * rotN v54 v57 v60 c x) ⊥) ⊥ := by
  pointwise [k0_pay106]
  unfold rotN
  have e : (fun x : Fin 64 => v68 (ix2 r x) * if h : c.val < 1 then v54 (ix3 0 0 x) else if h : c.val - 1 < 1 then v57 (ix3 0 0 x) else if h : c.val - 1 - 1 < 1 then v60 (ix3 0 0 x) else (0 : EReal))
      = fun x => v68 (ix2 r x) * if c.val = 0 then v54 (ix3 0 0 x) else if c.val = 1 then v57 (ix3 0 0 x) else if c.val = 2 then v60 (ix3 0 0 x) else (0 : EReal) := by
    funext x
    congr 1
    split_ifs <;> first | rfl | omega
  exact congrArg (fun f : Fin 64 → EReal => Scalar.select (IntOp.cmpi .slt (BitVec.ofNat 32 c.val) 3#32)
        (Scalar.select (IntOp.cmpi .sle (IntOp.muli (BitVec.ofNat 32 c.val) 96#32) (BitVec.ofNat 32 r.val))
          (∑ x, v65 (ix3 0 r x) * k0_pay105 v43 v46 v49 (ix2 c x) + ∑ x, f x) ⊥) ⊥) e

theorem pay107_at (r : Fin 288) : k0_pay107 v43 v46 v49 v54 v57 v60 v65 v68 (ix2 r 0)
    = Finset.univ.sup fun c : Fin 16 => k0_pay106 v43 v46 v49 v54 v57 v60 v65 v68 (ix2 r c) := by
  rw [← fold_sup, ← Spec.bot_bits]
  pointwise [k0_pay107]

theorem pay108_at (r : Fin 288) (c : Fin 16) : k0_pay108 v43 v46 v49 v54 v57 v60 v65 v68 (ix2 r c)
    = Softmax.w (k0_pay106 v43 v46 v49 v54 v57 v60 v65 v68 (ix2 r c)) (k0_pay107 v43 v46 v49 v54 v57 v60 v65 v68 (ix2 r 0)) := by
  pointwise [k0_pay108]
  rfl
end

theorem pay5_at (v : FVec Ideal S288x1 .f32) (r : Fin 288) (l : Fin 128) : k0_pay5 v (ix2 r l) = v (ix2 r 0) := by
  pointwise [k0_pay5]

theorem pay6_at (v : FVec Ideal S288x16 .f32) (r : Fin 288) (l : Fin 128) : k0_pay6 v (ix2 r l) = ∑ x, v (ix2 r x) := by
  pointwise [k0_pay6]

theorem pay7_at (u : FVec Ideal S16x512 .bf16) (v : FVec Ideal S288x16 .f32) (r : Fin 288) (d : Fin 512) : k0_pay7 u v (ix2 r d) = ∑ x, v (ix2 r x) * u (ix2 x d) := by
  pointwise [k0_pay7]

theorem pay8_at (u : Vec Ideal S288x512 .f32) (v : Vec Ideal S288x1 .f32) (r : Fin 288) (d : Fin 512) : k0_pay8 u v (ix3 0 r d) = Ideal.div (u (ix2 r d)) (v (ix2 r 0)) := by
  pointwise [k0_pay8]

/-! A block of 512 cached tokens. -/

theorem pay109_at (u : Vec Ideal S1x4x512 .f32) (v : Vec Ideal S1x512x512 .fp8e4m3) (p d : Fin 512) :
    k0_pay109 u v (ix2 p d) = v (ix3 0 p d) * u (ix3 0 (Spec.grp d) p) := by
  pointwise [k0_pay109]
  have h3 : ∀ g (e : Spec.grp d = g), u (ix3 0 g p) = u (ix3 0 (Spec.grp d) p) := fun g e => by rw [e]
  by_cases h1 : d.val < 128
  · rw [dif_pos h1, h3 0 (Fin.ext (by show d.val / 128 = 0; omega))]
  rw [dif_neg h1]
  by_cases h2 : d.val - 128 < 128
  · rw [dif_pos h2, h3 1 (Fin.ext (by show d.val / 128 = 1; omega))]
    exact congrArg (fun z => v (ix3 0 p z) * _) (Fin.ext (by show 128 + (d.val - 128) = d.val; omega))
  rw [dif_neg h2]
  by_cases h4 : d.val - 128 - 128 < 128
  · rw [dif_pos h4, h3 2 (Fin.ext (by show d.val / 128 = 2; omega))]
    exact congrArg (fun z => v (ix3 0 p z) * _) (Fin.ext (by show 256 + (d.val - 128 - 128) = d.val; omega))
  · rw [dif_neg h4, h3 3 (Fin.ext (by show d.val / 128 = 3; omega))]
    exact congrArg (fun z => v (ix3 0 p z) * _) (Fin.ext (by show 384 + (d.val - 128 - 128 - 128) = d.val; omega))

theorem pay110_at (x5 : Vec Ideal S1x4x512 .f32) (x4 : Vec Ideal S1x512x512 .fp8e4m3) (v48 : Vec Ideal S1x288x512 .bf16) (v51 : Vec Ideal S288x64 .bf16) (v52 : Vec Ideal S1x64x512 .bf16) (r : Fin 288) (p : Fin 512) :
    k0_pay110 x5 x4 v48 v51 v52 (ix2 r p) = ∑ x, v48 (ix3 0 r x) * k0_pay109 x5 x4 (ix2 p x) + ∑ x, v51 (ix2 r x) * v52 (ix3 0 x p) := by
  pointwise [k0_pay110]

section
variable (v55 : FVec Ideal S288x512 .f32) (v59 : IVec S288x512 32) (v63 : Vec Ideal S288x128 .f32)

/-- A block's masked scores. -/
def bscore (r : Fin 288) (p : Fin 512) : EReal := Scalar.select (IntOp.cmpi .slt (BitVec.ofNat 32 p.val) (v59 (ix2 r p))) (v55 (ix2 r p)) ⊥

theorem pay112_at (r : Fin 288) (p : Fin 512) : k0_pay112 v55 (iota .tc S288x512 32 [1] iota_S288x512_d1_w32) v59 (ix2 r p) = bscore v55 v59 r p := by
  unfold bscore
  pointwise [k0_pay112]
  rfl

theorem pay111_at (a v : BitVec 32) (r : Fin 288) (p : Fin 512) : k0_pay111 (F := Ideal) a v (ix2 r p) = Scalar.subi v (Scalar.muli a 512#32) := by
  pointwise [k0_pay111]

/-- The block's maximum and the running one. -/
def bmax (r : Fin 288) (l : Fin 128) : EReal := v63 (ix2 r l) ⊔ Finset.univ.sup (bscore v55 v59 r)

theorem pay116_at (r : Fin 288) (l : Fin 128) : k0_pay116 v55 (iota .tc S288x512 32 [1] iota_S288x512_d1_w32) v59 v63 (ix2 r l) = bmax v55 v59 v63 r l := by
  have h : (Finset.fold max (Ideal.ofBits .f32 4286578688#32) (fun x : Fin 512 => k0_pay112 v55 (iota .tc S288x512 32 [1] iota_S288x512_d1_w32) v59 (ix2 r x)) Finset.univ : EReal) = Finset.univ.sup (bscore v55 v59 r) := by
    rw [Spec.bot_bits, fold_sup]
    exact Finset.sup_congr rfl fun x _ => pay112_at v55 v59 r x
  unfold bmax
  rw [← h]
  pointwise [k0_pay116, k0_pay113]

theorem pay114_at (r : Fin 288) (l : Fin 128) : k0_pay114 v55 (iota .tc S288x512 32 [1] iota_S288x512_d1_w32) v59 v63 (ix2 r l) = Softmax.w (v63 (ix2 r l)) (bmax v55 v59 v63 r l) := by
  rw [← pay116_at]
  pointwise [k0_pay114, k0_pay116]
  rfl

theorem pay115_at (r : Fin 288) (p : Fin 512) : k0_pay115 v55 (iota .tc S288x512 32 [1] iota_S288x512_d1_w32) v59 v63 (ix2 r p) = Softmax.w (bscore v55 v59 r p) (bmax v55 v59 v63 r 0) := by
  rw [← pay116_at, ← pay112_at]
  pointwise [k0_pay115, k0_pay116]
  rfl

theorem pay117_at (v81 : Vec Ideal S288x128 .f32) (r : Fin 288) (l : Fin 128) : k0_pay117 v55 (iota .tc S288x512 32 [1] iota_S288x512_d1_w32) v59 v63 v81 (ix2 r l)
    = v81 (ix2 r l) * Softmax.w (v63 (ix2 r l)) (bmax v55 v59 v63 r l) + ∑ x, Softmax.w (bscore v55 v59 r x) (bmax v55 v59 v63 r 0) := by
  simp only [← pay114_at, ← pay115_at]
  pointwise [k0_pay117]

theorem pay118_at (v47 : FVec Ideal S512x512 .bf16) (v90 : Vec Ideal S288x512 .f32) (r : Fin 288) (d : Fin 512) : k0_pay118 v47 v55 (iota .tc S288x512 32 [1] iota_S288x512_d1_w32) v59 v63 v90 (ix2 r d)
    = v90 (ix2 r d) * Softmax.w (v63 (ix2 r 0)) (bmax v55 v59 v63 r 0) + ∑ x, Softmax.w (bscore v55 v59 r x) (bmax v55 v59 v63 r 0) * v47 (ix2 x d) := by
  simp only [← pay114_at, ← pay115_at]
  pointwise [k0_pay118]
end

end Cert.KernelIdeal.Run

end
-- ==== Proof.KState.lean ====
/- What the kernel's buffers hold after each point of a batch: the online softmax over the new tokens and the blocks of
   the cache read so far. -/
module

public import proofs.«01_k».proof.Proof.KRead
public import proofs.«01_k».proof.Proof.KBody

@[expose] public section

set_option maxRecDepth 16384

noncomputable section

namespace Cert.KernelIdeal.Run

open Cert.KernelIdeal Cert.KernelIdeal.Gen
open Idealize.ShloMosaic
open Cert.Softmax (upTo upTo_succ upTo_disjoint upTo_zero upTo_all blockEmb place num den num_union den_union num_union_bot den_union_bot sup_union_bot w w_bot_left)
open Cert.Spec (Args score val latN latC rawN rawC code scl gscale gcode at4 part)

variable (a : Args)

/-- What the buffers hold for a batch once the new tokens and `k` blocks of its cache are taken in. -/
structure Inv (b : Fin 14) (k : ℕ) (st : St Ideal) : Prop where
  mx : ∀ r l, st.mx (ix2 r l) = (upTo k).sup (score a b r)
  sm : ∀ r l, st.sm (ix2 r l) = den (score a b r) (upTo k)
  acc : ∀ r d, st.acc (ix2 r d) = num (score a b r) (val a b d) (upTo k)
  qr : ∀ r j, st.qr (ix2 r j) = a.q b (Spec.tok r) (Spec.hd r) j
  ln : ∀ s b d, st.ln (ix3 s b d) = latN a b s d
  rn : ∀ s b j, st.rn (ix3 s b j) = a.kr b s j

/-! The parts filled once. -/

section

variable {a} {x2 : Vec Ideal S3x14x512 .bf16} (h2 : ∀ s b d, x2 (ix3 s b d) = a.kv b s d)
include h2

theorem chunk_at (s : Fin 3) (b : Fin 14) (g : Fin 4) : (fun k => chunk x2 s g (ix3 0 b k)) = part a b s g := by
  funext k
  refine Eq.trans ?_ (h2 s b (at4 g k))
  exact congrArg (fun z => x2 (ix3 s b z)) (Fin.ext (by show 128 * g.val + k.val = g.val * 128 + k.val; omega))

theorem NC_at (s : Fin 3) (b : Fin 14) (d : Fin 512) : NC x2 (ix3 s b d) = code a b s d := by
  show k0_pay13 (k0_pay12 (chunk x2 s (grp d))) (ix3 0 b (lane d)) = _
  rw [pay13_at, pay12_at, chunk_at h2]
  rfl

theorem LN_at (s : Fin 3) (b : Fin 14) (d : Fin 512) : LN x2 (ix3 s b d) = latN a b s d := by
  show k0_pay14 (k0_pay11 (chunk x2 s (grp d))) (k0_pay12 (chunk x2 s (grp d))) (ix3 0 b (lane d)) = _
  rw [pay14_at, pay12_at, pay11_at, chunk_at h2]
  rfl

theorem NS_at (s : Fin 3) (b : Fin 14) (g : Fin 4) : NS x2 (ix3 s b g) = scl a b s g := by
  show k0_pay3 (k0_pay11 (chunk x2 s 0)) (k0_pay11 (chunk x2 s 1)) (k0_pay11 (chunk x2 s 2)) (k0_pay11 (chunk x2 s 3)) (ix3 0 b g) = _
  refine (pay3_at (fun g => k0_pay11 (chunk x2 s g)) b g).trans ?_
  rw [pay11_at, chunk_at h2]
  rfl

end

theorem RN_at {x3 : Vec Ideal S3x14x64 .bf16} (h3 : ∀ s b j, x3 (ix3 s b j) = a.kr b s j) (s : Fin 3) (b : Fin 14) (j : Fin 64) :
    RN x3 (ix3 s b j) = a.kr b s j := by
  show k0_pay4 (chunkR x3 s) (ix3 0 b j) = _
  rw [pay4_at]
  exact h3 s b j

theorem QR_at {x1 : Vec Ideal S1x3x64x96 .bf16} {b : Fin 14} (h1 : ∀ s j h, x1 (ix4 0 s j h) = a.q b s h j) (r : Fin 288) (j : Fin 64) :
    QR x1 (ix2 r j) = a.q b (Spec.tok r) (Spec.hd r) j := by
  show k0_pay99 (chunkQ x1 (tok r)) (ix2 (hd r) j) = _
  rw [pay99_at]
  exact h1 _ _ _

/-! The new tokens: sixteen columns, of which three are tokens. -/

theorem sum16 (f : Fin 16 → EReal) (h : ∀ c : Fin 16, 3 ≤ c.val → f c = 0) : ∑ c, f c = ∑ j : Fin 3, f ⟨j.val, by omega⟩ := by
  refine (Fin.sum_univ_add (a := 3) (b := 13) f).trans ?_
  have e : ∑ i : Fin 13, f (Fin.natAdd 3 i) = 0 := Finset.sum_eq_zero fun i _ => h (Fin.natAdd 3 i) (Nat.le_add_right 3 i.val)
  exact (congrArg (_ + ·) e).trans (add_zero _)

theorem sup16 (f : Fin 16 → EReal) (h : ∀ c : Fin 16, 3 ≤ c.val → f c = ⊥) : Finset.univ.sup f = Finset.univ.sup fun j : Fin 3 => f ⟨j.val, by omega⟩ := by
  apply le_antisymm
  · refine Finset.sup_le fun c _ => ?_
    by_cases hc : c.val < 3
    · exact Finset.le_sup (f := fun j : Fin 3 => f ⟨j.val, by omega⟩) (Finset.mem_univ ⟨c.val, hc⟩)
    · rw [h c (by omega)]; exact bot_le
  · exact Finset.sup_le fun j _ => Finset.le_sup (Finset.mem_univ _)

section

variable {a} {b : Fin 14} {x0 : Vec Ideal S1x288x512 .bf16} {x1 : Vec Ideal S1x3x64x96 .bf16} {s4 : Vec Ideal S3x14x512 .f32} {s5 : Vec Ideal S3x14x64 .f32}
  (h0 : ∀ r d, x0 (ix3 0 r d) = a.x b (Spec.tok r) (Spec.hd r) d) (h1 : ∀ s j h, x1 (ix4 0 s j h) = a.q b s h j)
  (h4 : ∀ s b d, s4 (ix3 s b d) = latN a b s d) (h5 : ∀ s b j, s5 (ix3 s b j) = a.kr b s j)

/-- The columns' scores. -/
abbrev cols (b : Fin 14) (x0 : Vec Ideal S1x288x512 .bf16) (x1 : Vec Ideal S1x3x64x96 .bf16) (s4 : Vec Ideal S3x14x512 .f32) (s5 : Vec Ideal S3x14x64 .f32) : FVec Ideal S288x16 .f32 :=
  k0_pay106 (k0_pay102 (rowL s4 0 b)) (k0_pay103 (rowL s4 1 b)) (k0_pay104 (rowL s4 2 b)) (rowR s5 0 b) (rowR s5 1 b) (rowR s5 2 b) x0 (QR x1)

include h4 in
theorem lat16 (j : Fin 3) (d : Fin 512) :
    k0_pay105 (k0_pay102 (rowL s4 0 b)) (k0_pay103 (rowL s4 1 b)) (k0_pay104 (rowL s4 2 b)) (ix2 ⟨j.val, by omega⟩ d) = latN a b j d := by
  rw [pay105_at, pay102_at, pay103_at, pay104_at, ← h4]
  match j with
  | 0 => rfl
  | 1 => rfl
  | 2 => rfl

include h5 in
theorem rot16 (j : Fin 3) (x : Fin 64) : rotN (rowR s5 0 b) (rowR s5 1 b) (rowR s5 2 b) ⟨j.val, by omega⟩ x = a.kr b j x := by
  rw [← h5]
  match j with
  | 0 => rfl
  | 1 => rfl
  | 2 => rfl

include h0 h1 h4 h5 in
theorem cols_lt (r : Fin 288) (j : Fin 3) : cols b x0 x1 s4 s5 (ix2 r ⟨j.val, by omega⟩) = score a b r (.inl j) := by
  refine (pay106_at _ _ _ _ _ _ _ _ r _).trans ?_
  have hj : IntOp.cmpi .slt (BitVec.ofNat 32 j.val) 3#32 = 1#1 := (by decide +kernel : ∀ j : Fin 3, IntOp.cmpi .slt (BitVec.ofNat 32 j.val) 3#32 = 1#1) j
  rw [hj]
  simp only [lat16 h4, rot16 h5, h0, QR_at a h1]
  rfl

theorem cols_ge (r : Fin 288) (c : Fin 16) (hc : 3 ≤ c.val) : cols b x0 x1 s4 s5 (ix2 r c) = ⊥ := by
  refine (pay106_at _ _ _ _ _ _ _ _ r c).trans ?_
  have hj : IntOp.cmpi .slt (BitVec.ofNat 32 c.val) 3#32 = 0#1 := (by decide +kernel : ∀ c : Fin 16, 3 ≤ c.val → IntOp.cmpi .slt (BitVec.ofNat 32 c.val) 3#32 = 0#1) c hc
  rw [hj]
  rfl

include h0 h1 h4 h5 in
theorem cols_max (r : Fin 288) :
    k0_pay107 (k0_pay102 (rowL s4 0 b)) (k0_pay103 (rowL s4 1 b)) (k0_pay104 (rowL s4 2 b)) (rowR s5 0 b) (rowR s5 1 b) (rowR s5 2 b) x0 (QR x1) (ix2 r 0)
      = (upTo 0).sup (score a b r) := by
  rw [pay107_at, sup16 _ (fun c hc => cols_ge r c hc), upTo_zero, Finset.sup_map]
  exact Finset.sup_congr rfl fun j _ => cols_lt h0 h1 h4 h5 r j

include h0 h1 h4 h5 in
theorem cols_w (r : Fin 288) (c : Fin 16) :
    k0_pay108 (k0_pay102 (rowL s4 0 b)) (k0_pay103 (rowL s4 1 b)) (k0_pay104 (rowL s4 2 b)) (rowR s5 0 b) (rowR s5 1 b) (rowR s5 2 b) x0 (QR x1) (ix2 r c)
      = w (cols b x0 x1 s4 s5 (ix2 r c)) ((upTo 0).sup (score a b r)) := by
  rw [pay108_at, cols_max h0 h1 h4 h5]

include h0 h1 h4 h5 in
theorem iM_at (r : Fin 288) (l : Fin 128) : iM x0 x1 s4 s5 b (ix2 r l) = (upTo 0).sup (score a b r) := by
  unfold iM
  rw [pay5_at, cols_max h0 h1 h4 h5]

include h0 h1 h4 h5 in
theorem iL_at (r : Fin 288) (l : Fin 128) : iL x0 x1 s4 s5 b (ix2 r l) = den (score a b r) (upTo 0) := by
  unfold iL
  rw [pay6_at]
  simp only [cols_w h0 h1 h4 h5]
  rw [sum16 _ (fun c hc => by rw [cols_ge r c hc, w_bot_left])]
  unfold den
  rw [upTo_zero, Finset.sum_map]
  refine Finset.sum_congr rfl fun j _ => ?_
  rw [cols_lt h0 h1 h4 h5]
  rfl

include h0 h1 h4 h5 in
theorem iA_at (r : Fin 288) (d : Fin 512) : iA x0 x1 s4 s5 b (ix2 r d) = num (score a b r) (val a b d) (upTo 0) := by
  unfold iA
  rw [pay7_at]
  simp only [cols_w h0 h1 h4 h5]
  rw [sum16 _ (fun c hc => by rw [cols_ge r c hc, w_bot_left, zero_mul])]
  unfold num
  rw [upTo_zero, Finset.sum_map]
  refine Finset.sum_congr rfl fun j _ => ?_
  rw [cols_lt h0 h1 h4 h5, lat16 h4]
  rfl

include h0 h1 h4 h5 in
/-- A batch's first section takes in the new tokens. -/
theorem inv_init (i : grid0.Coords) (hi : (i 0 : Fin 14) = b) : Inv a b 0 (initSt i x0 x1 s4 s5) where
  mx r l := by subst hi; exact iM_at h0 h1 h4 h5 r l
  sm r l := by subst hi; exact iL_at h0 h1 h4 h5 r l
  acc r d := by subst hi; exact iA_at h0 h1 h4 h5 r d
  qr r j := QR_at a h1 r j
  ln := h4
  rn := h5

end

/-! A block of the cache. -/

/-- The signed comparison of words. -/
theorem cmpi_slt (x y : BitVec 32) : IntOp.cmpi .slt x y = if x.toInt < y.toInt then 1#1 else 0#1 := by
  show BitVec.ofBool (x.slt y) = _
  rw [BitVec.slt]
  by_cases h : x.toInt < y.toInt
  · rw [if_pos h, decide_eq_true h]; rfl
  · rw [if_neg h, decide_eq_false h]; rfl

theorem toInt_small (k : ℕ) (hk : k < 2 ^ 31) : (BitVec.ofNat 32 k).toInt = k := by
  rw [BitVec.toInt_eq_toNat_cond, BitVec.toNat_ofNat]
  split <;> omega

theorem mul_block (k : ℕ) : Scalar.muli (BitVec.ofNat 32 k) 512#32 = BitVec.ofNat 32 (512 * k) := by
  show BitVec.ofNat 32 k * 512#32 = _
  rw [← BitVec.ofNat_mul, Nat.mul_comm]

/-- A point takes its block in where the block's first place lies before the batch's length. -/
theorem visible (i : grid0.Coords) (k : ℕ) (hk : k < 12) (hi : (i 1 : Fin 12).val = k) (v : BitVec 32) :
    cond0_2 i v ↔ (512 * k : ℤ) < v.toInt := by
  have e : ∀ z : BitVec 1, (Scalar.cmpi .ne (Scalar.extui z : BitVec 32) 0#32 = 1#1) ↔ z = 1#1 := by decide
  unfold cond0_2
  rw [e]
  have hi' : ((i 1).val : ℕ) = k := hi
  rw [hi', mul_block]
  show IntOp.cmpi .slt _ _ = 1#1 ↔ _
  rw [cmpi_slt, toInt_small _ (by omega)]
  by_cases h : ((512 * k : ℕ) : ℤ) < v.toInt
  · rw [if_pos h]; exact ⟨fun _ => by exact_mod_cast h, fun _ => rfl⟩
  · rw [if_neg h]; exact ⟨fun h' => absurd h' (by decide), fun h' => absurd (by exact_mod_cast h') h⟩

/-- The mask inside a visible block compares places of the whole cache. -/
theorem mask_eq (k : ℕ) (hk : k < 12) (v : BitVec 32) (h : (512 * k : ℤ) < v.toInt) (p : Fin 512) :
    IntOp.cmpi .slt (BitVec.ofNat 32 p.val) (Scalar.subi v (Scalar.muli (BitVec.ofNat 32 k) 512#32))
      = IntOp.cmpi .slt (BitVec.ofNat 32 (place k hk p).val) v := by
  have hp := p.isLt
  have hs : (Scalar.subi v (Scalar.muli (BitVec.ofNat 32 k) 512#32)).toInt = v.toInt - 512 * k := by
    rw [mul_block]
    show (v - BitVec.ofNat 32 (512 * k)).toInt = _
    rw [BitVec.toInt_sub, toInt_small _ (by omega)]
    have hlt : v.toInt < 2 ^ 31 := BitVec.toInt_lt
    rw [Int.bmod_eq_of_le] <;> push_cast <;> omega
  rw [cmpi_slt, cmpi_slt, hs, toInt_small _ (by omega), toInt_small _ (by have := (place k hk p).isLt; omega)]
  show _ = if ((512 * k + p.val : ℕ) : ℤ) < v.toInt then 1#1 else 0#1
  by_cases h' : ((512 * k + p.val : ℕ) : ℤ) < v.toInt
  · rw [if_pos h', if_pos (by push_cast at h'; omega)]
  · rw [if_neg h', if_neg (by push_cast at h'; omega)]

/-- Every score of a block that is not visible is minus infinity. -/
theorem score_hidden (b : Fin 14) (r : Fin 288) (k : ℕ) (hk : k < 12) (h : ¬ (512 * k : ℤ) < (a.len b).toInt) :
    ∀ t ∈ Finset.univ.map (blockEmb k hk), score a b r t = ⊥ := by
  intro t ht
  obtain ⟨p, -, rfl⟩ := Finset.mem_map.1 ht
  show Scalar.select (IntOp.cmpi .slt (BitVec.ofNat 32 (place k hk p).val) (a.len b)) (rawC a b r (place k hk p)) ⊥ = ⊥
  have hp := p.isLt
  rw [cmpi_slt, toInt_small _ (by have := (place k hk p).isLt; omega), if_neg (by show ¬ (((512 * k + p.val : ℕ) : ℤ) < _); push_cast; omega)]
  rfl

section

variable {a} {b : Fin 14} {k : ℕ} (hk : k < 12) {x0 : Vec Ideal S1x288x512 .bf16} {x4 : Vec Ideal S1x512x512 .fp8e4m3} {x5 : Vec Ideal S1x4x512 .f32}
  {x6 : Vec Ideal S1x64x512 .bf16} {s0 : Vec Ideal S288x64 .bf16}
  (h0 : ∀ r d, x0 (ix3 0 r d) = a.x b (Spec.tok r) (Spec.hd r) d) (hq : ∀ r j, s0 (ix2 r j) = a.q b (Spec.tok r) (Spec.hd r) j)
  (h4 : ∀ p d, x4 (ix3 0 p d) = a.codes b (place k hk p) d) (h5 : ∀ g p, x5 (ix3 0 g p) = a.scale b (place k hk p) g)
  (h6 : ∀ j p, x6 (ix3 0 j p) = a.krc b (place k hk p) j)

include h4 h5 in
theorem lat_block (p d : Fin 512) : k0_pay109 x5 x4 (ix2 p d) = latC a b (place k hk p) d := by
  rw [pay109_at, h4, h5]
  rfl

include h0 hq h4 h5 h6 in
theorem raw_block (r : Fin 288) (p : Fin 512) : k0_pay110 x5 x4 x0 s0 x6 (ix2 r p) = rawC a b r (place k hk p) := by
  rw [pay110_at]
  simp only [lat_block hk h4 h5, h0, hq, h6]
  rfl

include h0 hq h4 h5 h6 in
theorem bscore_block (hv : (512 * k : ℤ) < (a.len b).toInt) (r : Fin 288) :
    bscore (k0_pay110 x5 x4 x0 s0 x6) (k0_pay111 (F := Ideal) (BitVec.ofNat 32 k) (a.len b)) r = fun p => score a b r (blockEmb k hk p) := by
  funext p
  unfold bscore
  rw [pay111_at, mask_eq k hk _ hv, raw_block hk h0 hq h4 h5 h6]
  rfl

end

/-- One point of a batch takes its block of the cache in. -/
theorem inv_step {b : Fin 14} {k : ℕ} (hk : k < 12) {st : St Ideal} (H : Inv a b k st) (i : grid0.Coords) (hi : (i 1 : Fin 12).val = k)
    {x0 : Vec Ideal S1x288x512 .bf16} {x4 : Vec Ideal S1x512x512 .fp8e4m3} {x5 : Vec Ideal S1x4x512 .f32} {x6 : Vec Ideal S1x64x512 .bf16}
    (h0 : ∀ r d, x0 (ix3 0 r d) = a.x b (Spec.tok r) (Spec.hd r) d)
    (h4 : (512 * k : ℤ) < (a.len b).toInt → ∀ p d, x4 (ix3 0 p d) = a.codes b (place k hk p) d)
    (h5 : (512 * k : ℤ) < (a.len b).toInt → ∀ g p, x5 (ix3 0 g p) = a.scale b (place k hk p) g)
    (h6 : (512 * k : ℤ) < (a.len b).toInt → ∀ j p, x6 (ix3 0 j p) = a.krc b (place k hk p) j) :
    Inv a b (k + 1) (scoreSt i (a.len b) x0 x4 x5 x6 st) := by
  by_cases hv : (512 * k : ℤ) < (a.len b).toInt
  · have hb := bscore_block hk h0 H.qr (h4 hv) (h5 hv) (h6 hv) hv
    have hm : ∀ r l, bmax (k0_pay110 x5 x4 x0 st.qr x6) (k0_pay111 (F := Ideal) (BitVec.ofNat 32 k) (a.len b)) st.mx r l
        = (upTo k).sup (score a b r) ⊔ (Finset.univ.map (blockEmb k hk)).sup (score a b r) := fun r l => by
      unfold bmax
      rw [H.mx, hb, Finset.sup_map]
      rfl
    have hi' : (i 1).val = k := hi
    unfold scoreSt
    rw [if_pos ((visible i k hk hi _).2 hv)]
    refine ⟨fun r l => ?_, fun r l => ?_, fun r d => ?_, H.qr, H.ln, H.rn⟩
    · show k0_pay116 (k0_pay110 x5 x4 x0 st.qr x6) _ (k0_pay111 (F := Ideal) (BitVec.ofNat 32 (i 1).val) (a.len b)) st.mx (ix2 r l) = _
      rw [hi', pay116_at, hm, upTo_succ k hk, Finset.sup_union]
    · show k0_pay117 (k0_pay110 x5 x4 x0 st.qr x6) _ (k0_pay111 (F := Ideal) (BitVec.ofNat 32 (i 1).val) (a.len b)) st.mx st.sm (ix2 r l) = _
      rw [hi', pay117_at, hm, hm, H.mx, H.sm, hb, upTo_succ k hk, ← den_union _ _ _ (upTo_disjoint k hk), Finset.sum_map]
    · show k0_pay118 (k0_pay109 x5 x4) (k0_pay110 x5 x4 x0 st.qr x6) _ (k0_pay111 (F := Ideal) (BitVec.ofNat 32 (i 1).val) (a.len b)) st.mx st.acc (ix2 r d) = _
      rw [hi', pay118_at, hm, H.mx, H.acc, hb, upTo_succ k hk, ← num_union _ _ _ _ (upTo_disjoint k hk), Finset.sum_map]
      simp only [lat_block hk (h4 hv) (h5 hv)]
      rfl
  · unfold scoreSt
    rw [if_neg (fun h => hv ((visible i k hk hi _).1 h))]
    have hh := fun r => score_hidden a b r k hk hv
    refine ⟨fun r l => ?_, fun r l => ?_, fun r d => ?_, H.qr, H.ln, H.rn⟩
    · rw [upTo_succ k hk, sup_union_bot _ _ _ (hh r), H.mx]
    · rw [upTo_succ k hk, den_union_bot _ _ _ (upTo_disjoint k hk) (hh r), H.sm]
    · rw [upTo_succ k hk, num_union_bot _ _ _ _ (upTo_disjoint k hk) (hh r), H.acc]

/-- The output block at a batch's last point. -/
theorem out_at {b : Fin 14} {st : St Ideal} (H : Inv a b 12 st) (r : Fin 288) (d : Fin 512) : fO st.acc st.sm (ix3 0 r d) = Spec.out a b r d := by
  show k0_pay8 st.acc (lane0 st.sm) (ix3 0 r d) = _
  rw [pay8_at]
  show Ideal.div (st.acc (ix2 r d)) (st.sm (ix2 r 0)) = _
  rw [H.acc, H.sm, upTo_all]
  rfl

end Cert.KernelIdeal.Run

end
-- ==== Proof.KResults.lean ====
/- What the program results hold at the end, as functions of the arguments. -/
module

public import proofs.«01_k».proof.Proof.KFrame
public import proofs.«01_k».proof.Proof.KState
public import proofs.«01_k».proof.Proof.Blocks
public import Idealize.ShloMosaic.Lib.Pointwise
public import Idealize.ShloMosaic.Lib.Pipeline.ValueKit
public import Idealize.ShloMosaic.Lib.StableHlo.RunRead
public import Idealize.ShloMosaic.Lib.VecWindow
public import Idealize.ShloMosaic.Lib.WholeRead

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Blocks (lenAt)
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg) (hO : Ok m) (c : Dev nD)

theorem N_eq : (cfgM m hO).N = 168 := N_0

/-- A point's batch. -/
def bat (t : Fin (cfgM m hO).N) : Fin 14 := ⟨t.val / 12, by have := t.isLt; have := N_eq m hO; omega⟩

theorem coord_div (t : Fin grid0.N) : (grid0.coords t 0).val = t.val / 12 % 14 := Pipeline.Grid.coords_val t 0 (by decide) rfl
theorem coord_mod (t : Fin grid0.N) : (grid0.coords t 1).val = t.val % 12 := by
  have h : (grid0.coords t 1).val = t.val / 1 % 12 := Pipeline.Grid.coords_val t 1 (by decide) rfl
  rw [Nat.div_one] at h
  exact h

theorem coord0 (t : Fin (cfgM m hO).N) : (grid0.coords t 0 : Fin 14) = bat m hO t := by
  have h := coord_div t
  have := t.isLt
  have := N_eq m hO
  exact Fin.ext (by show (grid0.coords t 0).val = t.val / 12; omega)

theorem word0 (t : Fin (cfgM m hO).N) : (BitVec.ofNat 32 (grid0.coords t 0).val).toNat = (bat m hO t).val := by
  have h : (grid0.coords t 0).val = (bat m hO t).val := congrArg Fin.val (coord0 m hO t)
  rw [h, BitVec.toNat_ofNat]
  have := (bat m hO t).isLt
  omega

/-! The windows' blocks, read off their arrays. -/

/-- The queries of the point's batch. -/
theorem X0_at (t : Fin (cfgM m hO).N) (r : Fin 288) (d : Fin 512) :
    X0 m hO c t (ix3 0 r d) = (V m c main_v0 : Vec Ideal S14x288x512 .bf16) (ix3 (bat m hO t) r d) := by
  show V m c main_v0 ((((cfgM m hO).win 0).blk t).view.emb (ix3 0 r d)) = _
  refine congrArg (V m c main_v0) (funext fun a => Fin.ext ((Window.rect_emb_val ((cfgM m hO).win 0) t _ a).trans ?_))
  match a with
  | ⟨0, _⟩ =>
    show (BitVec.ofNat 32 (grid0.coords t 0).val).toNat * 1 + 0 = _
    rw [word0]
    show (bat m hO t).val * 1 + 0 = (bat m hO t).val
    omega
  | ⟨1, _⟩ =>
    show 0 * 288 + r.val = r.val
    omega
  | ⟨2, _⟩ =>
    show 0 * 512 + d.val = d.val
    omega

/-- The rotary queries of the point's batch. -/
theorem X1_at (t : Fin (cfgM m hO).N) (s : Fin 3) (j : Fin 64) (h : Fin 96) :
    X1 m hO c t (ix4 0 s j h) = (V m c main_v1 : Vec Ideal S14x3x64x96 .bf16) (ix4 (bat m hO t) s j h) := by
  show V m c main_v1 ((((cfgM m hO).win 1).blk t).view.emb (ix4 0 s j h)) = _
  refine congrArg (V m c main_v1) (funext fun a => Fin.ext ((Window.rect_emb_val ((cfgM m hO).win 1) t _ a).trans ?_))
  match a with
  | ⟨0, _⟩ =>
    show (BitVec.ofNat 32 (grid0.coords t 0).val).toNat * 1 + 0 = _
    rw [word0]
    show (bat m hO t).val * 1 + 0 = (bat m hO t).val
    omega
  | ⟨1, _⟩ =>
    show 0 * 3 + s.val = s.val
    omega
  | ⟨2, _⟩ =>
    show 0 * 64 + j.val = j.val
    omega
  | ⟨3, _⟩ =>
    show 0 * 96 + h.val = h.val
    omega

/-- The new latents. -/
theorem X2_at (t : Fin (cfgM m hO).N) (s : Fin 3) (b : Fin 14) (d : Fin 512) :
    X2 m hO c t (ix3 s b d) = (V m c main_v2 : Vec Ideal S3x14x512 .bf16) (ix3 s b d) := by
  show V m c main_v2 ((((cfgM m hO).win 2).blk t).view.emb (ix3 s b d)) = _
  refine congrArg (V m c main_v2) (funext fun a => Fin.ext ((Window.rect_emb_val ((cfgM m hO).win 2) t _ a).trans ?_))
  match a with
  | ⟨0, _⟩ =>
    show 0 * 3 + s.val = s.val
    omega
  | ⟨1, _⟩ =>
    show 0 * 14 + b.val = b.val
    omega
  | ⟨2, _⟩ =>
    show 0 * 512 + d.val = d.val
    omega

/-- The new rotary keys. -/
theorem X3_at (t : Fin (cfgM m hO).N) (s : Fin 3) (b : Fin 14) (j : Fin 64) :
    X3 m hO c t (ix3 s b j) = (V m c main_v3 : Vec Ideal S3x14x64 .bf16) (ix3 s b j) := by
  show V m c main_v3 ((((cfgM m hO).win 3).blk t).view.emb (ix3 s b j)) = _
  refine congrArg (V m c main_v3) (funext fun a => Fin.ext ((Window.rect_emb_val ((cfgM m hO).win 3) t _ a).trans ?_))
  match a with
  | ⟨0, _⟩ =>
    show 0 * 3 + s.val = s.val
    omega
  | ⟨1, _⟩ =>
    show 0 * 14 + b.val = b.val
    omega
  | ⟨2, _⟩ =>
    show 0 * 64 + j.val = j.val
    omega

/-- The block of the cached codes, where its batch has a token in it. -/
theorem X4_at (t : Fin (cfgM m hO).N) (hv : (512 * (t.val % 12) : ℕ) < (lenAt (tbl m) (grid0.coords t)).toInt) (p d : Fin 512) :
    X4 m hO c t (ix3 0 p d) = (V m c main_arg4 : Vec Ideal S14x6144x512 .fp8e4m3) (ix3 (bat m hO t) (Softmax.place (t.val % 12) (Nat.mod_lt _ (by norm_num)) p) d) := by
  show V m c main_arg4 ((((cfgM m hO).win 4).blk t).view.emb (ix3 0 p d)) = _
  refine congrArg (V m c main_arg4) (funext fun a => Fin.ext ((Window.rect_emb_val ((cfgM m hO).win 4) t _ a).trans ?_))
  match a with
  | ⟨0, _⟩ =>
    show (BitVec.ofNat 32 (grid0.coords t 0).val).toNat * 1 + 0 = _
    rw [word0]
    show (bat m hO t).val * 1 + 0 = (bat m hO t).val
    omega
  | ⟨1, _⟩ =>
    show (Blocks.blockWord (BitVec.ofNat 32 (grid0.coords t 1).val) (lenAt (tbl m) (grid0.coords t))).toNat * 512 + p.val = 512 * (t.val % 12) + p.val
    rw [coord_mod, Blocks.blockWord_of_lt _ (Nat.mod_lt _ (by norm_num)) _ (by exact_mod_cast hv)]
    omega
  | ⟨2, _⟩ =>
    show 0 * 512 + d.val = d.val
    omega

/-- The block of the cached scales, where its batch has a token in it. -/
theorem X5_at (t : Fin (cfgM m hO).N) (hv : (512 * (t.val % 12) : ℕ) < (lenAt (tbl m) (grid0.coords t)).toInt) (g : Fin 4) (p : Fin 512) :
    X5 m hO c t (ix3 0 g p) = (V m c main_v4 : Vec Ideal S14x4x6144 .f32) (ix3 (bat m hO t) g (Softmax.place (t.val % 12) (Nat.mod_lt _ (by norm_num)) p)) := by
  show V m c main_v4 ((((cfgM m hO).win 5).blk t).view.emb (ix3 0 g p)) = _
  refine congrArg (V m c main_v4) (funext fun a => Fin.ext ((Window.rect_emb_val ((cfgM m hO).win 5) t _ a).trans ?_))
  match a with
  | ⟨0, _⟩ =>
    show (BitVec.ofNat 32 (grid0.coords t 0).val).toNat * 1 + 0 = _
    rw [word0]
    show (bat m hO t).val * 1 + 0 = (bat m hO t).val
    omega
  | ⟨1, _⟩ =>
    show 0 * 4 + g.val = g.val
    omega
  | ⟨2, _⟩ =>
    show (Blocks.blockWord (BitVec.ofNat 32 (grid0.coords t 1).val) (lenAt (tbl m) (grid0.coords t))).toNat * 512 + p.val = 512 * (t.val % 12) + p.val
    rw [coord_mod, Blocks.blockWord_of_lt _ (Nat.mod_lt _ (by norm_num)) _ (by exact_mod_cast hv)]
    omega

/-- The block of the cached rotary keys, where its batch has a token in it. -/
theorem X6_at (t : Fin (cfgM m hO).N) (hv : (512 * (t.val % 12) : ℕ) < (lenAt (tbl m) (grid0.coords t)).toInt) (j : Fin 64) (p : Fin 512) :
    X6 m hO c t (ix3 0 j p) = (V m c main_v5 : Vec Ideal S14x64x6144 .bf16) (ix3 (bat m hO t) j (Softmax.place (t.val % 12) (Nat.mod_lt _ (by norm_num)) p)) := by
  show V m c main_v5 ((((cfgM m hO).win 6).blk t).view.emb (ix3 0 j p)) = _
  refine congrArg (V m c main_v5) (funext fun a => Fin.ext ((Window.rect_emb_val ((cfgM m hO).win 6) t _ a).trans ?_))
  match a with
  | ⟨0, _⟩ =>
    show (BitVec.ofNat 32 (grid0.coords t 0).val).toNat * 1 + 0 = _
    rw [word0]
    show (bat m hO t).val * 1 + 0 = (bat m hO t).val
    omega
  | ⟨1, _⟩ =>
    show 0 * 64 + j.val = j.val
    omega
  | ⟨2, _⟩ =>
    show (Blocks.blockWord (BitVec.ofNat 32 (grid0.coords t 1).val) (lenAt (tbl m) (grid0.coords t))).toNat * 512 + p.val = 512 * (t.val % 12) + p.val
    rw [coord_mod, Blocks.blockWord_of_lt _ (Nat.mod_lt _ (by norm_num)) _ (by exact_mod_cast hv)]
    omega

theorem lenAt_at (t : Fin (cfgM m hO).N) : lenAt (tbl m) (grid0.coords t) = (m ((c : Thread nD τ).loc main_arg7) : Vec Ideal S14 .i32) (ix1 (bat m hO t)) := by
  obtain rfl : c = 0 := Subsingleton.elim _ _
  rw [← V_main_arg7 m]
  unfold lenAt tbl
  refine congrArg (V m 0 main_arg7) (funext fun a => Fin.ext ?_)
  match a with
  | ⟨0, _⟩ =>
    show (BitVec.ofNat 32 (grid0.coords t 0).val).toNat + _ = (bat m hO t).val
    rw [word0]
    rfl

theorem lenW_at (t : Fin (cfgM m hO).N) : lenW (grid0.coords t) (tab m) = (m ((c : Thread nD τ).loc main_arg7) : Vec Ideal S14 .i32) (ix1 (bat m hO t)) := by
  obtain rfl : c = 0 := Subsingleton.elim _ _
  rw [← V_main_arg7 m]
  unfold lenW tab tbl
  refine congrArg (V m 0 main_arg7) (funext fun a => Fin.ext ?_)
  match a with
  | ⟨0, _⟩ =>
    show (BitVec.ofNat 32 (grid0.coords t 0).val).toNat + _ = (bat m hO t).val
    rw [word0]
    rfl

/-! The arrays the host prepares, element by element. -/

theorem rows_at (v : Vec Ideal S14x3x96x512 .bf16) (b : Fin 14) (r : Fin 288) (d : Fin 512) : shapeCast S14x288x512 v shapeCasts_S14x3x96x512_S14x288x512 (ix3 b r d) = v (ix4 b (Spec.tok r) (Spec.hd r) d) := by
  pointwise
  rfl
theorem swap1 (v : Vec Ideal S14x3x96x64 .bf16) (b : Fin 14) (s : Fin 3) (j : Fin 64) (h : Fin 96) :
    transpose S14x3x64x96 [0, 1, 3, 2] v transposes_S14x3x96x64_S14x3x64x96_0_1_3_2 (ix4 b s j h) = v (ix4 b s h j) := by
  pointwise
theorem swap2 (v : Vec Ideal S14x3x512 .bf16) (s : Fin 3) (b : Fin 14) (d : Fin 512) :
    transpose S3x14x512 [1, 0, 2] v transposes_S14x3x512_S3x14x512_1_0_2 (ix3 s b d) = v (ix3 b s d) := by
  pointwise
theorem swap3 (v : Vec Ideal S14x3x64 .bf16) (s : Fin 3) (b : Fin 14) (d : Fin 64) :
    transpose S3x14x64 [1, 0, 2] v transposes_S14x3x64_S3x14x64_1_0_2 (ix3 s b d) = v (ix3 b s d) := by
  pointwise
theorem swap4 (v : Vec Ideal S14x6144x4 .f32) (b : Fin 14) (g : Fin 4) (p : Fin 6144) :
    transpose S14x4x6144 [0, 2, 1] v transposes_S14x6144x4_S14x4x6144_0_2_1 (ix3 b g p) = v (ix3 b p g) := by
  pointwise
theorem swap5 (v : Vec Ideal S14x6144x64 .bf16) (b : Fin 14) (g : Fin 64) (p : Fin 6144) :
    transpose S14x64x6144 [0, 2, 1] v transposes_S14x6144x64_S14x64x6144_0_2_1 (ix3 b g p) = v (ix3 b p g) := by
  pointwise

theorem V_v0 (b : Fin 14) (r : Fin 288) (d : Fin 512) : (V m c main_v0 : Vec Ideal S14x288x512 .bf16) (ix3 b r d) = (m ((c : Thread nD τ).loc main_arg0) : Vec Ideal S14x3x96x512 .bf16) (ix4 b (Spec.tok r) (Spec.hd r) d) := by
  unfold V V0
  after_reads_simp
  exact rows_at _ b r d

theorem V_v1 (b : Fin 14) (s : Fin 3) (j : Fin 64) (h : Fin 96) : (V m c main_v1 : Vec Ideal S14x3x64x96 .bf16) (ix4 b s j h) = (m ((c : Thread nD τ).loc main_arg1) : Vec Ideal S14x3x96x64 .bf16) (ix4 b s h j) := by
  unfold V V0
  after_reads_simp
  exact swap1 _ b s j h

theorem V_v2 (s : Fin 3) (b : Fin 14) (d : Fin 512) : (V m c main_v2 : Vec Ideal S3x14x512 .bf16) (ix3 s b d) = (m ((c : Thread nD τ).loc main_arg2) : Vec Ideal S14x3x512 .bf16) (ix3 b s d) := by
  unfold V V0
  after_reads_simp
  exact swap2 _ s b d

theorem V_v3 (s : Fin 3) (b : Fin 14) (d : Fin 64) : (V m c main_v3 : Vec Ideal S3x14x64 .bf16) (ix3 s b d) = (m ((c : Thread nD τ).loc main_arg3) : Vec Ideal S14x3x64 .bf16) (ix3 b s d) := by
  unfold V V0
  after_reads_simp
  exact swap3 _ s b d

theorem V_v4 (b : Fin 14) (g : Fin 4) (p : Fin 6144) : (V m c main_v4 : Vec Ideal S14x4x6144 .f32) (ix3 b g p) = (m ((c : Thread nD τ).loc main_arg5) : Vec Ideal S14x6144x4 .f32) (ix3 b p g) := by
  unfold V V0
  after_reads_simp
  exact swap4 _ b g p

theorem V_v5 (b : Fin 14) (g : Fin 64) (p : Fin 6144) : (V m c main_v5 : Vec Ideal S14x64x6144 .bf16) (ix3 b g p) = (m ((c : Thread nD τ).loc main_arg6) : Vec Ideal S14x6144x64 .bf16) (ix3 b p g) := by
  unfold V V0
  after_reads_simp
  exact swap5 _ b g p

/-- The arguments, read at indices. -/
def args : Spec.Args where
  x b s h d := (m ((c : Thread nD τ).loc main_arg0) : Vec Ideal S14x3x96x512 .bf16) (ix4 b s h d)
  q b s h d := (m ((c : Thread nD τ).loc main_arg1) : Vec Ideal S14x3x96x64 .bf16) (ix4 b s h d)
  kv b s d := (m ((c : Thread nD τ).loc main_arg2) : Vec Ideal S14x3x512 .bf16) (ix3 b s d)
  kr b s d := (m ((c : Thread nD τ).loc main_arg3) : Vec Ideal S14x3x64 .bf16) (ix3 b s d)
  codes b p d := (m ((c : Thread nD τ).loc main_arg4) : Vec Ideal S14x6144x512 .fp8e4m3) (ix3 b p d)
  scale b p g := (m ((c : Thread nD τ).loc main_arg5) : Vec Ideal S14x6144x4 .f32) (ix3 b p g)
  krc b p d := (m ((c : Thread nD τ).loc main_arg6) : Vec Ideal S14x6144x64 .bf16) (ix3 b p d)
  len b := (m ((c : Thread nD τ).loc main_arg7) : Vec Ideal S14 .i32) (ix1 b)

/-! The buffers at every point. -/

section

variable (t : Fin (cfgM m hO).N)

theorem lenW_args : lenW (grid0.coords t) (tab m) = (args m c).len (bat m hO t) := lenW_at m hO c t

theorem x0_args (r : Fin 288) (d : Fin 512) : X0 m hO c t (ix3 0 r d) = (args m c).x (bat m hO t) (Spec.tok r) (Spec.hd r) d :=
  (X0_at m hO c t r d).trans (V_v0 m c _ r d)
theorem x1_args (s : Fin 3) (j : Fin 64) (h : Fin 96) : X1 m hO c t (ix4 0 s j h) = (args m c).q (bat m hO t) s h j :=
  (X1_at m hO c t s j h).trans (V_v1 m c _ s j h)
theorem x2_args (s : Fin 3) (b : Fin 14) (d : Fin 512) : X2 m hO c t (ix3 s b d) = (args m c).kv b s d :=
  (X2_at m hO c t s b d).trans (V_v2 m c s b d)
theorem x3_args (s : Fin 3) (b : Fin 14) (j : Fin 64) : X3 m hO c t (ix3 s b j) = (args m c).kr b s j :=
  (X3_at m hO c t s b j).trans (V_v3 m c s b j)

/-- A point's section over the cache takes its block in. -/
theorem inv_point {st : St Ideal} (H : Inv (args m c) (bat m hO t) (t.val % 12) st) :
    Inv (args m c) (bat m hO t) (t.val % 12 + 1) (scoreSt (grid0.coords t) (lenW (grid0.coords t) (tab m)) (X0 m hO c t) (X4 m hO c t) (X5 m hO c t) (X6 m hO c t) st) := by
  rw [lenW_args m hO c t]
  have hl : (args m c).len (bat m hO t) = lenAt (tbl m) (grid0.coords t) := (lenAt_at m hO c t).symm
  refine inv_step (args m c) (Nat.mod_lt _ (by norm_num)) H _ (coord_mod t) (x0_args m hO c t) ?_ ?_ ?_
  · intro hv p d
    rw [hl] at hv
    refine (X4_at m hO c t (by exact_mod_cast hv) p d).trans ?_
    rw [V_main_arg4]
    rfl
  · intro hv g p
    rw [hl] at hv
    exact (X5_at m hO c t (by exact_mod_cast hv) g p).trans (V_v4 m c _ g _)
  · intro hv j p
    rw [hl] at hv
    exact (X6_at m hO c t (by exact_mod_cast hv) j p).trans (V_v5 m c _ j _)

end

/-- After every point the buffers hold the online softmax of its batch up to its block. -/
theorem inv_all : ∀ (n : ℕ) (h : n < (cfgM m hO).N), Inv (args m c) (bat m hO ⟨n, h⟩) (n % 12 + 1) (stAt m hO c n h)
  | 0, h => by
    have hi : (grid0.coords (⟨0, h⟩ : Fin grid0.N) 0 : Fin 14) = bat m hO ⟨0, h⟩ := coord0 m hO ⟨0, h⟩
    have H0 : Inv (args m c) (bat m hO ⟨0, h⟩) 0 (initSt (grid0.coords ⟨0, h⟩) (X0 m hO c ⟨0, h⟩) (X1 m hO c ⟨0, h⟩) (LN (X2 m hO c ⟨0, h⟩)) (RN (X3 m hO c ⟨0, h⟩))) :=
      inv_init (x0_args m hO c ⟨0, h⟩) (x1_args m hO c ⟨0, h⟩) (LN_at (x2_args m hO c ⟨0, h⟩)) (RN_at (args m c) (x3_args m hO c ⟨0, h⟩)) _ hi
    have H1 := inv_point m hO c ⟨0, h⟩ H0
    rw [stAt]
    unfold firstSt
    exact H1
  | n + 1, h => by
    have ih := inv_all n (Nat.lt_of_succ_lt h)
    have hN := N_eq m hO
    have h0 : ¬ cond0_0 (grid0.coords (⟨n + 1, h⟩ : Fin grid0.N)) := fun hc => by
      have := (hcond0_0 ⟨n + 1, h⟩).1 hc
      have : (n + 1) % 168 = 0 := this
      omega
    have hi : (grid0.coords (⟨n + 1, h⟩ : Fin grid0.N) 0 : Fin 14) = bat m hO ⟨n + 1, h⟩ := coord0 m hO ⟨n + 1, h⟩
    show Inv _ _ _ (stepSt _ _ _ _ _ _ _ _ _ (stAt m hO c n (Nat.lt_of_succ_lt h)))
    unfold stepSt quantSt startSt
    rw [if_neg h0]
    refine inv_point m hO c ⟨n + 1, h⟩ ?_
    by_cases h1 : (n + 1) % 12 = 0
    · rw [if_pos ((hcond0_1 ⟨n + 1, h⟩).2 h1)]
      show Inv _ _ ((n + 1) % 12) _
      rw [h1]
      exact inv_init (x0_args m hO c ⟨n + 1, h⟩) (x1_args m hO c ⟨n + 1, h⟩) ih.ln ih.rn _ hi
    · rw [if_neg (fun hc => h1 ((hcond0_1 ⟨n + 1, h⟩).1 hc))]
      show Inv _ _ ((n + 1) % 12) _
      have e1 : (n + 1) % 12 = n % 12 + 1 := by omega
      have e2 : bat m hO ⟨n + 1, h⟩ = bat m hO ⟨n, Nat.lt_of_succ_lt h⟩ := Fin.ext (by show (n + 1) / 12 = n / 12; omega)
      rw [e1, e2]
      exact ih

/-! The output arrays. -/

attribute [local irreducible] Spec.out Spec.code Spec.scl

theorem ex3 {n₀ n₁ n₂ : ℕ} (i : (⟨3, ![n₀, n₁, n₂]⟩ : Shape).Idx) : ∃ x y z, i = ix3 x y z := ⟨i 0, i 1, i 2, eq_ix3 i⟩
theorem mem_of_emb {κ : Kind} {sp : Space} {S : Shape} {e : EltTy} (v : View sig κ sp S e) (x : S.Idx) (i : v.ty.Idx) (h : v.emb x = i) : i ∈ v.set :=
  h ▸ v.emb_mem_set x

theorem idx7 (t : Fin (cfgM m hO).N) (r : Fin 288) (d : Fin 512) : (((cfgM m hO).win 7).blk t).view.emb (ix3 0 r d) = (ix3 (bat m hO t) r d : S14x288x512.Idx) := by
  refine funext fun a => Fin.ext ((Window.rect_emb_val ((cfgM m hO).win 7) t _ a).trans ?_)
  match a with
  | ⟨0, _⟩ =>
    show (BitVec.ofNat 32 (grid0.coords t 0).val).toNat * 1 + 0 = _
    rw [word0]
    show (bat m hO t).val * 1 + 0 = (bat m hO t).val
    omega
  | ⟨1, _⟩ =>
    show 0 * 288 + r.val = r.val
    omega
  | ⟨2, _⟩ =>
    show 0 * 512 + d.val = d.val
    omega

theorem idx8 (t : Fin (cfgM m hO).N) (s : Fin 3) (b : Fin 14) (d : Fin 512) : (((cfgM m hO).win 8).blk t).view.emb (ix3 s b d) = (ix3 s b d : S3x14x512.Idx) := by
  refine funext fun a => Fin.ext ((Window.rect_emb_val ((cfgM m hO).win 8) t _ a).trans ?_)
  match a with
  | ⟨0, _⟩ =>
    show 0 * 3 + s.val = s.val
    omega
  | ⟨1, _⟩ =>
    show 0 * 14 + b.val = b.val
    omega
  | ⟨2, _⟩ =>
    show 0 * 512 + d.val = d.val
    omega

theorem idx9 (t : Fin (cfgM m hO).N) (s : Fin 3) (b : Fin 14) (g : Fin 4) : (((cfgM m hO).win 9).blk t).view.emb (ix3 s b g) = (ix3 s b g : S3x14x4.Idx) := by
  refine funext fun a => Fin.ext ((Window.rect_emb_val ((cfgM m hO).win 9) t _ a).trans ?_)
  match a with
  | ⟨0, _⟩ =>
    show 0 * 3 + s.val = s.val
    omega
  | ⟨1, _⟩ =>
    show 0 * 14 + b.val = b.val
    omega
  | ⟨2, _⟩ =>
    show 0 * 4 + g.val = g.val
    omega

/-- The attention output, a row a token and head. -/
theorem arr7 : (dats m hO 0 c).arrAt 7 (cfgM m hO).N = (fun i => Spec.out (args m c) (i 0) (i 1) (i 2) : Vec Ideal S14x288x512 .bf16) := by
  refine (dats m hO 0 c).arrAt_eq_of_emb 7 _ (fun t hf y => ?_) (fun i => ?_)
  · have h11 : t.val % 12 = 11 := (flush0_7 (adm m hO) t).1 hf
    obtain ⟨z, r, d, rfl⟩ : ∃ z r d, y = (ix3 z r d : S1x288x512.Idx) := ex3 y
    obtain rfl : z = 0 := Subsingleton.elim _ _
    have H := inv_all m hO c t.val t.isLt
    rw [h11] at H
    have e : ((dats m hO 0 c).after 7 t : Vec Ideal S1x288x512 .bf16) (ix3 0 r d) = Spec.out (args m c) (bat m hO t) r d := by
      rw [after0_7]
      exact out_at (args m c) H r d
    exact e.trans (congrArg (fun i : S14x288x512.Idx => Spec.out (args m c) (i 0) (i 1) (i 2)) (idx7 m hO t r d).symm)
  · obtain ⟨b, r, d, rfl⟩ : ∃ b r d, i = (ix3 b r d : S14x288x512.Idx) := ex3 i
    have hN := N_eq m hO
    have hb : bat m hO ⟨12 * b.val + 11, by omega⟩ = b := Fin.ext (by show (12 * b.val + 11) / 12 = b.val; omega)
    refine ⟨⟨12 * b.val + 11, by omega⟩, (flush0_7 (adm m hO) _).2 (by show (12 * b.val + 11) % 12 = 11; omega), ?_⟩
    have e := idx7 m hO ⟨12 * b.val + 11, by omega⟩ r d
    rw [hb] at e
    exact mem_of_emb _ (ix3 0 r d) _ e

/-- The codes of the new latents. -/
theorem arr8 : (dats m hO 0 c).arrAt 8 (cfgM m hO).N = (fun i => Spec.code (args m c) (i 1) (i 0) (i 2) : Vec Ideal S3x14x512 .fp8e4m3) := by
  refine (dats m hO 0 c).arrAt_eq_of_emb 8 _ (fun t hf y => ?_) (fun i => ?_)
  · obtain ⟨s, b, d, rfl⟩ : ∃ s b d, y = (ix3 s b d : S3x14x512.Idx) := ex3 y
    rw [after0_8]
    exact (NC_at (x2_args m hO c _) s b d).trans (congrArg (fun i : S3x14x512.Idx => Spec.code (args m c) (i 1) (i 0) (i 2)) (idx8 m hO t s b d).symm)
  · obtain ⟨s, b, d, rfl⟩ : ∃ s b d, i = (ix3 s b d : S3x14x512.Idx) := ex3 i
    have hN := N_eq m hO
    refine ⟨⟨167, by omega⟩, (flush0_8 (adm m hO) _).2 rfl, ?_⟩
    exact mem_of_emb _ (ix3 s b d) _ (idx8 m hO ⟨167, by omega⟩ s b d)

/-- The scales of the new latents. -/
theorem arr9 : (dats m hO 0 c).arrAt 9 (cfgM m hO).N = (fun i => Spec.scl (args m c) (i 1) (i 0) (i 2) : Vec Ideal S3x14x4 .f32) := by
  refine (dats m hO 0 c).arrAt_eq_of_emb 9 _ (fun t hf y => ?_) (fun i => ?_)
  · obtain ⟨s, b, d, rfl⟩ : ∃ s b d, y = (ix3 s b d : S3x14x4.Idx) := ex3 y
    rw [after0_9]
    exact (NS_at (x2_args m hO c _) s b d).trans (congrArg (fun i : S3x14x4.Idx => Spec.scl (args m c) (i 1) (i 0) (i 2)) (idx9 m hO t s b d).symm)
  · obtain ⟨s, b, d, rfl⟩ : ∃ s b d, i = (ix3 s b d : S3x14x4.Idx) := ex3 i
    have hN := N_eq m hO
    refine ⟨⟨167, by omega⟩, (flush0_9 (adm m hO) _).2 rfl, ?_⟩
    exact mem_of_emb _ (ix3 s b d) _ (idx9 m hO ⟨167, by omega⟩ s b d)

/-! The program's results. -/

theorem unrows_at (v : Vec Ideal S14x288x512 .bf16) (b : Fin 14) (s : Fin 3) (h : Fin 96) (d : Fin 512) : shapeCast S14x3x96x512 v shapeCasts_S14x288x512_S14x3x96x512 (ix4 b s h d) = v (ix3 b (Spec.rowOf s h) d) := by
  pointwise
  rfl
theorem swap8 (v : Vec Ideal S3x14x512 .fp8e4m3) (b : Fin 14) (s : Fin 3) (d : Fin 512) :
    transpose S14x3x512 [1, 0, 2] v transposes_S3x14x512_S14x3x512_1_0_2 (ix3 b s d) = v (ix3 s b d) := by
  pointwise
theorem swap9 (v : Vec Ideal S3x14x4 .f32) (b : Fin 14) (s : Fin 3) (d : Fin 4) :
    transpose S14x3x4 [1, 0, 2] v transposes_S3x14x4_S14x3x4_1_0_2 (ix3 b s d) = v (ix3 s b d) := by
  pointwise

theorem hinj0 : Function.Injective (Pipeline.arrRef spec0) := by decide

theorem after7 : (Pipeline.withArrays spec0 c (V0 m c) (fun w => (dats m hO 0 c).arrAt w (cfgM m hO).N) (Proc.devRef .tc main_v6_0) : Vec Ideal S14x288x512 .bf16)
    = fun i => Spec.out (args m c) (i 0) (i 1) (i 2) :=
  (Pipeline.withArrays_arr spec0 hinj0 c (V0 m c) (fun w => (dats m hO 0 c).arrAt w (cfgM m hO).N) 7).trans (arr7 m hO c)

/-- The attention output. -/
theorem W_v7 : (Pipeline.afterTail pcfgs (fun _ => adm m hO) (dats m hO) 0 (V0 m) [hostOps1] c main_v7 : Vec Ideal S14x3x96x512 .bf16)
    = fun i => Spec.out (args m c) (i 0) (Spec.rowOf (i 1) (i 2)) (i 3) := by
  unfold Pipeline.afterTail
  after_reads_simp
  refine (congrArg (fun v : Vec Ideal S14x288x512 .bf16 => (shapeCast S14x3x96x512 v shapeCasts_S14x288x512_S14x3x96x512 : Vec Ideal S14x3x96x512 .bf16)) (after7 m hO c)).trans ?_
  funext i
  obtain ⟨b, s, h, d, rfl⟩ : ∃ b s h d, i = (ix4 b s h d : S14x3x96x512.Idx) := ⟨i 0, i 1, i 2, i 3, eq_ix4 i⟩
  exact unrows_at _ b s h d

theorem after8 : (Pipeline.withArrays spec0 c (V0 m c) (fun w => (dats m hO 0 c).arrAt w (cfgM m hO).N) (Proc.devRef .tc main_v6_1) : Vec Ideal S3x14x512 .fp8e4m3)
    = fun i => Spec.code (args m c) (i 1) (i 0) (i 2) :=
  (Pipeline.withArrays_arr spec0 hinj0 c (V0 m c) (fun w => (dats m hO 0 c).arrAt w (cfgM m hO).N) 8).trans (arr8 m hO c)

/-- The codes of the new latents. -/
theorem W_v8 : (Pipeline.afterTail pcfgs (fun _ => adm m hO) (dats m hO) 0 (V0 m) [hostOps1] c main_v8 : Vec Ideal S14x3x512 .fp8e4m3)
    = fun i => Spec.code (args m c) (i 0) (i 1) (i 2) := by
  unfold Pipeline.afterTail
  after_reads_simp
  refine (congrArg (fun v : Vec Ideal S3x14x512 .fp8e4m3 => (transpose S14x3x512 [1, 0, 2] v transposes_S3x14x512_S14x3x512_1_0_2 : Vec Ideal S14x3x512 .fp8e4m3)) (after8 m hO c)).trans ?_
  funext i
  obtain ⟨b, s, d, rfl⟩ : ∃ b s d, i = (ix3 b s d : S14x3x512.Idx) := ex3 i
  exact swap8 _ b s d

theorem after9 : (Pipeline.withArrays spec0 c (V0 m c) (fun w => (dats m hO 0 c).arrAt w (cfgM m hO).N) (Proc.devRef .tc main_v6_2) : Vec Ideal S3x14x4 .f32)
    = fun i => Spec.scl (args m c) (i 1) (i 0) (i 2) :=
  (Pipeline.withArrays_arr spec0 hinj0 c (V0 m c) (fun w => (dats m hO 0 c).arrAt w (cfgM m hO).N) 9).trans (arr9 m hO c)

/-- The scales of the new latents. -/
theorem W_v9 : (Pipeline.afterTail pcfgs (fun _ => adm m hO) (dats m hO) 0 (V0 m) [hostOps1] c main_v9 : Vec Ideal S14x3x4 .f32)
    = fun i => Spec.scl (args m c) (i 0) (i 1) (i 2) := by
  unfold Pipeline.afterTail
  after_reads_simp
  refine (congrArg (fun v : Vec Ideal S3x14x4 .f32 => (transpose S14x3x4 [1, 0, 2] v transposes_S3x14x4_S14x3x4_1_0_2 : Vec Ideal S14x3x4 .f32)) (after9 m hO c)).trans ?_
  funext i
  obtain ⟨b, s, d, rfl⟩ : ∃ b s d, i = (ix3 b s d : S14x3x4.Idx) := ex3 i
  exact swap9 _ b s d

include hO in
/-- Every execution ends with the three results as specified and the arguments as launched. -/
theorem results : θ_run defs (onTc (τ := τ) (main (F := Ideal))) (s₀ m ρ) (fun r => ∀ c : Dev nD,
    (r.2.mem ((c.tc : Thread nD τ).loc main_v7) : Vec Ideal S14x3x96x512 .bf16) = (fun i => Spec.out (args m c) (i 0) (Spec.rowOf (i 1) (i 2)) (i 3))
    ∧ (r.2.mem ((c.tc : Thread nD τ).loc main_v8) : Vec Ideal S14x3x512 .fp8e4m3) = (fun i => Spec.code (args m c) (i 0) (i 1) (i 2))
    ∧ (r.2.mem ((c.tc : Thread nD τ).loc main_v9) : Vec Ideal S14x3x4 .f32) = (fun i => Spec.scl (args m c) (i 0) (i 1) (i 2))
    ∧ Kept m r.2 c) :=
  (θ_run defs _ _).mono (fun r h c =>
    ⟨((h.1 c).2 main_v7 (by decide : main_v7 ∈ Pipeline.restRefs sig spec0)).trans (W_v7 m hO c),
      ((h.1 c).2 main_v8 (by decide : main_v8 ∈ Pipeline.restRefs sig spec0)).trans (W_v8 m hO c),
      ((h.1 c).2 main_v9 (by decide : main_v9 ∈ Pipeline.restRefs sig spec0)).trans (W_v9 m hO c),
      kept m hO r h.1 c⟩) (run_main m ρ hO)

end Cert.KernelIdeal.Run

end
-- ==== Proof.RefRead.lean ====
module

public import proofs.«01_k».proof.Proof.Gen.ReferenceIdeal.Value
public import Idealize.ShloMosaic.Lib.Pointwise
public import Idealize.ShloMosaic.PureOps.Ideal
public import proofs.«01_k».proof.Proof.Spec

/-! # The reference's payloads, read at an index

Each value the reference's body computes, at one index of its array, on the extended reals. -/

@[expose] public section

set_option maxRecDepth 16384

noncomputable section

namespace Cert.ReferenceIdeal.Read

open Cert.ReferenceIdeal Cert.ReferenceIdeal.Gen
open Idealize.ShloMosaic
open Cert.Spec Cert.Softmax

theorem ln2_eq : (Named.named κ "ln2" 1060205080#32 : Ideal .f32) = ((Real.log 2 : ℝ) : EReal) := rfl
theorem scale_eq : (Named.named κ "scale" 1033096506#32 : Ideal .f32) = (κs : EReal) := rfl

/-- The queries with token and head as one row. -/
theorem pay2_at (v0 : Vec Ideal S14x3x96x512 .bf16) (b : Fin 14) (r : Fin 288) (d : Fin 512) :
    k0_pay2 v0 (ix3 b r d) = v0 (ix4 b (tok r) (hd r) d) := by
  pointwise [k0_pay2]
  rfl
theorem pay3_at (v0 : Vec Ideal S14x3x96x64 .bf16) (b : Fin 14) (r : Fin 288) (d : Fin 64) :
    k0_pay3 v0 (ix3 b r d) = v0 (ix4 b (tok r) (hd r) d) := by
  pointwise [k0_pay3]
  rfl

/-- The cached latents. -/
theorem pay4_at (v4 : Vec Ideal S14x6144x512 .fp8e4m3) (v5 : Vec Ideal S14x6144x4 .f32) (b : Fin 14) (p : Fin 6144) (d : Fin 512) :
    k0_pay4 v4 v5 (ix3 b p d) = v4 (ix3 b p d) * v5 (ix3 b p (grp d)) := by
  pointwise [k0_pay4]
  rfl

/-- The new latents in groups. -/
theorem pay5_at (v : Vec Ideal S14x3x512 .bf16) (b : Fin 14) (s : Fin 3) (g : Fin 4) (d : Fin 128) :
    k0_pay5 v (ix4 b s g d) = v (ix3 b s (at4 g d)) := by
  pointwise [k0_pay5]
  rfl

/-- The exponent of a group. -/
theorem pay6_at (v : Vec Ideal S14x3x512 .bf16) (b : Fin 14) (s : Fin 3) (g : Fin 4) :
    k0_pay6 v (ix3 b s g) = Quant.expo (scaled fun k => v (ix3 b s (at4 g k))) := by
  pointwise [k0_pay6]
  have h : Finset.fold max (Ideal.ofBits FTy.f32 4286578688#32) (fun x => FloatOps.absf (k0_pay5 v (ix4 b s g x))) Finset.univ
      = amax fun k => v (ix3 b s (at4 g k)) := by
    rw [bot_bits]
    simp only [pay5_at]
    rfl
  rw [h, ln2_eq, bits126, bitsm126]
  unfold Quant.expo
  by_cases h0 : amax (fun k => v (ix3 b s (at4 g k))) = 0
  · rw [if_pos h0, if_pos ((scaled_eq_zero _).mpr h0)]
  · rw [if_neg h0, if_neg fun hz => h0 ((scaled_eq_zero _).mp hz)]
    rfl

/-- The scale of a group. -/
theorem pay7_at (v : Vec Ideal S14x3x512 .bf16) (b : Fin 14) (s : Fin 3) (g : Fin 4) :
    k0_pay7 v (ix3 b s g) = gscale fun k => v (ix3 b s (at4 g k)) := by
  pointwise [k0_pay7]
  rw [pay6_at]
  rfl

/-- The codes. -/
theorem pay8_at (v : Vec Ideal S14x3x512 .bf16) (b : Fin 14) (s : Fin 3) (d : Fin 512) :
    k0_pay8 (k0_pay5 v) (k0_pay6 v) (ix3 b s d) = gcode (fun k => v (ix3 b s (at4 (grp d) k))) (lane d) := by
  have h : ∀ (v15 : FVec Ideal S14x3x4x128 .f32) (v33 : FVec Ideal S14x3x4 .f32), k0_pay8 v15 v33 (ix3 b s d)
      = min (Ideal.ofBits .f32 1138753536#32) (max (Ideal.ofBits .f32 3286237184#32)
          (v15 (ix4 b s (grp d) (lane d)) * Ideal.exp2 (0 - v33 (ix3 b s (grp d))))) := by
    intro v15 v33
    pointwise [k0_pay8]
    rfl
  rw [h, pay5_at, pay6_at]
  rfl

/-- The new latents read back. -/
theorem pay9_at (v : Vec Ideal S14x3x512 .bf16) (b : Fin 14) (s : Fin 3) (d : Fin 512) :
    k0_pay9 (k0_pay5 v) (k0_pay6 v) (k0_pay7 v) (ix3 b s d)
      = gcode (fun k => v (ix3 b s (at4 (grp d) k))) (lane d) * gscale fun k => v (ix3 b s (at4 (grp d) k)) := by
  have h : ∀ (v15 : FVec Ideal S14x3x4x128 .f32) (v33 v34 : FVec Ideal S14x3x4 .f32), k0_pay9 v15 v33 v34 (ix3 b s d)
      = k0_pay8 v15 v33 (ix3 b s d) * v34 (ix3 b s (grp d)) := by
    intro v15 v33 v34
    pointwise [k0_pay9]
    rfl
  rw [h, pay8_at, pay7_at]

/-- The new tokens' scores. -/
theorem pay10_at (v1 : FVec Ideal S14x288x512 .bf16) (v3 : FVec Ideal S14x288x64 .bf16) (v15 : FVec Ideal S14x3x4x128 .f32)
    (v33 v34 : FVec Ideal S14x3x4 .f32) (v61 : Vec Ideal S14x3x64 .bf16) (b : Fin 14) (r : Fin 288) (j : Fin 3) :
    k0_pay10 v1 v3 v15 v33 v34 v61 (ix3 b r j)
      = (∑ x, v1 (ix3 b r x) * k0_pay9 v15 v33 v34 (ix3 b j x) + ∑ x, v3 (ix3 b r x) * v61 (ix3 b j x)) * (κs : EReal) := by
  pointwise [k0_pay10]
  rfl

/-- The cached tokens' masked scores. -/
theorem pay11_at (v1 : FVec Ideal S14x288x512 .bf16) (v3 : FVec Ideal S14x288x64 .bf16) (v12 : FVec Ideal S14x6144x512 .bf16)
    (v55 : Vec Ideal S14x6144x64 .bf16) (v67 : Vec Ideal S14x1x1 .i32) (b : Fin 14) (r : Fin 288) (p : Fin 6144) :
    k0_pay11 v1 v3 v12 v55 v67 (ix3 b r p)
      = Scalar.select (IntOp.cmpi .slt (BitVec.ofNat 32 p.val) (v67 (ix3 b 0 0)))
          ((∑ x, v1 (ix3 b r x) * v12 (ix3 b p x) + ∑ x, v3 (ix3 b r x) * v55 (ix3 b p x)) * (κs : EReal)) ⊥ := by
  pointwise [k0_pay11]
  rw [bot_bits]
  rfl

variable (v12 : FVec Ideal S14x6144x512 .bf16) (v53 : FVec Ideal S14x3x512 .bf16) (v65 : FVec Ideal S14x288x3 .f32)
  (v74 : FVec Ideal S14x288x6144 .f32) (v75 : IVec S14x288x3 32)

/-- The new tokens' scores, masked. -/
def masked : FVec Ideal S14x288x3 .f32 :=
  select (cmpi .sle (muli (iota .tc S14x288x3 32 [2] iota_S14x288x3_d2_w32) (broadcast S14x288x3 96#32)) v75) v65
    (broadcast S14x288x3 (Scalar.ofBits .f32 0xFF800000#32))

/-- The largest of a row of the cache's scores. -/
def topC : FVec Ideal S14x288 .f32 :=
  multiReduction .maximumf [2] S14x288 v74 0xFF800000#32 reduces_S14x288x6144_S14x288 (.inl rfl) rfl

/-- The largest of a row of the new tokens' scores. -/
def topN (u : FVec Ideal S14x288x3 .f32) : FVec Ideal S14x288 .f32 :=
  multiReduction .maximumf [2] S14x288 u 0xFF800000#32 reduces_S14x288x3_S14x288 (.inl rfl) rfl

/-- The larger of two columns. -/
def larger (p q : FVec Ideal S14x288 .f32) : FVec Ideal S14x288x1 .f32 :=
  maximumf (shapeCast S14x288x1 p shapeCasts_S14x288_S14x288x1) (shapeCast S14x288x1 q shapeCasts_S14x288_S14x288x1)

theorem larger_at (p q : FVec Ideal S14x288 .f32) (b : Fin 14) (r : Fin 288) :
    larger p q (ix3 b r 0) = max (p (ix2 b r)) (q (ix2 b r)) := by
  pointwise [larger]

/-- The largest of a row's scores. -/
def top (u : FVec Ideal S14x288x3 .f32) : FVec Ideal S14x288x1 .f32 := larger (topC v74) (topN u)

/-- A fold of `max` from `⊥` is the supremum. -/
theorem fold_max {n : ℕ} (f : Fin n → EReal) : Finset.univ.fold max (⊥ : EReal) f = Finset.univ.sup f := rfl

/-- A maximum along the last axis, at an index. -/
theorem rowmax {n0 n1 n2 : ℕ} (h : (⟨3, ![n0, n1, n2]⟩ : Shape).Reduces [2] ⟨2, ![n0, n1]⟩)
    (v : FVec Ideal ⟨3, ![n0, n1, n2]⟩ .f32) (b : Fin n0) (r : Fin n1) :
    multiReduction .maximumf [2] ⟨2, ![n0, n1]⟩ v 0xFF800000#32 h (.inl rfl) rfl (ix2 b r)
      = Finset.univ.sup fun k => v (ix3 b r k) := by
  pointwise
  rw [show Ideal.ofBits .f32 0xFF800000#32 = ⊥ by simp [Ideal.ofBits, Ideal.ieee]]
  rfl

theorem topC_at (b : Fin 14) (r : Fin 288) : topC v74 (ix2 b r) = Finset.univ.sup fun k => v74 (ix3 b r k) :=
  rowmax reduces_S14x288x6144_S14x288 v74 b r

theorem topN_at (u : FVec Ideal S14x288x3 .f32) (b : Fin 14) (r : Fin 288) : topN u (ix2 b r) = Finset.univ.sup fun k => u (ix3 b r k) :=
  rowmax reduces_S14x288x3_S14x288 u b r

/-- The exponentials of the cache's scores. -/
def expC (t : FVec Ideal S14x288x1 .f32) : FVec Ideal S14x288x6144 .f32 :=
  exp (subf v74 (broadcastTo S14x288x6144 t broadcasts_S14x288x1_S14x288x6144))

/-- The exponentials of the new tokens' scores. -/
def expN (u : FVec Ideal S14x288x3 .f32) (t : FVec Ideal S14x288x1 .f32) : FVec Ideal S14x288x3 .f32 :=
  exp (subf u (broadcastTo S14x288x3 t broadcasts_S14x288x1_S14x288x3))

/-- The sum of a row's exponentials. -/
def total (p : FVec Ideal S14x288x6144 .f32) (q : FVec Ideal S14x288x3 .f32) : FVec Ideal S14x288x1 .f32 :=
  addf (shapeCast S14x288x1 (multiReduction .add [2] S14x288 p 0x00000000#32 reduces_S14x288x6144_S14x288 (.inl rfl) rfl) shapeCasts_S14x288_S14x288x1)
    (shapeCast S14x288x1 (multiReduction .add [2] S14x288 q 0x00000000#32 reduces_S14x288x3_S14x288 (.inl rfl) rfl) shapeCasts_S14x288_S14x288x1)

/-- The weighted sum of a row's latents. -/
def weighted (p : FVec Ideal S14x288x6144 .f32) (q : FVec Ideal S14x288x3 .f32) : FVec Ideal S14x288x512 .f32 :=
  addf (matmul dot_S14x288x6144_S14x6144x512_S14x288x512_2_1_1_2_0_0 none (truncf .bf16 p bitsLt_bf16_f32) v12 (constant S14x288x512 .f32 0x00000000#32))
    (matmul dot_S14x288x3_S14x3x512_S14x288x512_2_1_1_2_0_0 none (truncf .bf16 q bitsLt_bf16_f32) v53 (constant S14x288x512 .f32 0x00000000#32))

/-- The quotient, with the row split into token and head. -/
def quot (a : FVec Ideal S14x288x512 .f32) (l : FVec Ideal S14x288x1 .f32) : FVec Ideal S14x3x96x512 .bf16 :=
  shapeCast S14x3x96x512 (truncf .bf16 (divf a (broadcastTo S14x288x512 l broadcasts_S14x288x1_S14x288x512)) bitsLt_bf16_f32)
    shapeCasts_S14x288x512_S14x3x96x512

theorem pay1_eq : k0_pay1 v12 v53 v65 v74 v75
    = quot (weighted v12 v53 (expC v74 (top v74 (masked v65 v75))) (expN (masked v65 v75) (top v74 (masked v65 v75))))
        (total (expC v74 (top v74 (masked v65 v75))) (expN (masked v65 v75) (top v74 (masked v65 v75)))) := rfl

theorem masked_at (b : Fin 14) (r : Fin 288) (j : Fin 3) :
    masked v65 v75 (ix3 b r j)
      = Scalar.select (IntOp.cmpi .sle (IntOp.muli (BitVec.ofNat 32 j.val) 96#32) (v75 (ix3 b r j))) (v65 (ix3 b r j)) ⊥ := by
  pointwise [masked]
  rw [bot_bits]
theorem top_at (u : FVec Ideal S14x288x3 .f32) (b : Fin 14) (r : Fin 288) :
    top v74 u (ix3 b r 0) = (Finset.univ.sup fun k => v74 (ix3 b r k)) ⊔ (Finset.univ.sup fun k => u (ix3 b r k)) := by
  unfold top
  rw [larger_at, topC_at, topN_at]
theorem expC_at (t : FVec Ideal S14x288x1 .f32) (b : Fin 14) (r : Fin 288) (p : Fin 6144) :
    expC v74 t (ix3 b r p) = Ideal.exp (v74 (ix3 b r p) - t (ix3 b r 0)) := by
  pointwise [expC]
theorem expN_at (u : FVec Ideal S14x288x3 .f32) (t : FVec Ideal S14x288x1 .f32) (b : Fin 14) (r : Fin 288) (j : Fin 3) :
    expN u t (ix3 b r j) = Ideal.exp (u (ix3 b r j) - t (ix3 b r 0)) := by
  pointwise [expN]
theorem total_at (p : FVec Ideal S14x288x6144 .f32) (q : FVec Ideal S14x288x3 .f32) (b : Fin 14) (r : Fin 288) :
    total p q (ix3 b r 0) = ∑ x, p (ix3 b r x) + ∑ x, q (ix3 b r x) := by
  pointwise [total]
theorem weighted_at (p : FVec Ideal S14x288x6144 .f32) (q : FVec Ideal S14x288x3 .f32) (b : Fin 14) (r : Fin 288) (d : Fin 512) :
    weighted v12 v53 p q (ix3 b r d) = ∑ x, p (ix3 b r x) * v12 (ix3 b x d) + ∑ x, q (ix3 b r x) * v53 (ix3 b x d) := by
  pointwise [weighted]
theorem quot_at (a : FVec Ideal S14x288x512 .f32) (l : FVec Ideal S14x288x1 .f32) (b : Fin 14) (s : Fin 3) (h : Fin 96) (d : Fin 512) :
    quot a l (ix4 b s h d)
      = Ideal.div (a (ix3 b (⟨s.val * 96 + h.val, by omega⟩ : Fin 288) d)) (l (ix3 b (⟨s.val * 96 + h.val, by omega⟩ : Fin 288) 0)) := by
  pointwise [quot]

/-- The attention of the reference from its masked and scaled scores `T κs`: the softmax with the division last. -/
theorem pay1_at (b : Fin 14) (s : Fin 3) (h : Fin 96) (d : Fin 512) (r : Fin 288) (hr : r.val = s.val * 96 + h.val)
    (T v : Tok → EReal)
    (hC : ∀ p, v74 (ix3 b r p) = T (.inr p) * (κs : EReal))
    (hN : ∀ j, masked v65 v75 (ix3 b r j) = T (.inl j) * (κs : EReal))
    (vC : ∀ p, v12 (ix3 b p d) = v (.inr p)) (vN : ∀ j, v53 (ix3 b j d) = v (.inl j)) :
    k0_pay1 v12 v53 v65 v74 v75 (ix4 b s h d) = Ideal.div (num T v Finset.univ) (den T Finset.univ) := by
  have hr' : r = ⟨s.val * 96 + h.val, by omega⟩ := Fin.ext hr
  have ht : top v74 (masked v65 v75) (ix3 b r 0) = Finset.univ.sup T * (κs : EReal) := by
    rw [top_at, sup_scale, sup_tok]
    simp only [hC, hN]
  have eC : ∀ p, expC v74 (top v74 (masked v65 v75)) (ix3 b r p) = w (T (.inr p)) (Finset.univ.sup T) := by
    intro p
    rw [expC_at, ht, hC, exp_eq_w _ _ (Finset.le_sup (Finset.mem_univ _))]
  have eN : ∀ j, expN (masked v65 v75) (top v74 (masked v65 v75)) (ix3 b r j) = w (T (.inl j)) (Finset.univ.sup T) := by
    intro j
    rw [expN_at, ht, hN, exp_eq_w _ _ (Finset.le_sup (Finset.mem_univ _))]
  rw [pay1_eq, quot_at, ← hr', weighted_at, total_at]
  simp only [eC, eN, vC, vN]
  unfold num den
  simp only [Fintype.sum_sum_type]
  rw [add_comm, add_comm (∑ x, w (T (.inr x)) (Finset.univ.sup T))]

end Cert.ReferenceIdeal.Read

end
-- ==== Proof.RefRun.lean ====
module

public import proofs.«01_k».proof.Proof.RefRead
public import Idealize.ShloMosaic.Lib.Pipeline.ValueKit
public import Idealize.ShloMosaic.Lib.StableHlo.RunRead

/-! # What the reference leaves

The reference's three results after a run, as the functions of `Spec` of its arguments. -/

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.SL.Sem
open Idealize.ShloMosaic.Pipeline (Dat Window)
open Cert.Spec Cert.Softmax

variable (m : (ℓ : Loc nD τ sig) → Buf (Elt Ideal) ℓ) (ρ : Dev nD → PrngReg)

/-- The arguments, read at indices. -/
def args (c : Dev nD) : Args where
  x b s h d := (m ((c : Thread nD τ).loc main_arg0) : Vec Ideal S14x3x96x512 .bf16) (ix4 b s h d)
  q b s h d := (m ((c : Thread nD τ).loc main_arg1) : Vec Ideal S14x3x96x64 .bf16) (ix4 b s h d)
  kv b s d := (m ((c : Thread nD τ).loc main_arg2) : Vec Ideal S14x3x512 .bf16) (ix3 b s d)
  kr b s d := (m ((c : Thread nD τ).loc main_arg3) : Vec Ideal S14x3x64 .bf16) (ix3 b s d)
  codes b p d := (m ((c : Thread nD τ).loc main_arg4) : Vec Ideal S14x6144x512 .fp8e4m3) (ix3 b p d)
  scale b p g := (m ((c : Thread nD τ).loc main_arg5) : Vec Ideal S14x6144x4 .f32) (ix3 b p g)
  krc b p d := (m ((c : Thread nD τ).loc main_arg6) : Vec Ideal S14x6144x64 .bf16) (ix3 b p d)
  len b := (m ((c : Thread nD τ).loc main_arg7) : Vec Ideal S14 .i32) (ix1 b)

/-! What the body leaves in each output, from the blocks it reads whole. -/

theorem out8 (x0 : Vec Ideal S14x3x96x512 .bf16) (x1 : Vec Ideal S14x3x96x64 .bf16) (x2 : Vec Ideal S14x3x512 .bf16) (x3 : Vec Ideal S14x3x64 .bf16) (x4 : Vec Ideal S14x6144x512 .fp8e4m3) (x5 : Vec Ideal S14x6144x4 .f32) (x6 : Vec Ideal S14x6144x64 .bf16) (x7 : Vec Ideal S14x1x1 .i32) :
    out0_8 x0 x1 x2 x3 x4 x5 x6 x7 = k0_pay1 (k0_pay4 x4 x5) (k0_pay9 (k0_pay5 x2) (k0_pay6 x2) (k0_pay7 x2)) (k0_pay10 (k0_pay2 x0) (k0_pay3 x1) (k0_pay5 x2) (k0_pay6 x2) (k0_pay7 x2) x3) (k0_pay11 (k0_pay2 x0) (k0_pay3 x1) (k0_pay4 x4 x5) x6 x7) (iota .tc S14x288x3 32 [1] iota_S14x288x3_d1_w32) := by
  unfold_out out0_8
  rw [View.canon_cons_unit_lit _ _ _ (by decide)]
  rw [View.ld_unit_lit _ x0 (by decide), View.ld_unit_lit _ x1 (by decide), View.ld_unit_lit _ x2 (by decide), View.ld_unit_lit _ x3 (by decide), View.ld_unit_lit _ x4 (by decide), View.ld_unit_lit _ x5 (by decide), View.ld_unit_lit _ x6 (by decide), View.ld_unit_lit _ x7 (by decide)]

theorem out9 (x0 : Vec Ideal S14x3x96x512 .bf16) (x1 : Vec Ideal S14x3x96x64 .bf16) (x2 : Vec Ideal S14x3x512 .bf16) (x3 : Vec Ideal S14x3x64 .bf16) (x4 : Vec Ideal S14x6144x512 .fp8e4m3) (x5 : Vec Ideal S14x6144x4 .f32) (x6 : Vec Ideal S14x6144x64 .bf16) (x7 : Vec Ideal S14x1x1 .i32) :
    out0_9 x0 x1 x2 x3 x4 x5 x6 x7 = k0_pay8 (k0_pay5 x2) (k0_pay6 x2) := by
  unfold_out out0_9
  rw [View.canon_cons_unit_lit _ _ _ (by decide), View.ld_unit_lit _ _ (by decide)]

theorem out10 (x0 : Vec Ideal S14x3x96x512 .bf16) (x1 : Vec Ideal S14x3x96x64 .bf16) (x2 : Vec Ideal S14x3x512 .bf16) (x3 : Vec Ideal S14x3x64 .bf16) (x4 : Vec Ideal S14x6144x512 .fp8e4m3) (x5 : Vec Ideal S14x6144x4 .f32) (x6 : Vec Ideal S14x6144x64 .bf16) (x7 : Vec Ideal S14x1x1 .i32) :
    out0_10 x0 x1 x2 x3 x4 x5 x6 x7 = k0_pay7 x2 := by
  unfold_out out0_10
  rw [View.canon_cons_unit_lit _ _ _ (by decide), View.ld_unit_lit _ _ (by decide)]

/-- The lengths as the region finds them. -/
theorem V_v0 (c : Dev nD) : (V m c main_v0 : Vec Ideal S14x1x1 .i32)
    = shapeCast S14x1x1 (m ((c : Thread nD τ).loc main_arg7) : Vec Ideal S14 .i32) shapeCasts_S14_S14x1x1 := by
  after_reads_simp
  rfl

theorem len_at (v : Vec Ideal S14 .i32) (b : Fin 14) : (shapeCast S14x1x1 v shapeCasts_S14_S14x1x1 : Vec Ideal S14x1x1 .i32) (ix3 b 0 0) = v (ix1 b) := by
  pointwise

/-! Every window is its whole array. -/

theorem emb0 (t : Fin cfg0.N) (y : ((cfg0.win 0).xblock (cfg0.grid.coords t)).Idx) :
    (win0_0.blk t).view.emb y = (y : S14x3x96x512.Idx) :=
  funext fun a => Fin.ext (win0_0.rect_emb_val_of_index_zero t a ((by decide +kernel : ∀ (t : Fin grid0.N) a, win0_0.index t a = 0) t a) y)

theorem emb1 (t : Fin cfg0.N) (y : ((cfg0.win 1).xblock (cfg0.grid.coords t)).Idx) :
    (win0_1.blk t).view.emb y = (y : S14x3x96x64.Idx) :=
  funext fun a => Fin.ext (win0_1.rect_emb_val_of_index_zero t a ((by decide +kernel : ∀ (t : Fin grid0.N) a, win0_1.index t a = 0) t a) y)

theorem emb2 (t : Fin cfg0.N) (y : ((cfg0.win 2).xblock (cfg0.grid.coords t)).Idx) :
    (win0_2.blk t).view.emb y = (y : S14x3x512.Idx) :=
  funext fun a => Fin.ext (win0_2.rect_emb_val_of_index_zero t a ((by decide +kernel : ∀ (t : Fin grid0.N) a, win0_2.index t a = 0) t a) y)

theorem emb3 (t : Fin cfg0.N) (y : ((cfg0.win 3).xblock (cfg0.grid.coords t)).Idx) :
    (win0_3.blk t).view.emb y = (y : S14x3x64.Idx) :=
  funext fun a => Fin.ext (win0_3.rect_emb_val_of_index_zero t a ((by decide +kernel : ∀ (t : Fin grid0.N) a, win0_3.index t a = 0) t a) y)

theorem emb4 (t : Fin cfg0.N) (y : ((cfg0.win 4).xblock (cfg0.grid.coords t)).Idx) :
    (win0_4.blk t).view.emb y = (y : S14x6144x512.Idx) :=
  funext fun a => Fin.ext (win0_4.rect_emb_val_of_index_zero t a ((by decide +kernel : ∀ (t : Fin grid0.N) a, win0_4.index t a = 0) t a) y)

theorem emb5 (t : Fin cfg0.N) (y : ((cfg0.win 5).xblock (cfg0.grid.coords t)).Idx) :
    (win0_5.blk t).view.emb y = (y : S14x6144x4.Idx) :=
  funext fun a => Fin.ext (win0_5.rect_emb_val_of_index_zero t a ((by decide +kernel : ∀ (t : Fin grid0.N) a, win0_5.index t a = 0) t a) y)

theorem emb6 (t : Fin cfg0.N) (y : ((cfg0.win 6).xblock (cfg0.grid.coords t)).Idx) :
    (win0_6.blk t).view.emb y = (y : S14x6144x64.Idx) :=
  funext fun a => Fin.ext (win0_6.rect_emb_val_of_index_zero t a ((by decide +kernel : ∀ (t : Fin grid0.N) a, win0_6.index t a = 0) t a) y)

theorem emb7 (t : Fin cfg0.N) (y : ((cfg0.win 7).xblock (cfg0.grid.coords t)).Idx) :
    (win0_7.blk t).view.emb y = (y : S14x1x1.Idx) :=
  funext fun a => Fin.ext (win0_7.rect_emb_val_of_index_zero t a ((by decide +kernel : ∀ (t : Fin grid0.N) a, win0_7.index t a = 0) t a) y)

theorem emb8 (t : Fin cfg0.N) (y : ((cfg0.win 8).xblock (cfg0.grid.coords t)).Idx) :
    (win0_8.blk t).view.emb y = (y : S14x3x96x512.Idx) :=
  funext fun a => Fin.ext (win0_8.rect_emb_val_of_index_zero t a ((by decide +kernel : ∀ (t : Fin grid0.N) a, win0_8.index t a = 0) t a) y)

theorem emb9 (t : Fin cfg0.N) (y : ((cfg0.win 9).xblock (cfg0.grid.coords t)).Idx) :
    (win0_9.blk t).view.emb y = (y : S14x3x512.Idx) :=
  funext fun a => Fin.ext (win0_9.rect_emb_val_of_index_zero t a ((by decide +kernel : ∀ (t : Fin grid0.N) a, win0_9.index t a = 0) t a) y)

theorem emb10 (t : Fin cfg0.N) (y : ((cfg0.win 10).xblock (cfg0.grid.coords t)).Idx) :
    (win0_10.blk t).view.emb y = (y : S14x3x4.Idx) :=
  funext fun a => Fin.ext (win0_10.rect_emb_val_of_index_zero t a ((by decide +kernel : ∀ (t : Fin grid0.N) a, win0_10.index t a = 0) t a) y)

theorem blk0 (c : Dev nD) (t : Fin cfg0.N) : (iblk m c 0 t : Vec Ideal S14x3x96x512 .bf16) = m ((c : Thread nD τ).loc main_arg0) := by
  rw [← V_main_arg0 m c]
  funext y
  blk_simp [iblk]
  exact congrArg (V m c main_arg0) (emb0 t y)

theorem blk1 (c : Dev nD) (t : Fin cfg0.N) : (iblk m c 1 t : Vec Ideal S14x3x96x64 .bf16) = m ((c : Thread nD τ).loc main_arg1) := by
  rw [← V_main_arg1 m c]
  funext y
  blk_simp [iblk]
  exact congrArg (V m c main_arg1) (emb1 t y)

theorem blk2 (c : Dev nD) (t : Fin cfg0.N) : (iblk m c 2 t : Vec Ideal S14x3x512 .bf16) = m ((c : Thread nD τ).loc main_arg2) := by
  rw [← V_main_arg2 m c]
  funext y
  blk_simp [iblk]
  exact congrArg (V m c main_arg2) (emb2 t y)

theorem blk3 (c : Dev nD) (t : Fin cfg0.N) : (iblk m c 3 t : Vec Ideal S14x3x64 .bf16) = m ((c : Thread nD τ).loc main_arg3) := by
  rw [← V_main_arg3 m c]
  funext y
  blk_simp [iblk]
  exact congrArg (V m c main_arg3) (emb3 t y)

theorem blk4 (c : Dev nD) (t : Fin cfg0.N) : (iblk m c 4 t : Vec Ideal S14x6144x512 .fp8e4m3) = m ((c : Thread nD τ).loc main_arg4) := by
  rw [← V_main_arg4 m c]
  funext y
  blk_simp [iblk]
  exact congrArg (V m c main_arg4) (emb4 t y)

theorem blk5 (c : Dev nD) (t : Fin cfg0.N) : (iblk m c 5 t : Vec Ideal S14x6144x4 .f32) = m ((c : Thread nD τ).loc main_arg5) := by
  rw [← V_main_arg5 m c]
  funext y
  blk_simp [iblk]
  exact congrArg (V m c main_arg5) (emb5 t y)

theorem blk6 (c : Dev nD) (t : Fin cfg0.N) : (iblk m c 6 t : Vec Ideal S14x6144x64 .bf16) = m ((c : Thread nD τ).loc main_arg6) := by
  rw [← V_main_arg6 m c]
  funext y
  blk_simp [iblk]
  exact congrArg (V m c main_arg6) (emb6 t y)

theorem blk7 (c : Dev nD) (t : Fin cfg0.N) : (iblk m c 7 t : Vec Ideal S14x1x1 .i32)
    = shapeCast S14x1x1 (m ((c : Thread nD τ).loc main_arg7) : Vec Ideal S14 .i32) shapeCasts_S14_S14x1x1 := by
  rw [← V_v0 m c]
  funext y
  blk_simp [iblk]
  exact congrArg (V m c main_v0) (emb7 t y)

theorem select_mul (c : BitVec 1) (x : EReal) : Scalar.select c (x * (κs : EReal)) ⊥ = Scalar.select c x ⊥ * (κs : EReal) := by
  unfold Scalar.select
  split
  · rfl
  · rw [EReal.bot_mul_coe_of_pos κs_pos]

theorem iota_at (b : Fin 14) (r : Fin 288) (j : Fin 3) :
    (iota .tc S14x288x3 32 [1] iota_S14x288x3_d1_w32) (ix3 b r j) = BitVec.ofNat 32 r.val := by
  pointwise

/-- The output array. -/
theorem res8 (c : Dev nD) : ((dats m 0 c).arrAt 8 cfg0.N : Vec Ideal S14x3x96x512 .bf16)
    = fun i => out (args m c) (i 0) (rowOf (i 1) (i 2)) (i 3) := by
  refine (dats m 0 c).arrAt_eq_of_covers 8 _ (by decide +kernel) fun t hf y => ?_
  blk_simp
  rw [after0_8, out8, emb8, blk0, blk1, blk2, blk3, blk4, blk5, blk6, blk7]
  obtain ⟨b, s, h, d, rfl⟩ : ∃ b s h d, (y : S14x3x96x512.Idx) = ix4 b s h d := ⟨y 0, y 1, y 2, y 3, eq_ix4 y⟩
  refine (pay1_at _ _ _ _ _ b s h d (rowOf s h) rfl (score (args m c) b (rowOf s h)) (val (args m c) b d) ?_ ?_ ?_ ?_).trans rfl
  · intro p
    rw [pay11_at, len_at, select_mul]
    simp only [pay2_at, pay3_at, pay4_at]
    rfl
  · intro j
    rw [masked_at, iota_at, pay10_at, select_mul]
    simp only [pay2_at, pay3_at, pay9_at]
    rfl
  · intro p
    rw [pay4_at]
    rfl
  · intro j
    rw [pay9_at]
    rfl

/-- The codes' array. -/
theorem res9 (c : Dev nD) : ((dats m 0 c).arrAt 9 cfg0.N : Vec Ideal S14x3x512 .fp8e4m3)
    = fun i => code (args m c) (i 0) (i 1) (i 2) := by
  refine (dats m 0 c).arrAt_eq_of_covers 9 _ (by decide +kernel) fun t hf y => ?_
  blk_simp
  rw [after0_9, out9, emb9, blk2]
  obtain ⟨b, s, d, rfl⟩ : ∃ b s d, (y : S14x3x512.Idx) = ix3 b s d := ⟨y 0, y 1, y 2, eq_ix3 y⟩
  rw [pay8_at]
  rfl

/-- The scales' array. -/
theorem res10 (c : Dev nD) : ((dats m 0 c).arrAt 10 cfg0.N : Vec Ideal S14x3x4 .f32)
    = fun i => scl (args m c) (i 0) (i 1) (i 2) := by
  refine (dats m 0 c).arrAt_eq_of_covers 10 _ (by decide +kernel) fun t hf y => ?_
  blk_simp
  rw [after0_10, out10, emb10, blk2]
  obtain ⟨b, s, g, rfl⟩ : ∃ b s g, (y : S14x3x4.Idx) = ix3 b s g := ⟨y 0, y 1, y 2, eq_ix3 y⟩
  rw [pay7_at]
  rfl

end Cert.ReferenceIdeal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.KernelBlocks
public import proofs.«01_k».proof.Proof.PFrame
public import proofs.«01_k».proof.Proof.KResults
public import proofs.«01_k».proof.Proof.RefRun
public import Idealize.ShloMosaic.Adequacy
public import Idealize.ShloMosaic.Init

@[expose] public section

set_option maxRecDepth 16384

noncomputable section

namespace Cert.Proof

open Idealize.ShloMosaic Idealize.ShloMosaic.TcCoe

attribute [local irreducible] Cert.Spec.out Cert.Spec.code Cert.Spec.scl

/-- Memories that agree on the arguments give the reference and the kernel the same argument functions. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Read.args m' c = Cert.KernelIdeal.Run.args m c := by
  unfold Cert.ReferenceIdeal.Read.args Cert.KernelIdeal.Run.args
  congr 1
  · funext b s h d; exact congrFun h0 _
  · funext b s h d; exact congrFun h1 _
  · funext b s d; exact congrFun h2 _
  · funext b s d; exact congrFun h3 _
  · funext b p d; exact congrFun h4 _
  · funext b p g; exact congrFun h5 _
  · funext b p d; exact congrFun h6 _
  · funext b; exact congrFun h7 _

/-- Kernel and reference compute the same three arrays over the extended reals: the attention of every row, the codes of
    the new latents, and their scales. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => fun i => Cert.Spec.out (Cert.KernelIdeal.Run.args m c) (i 0) (Cert.Spec.rowOf (i 1) (i 2)) (i 3),
    fun c => fun i => Cert.Spec.code (Cert.KernelIdeal.Run.args m c) (i 0) (i 1) (i 2),
    fun c => fun i => Cert.Spec.scl (Cert.KernelIdeal.Run.args m c) (i 0) (i 1) (i 2),
    Cert.KernelIdeal.Run.results m g (Cert.KernelIdeal.Blocks.ok _),
    (θ_run Cert.ReferenceIdeal.defs _ _).mono (fun r h c => ?_) (Cert.ReferenceIdeal.Value.run_blocks m' g')⟩
  obtain ⟨e0, e1, e2, e⟩ := h c
  obtain ⟨a0, a1, a2, a3, a4, a5, a6, a7⟩ := hargs c
  have ha := args_eq m m' c a0 a1 a2 a3 a4 a5 a6 a7
  refine ⟨e0.trans ?_, e1.trans ?_, e2.trans ?_, e⟩
  · have h8 := Cert.ReferenceIdeal.Read.res8 m' c
    rw [ha] at h8
    exact h8
  · have h9 := Cert.ReferenceIdeal.Read.res9 m' c
    rw [ha] at h9
    exact h9
  · have h10 := Cert.ReferenceIdeal.Read.res10 m' c
    rw [ha] at h10
    exact h10

end Cert.Proof

/-- The two kernel programs and the reference run without fault, leave their arguments as they were and their semaphores
    at zero; the ideal program is the kernel over the extended reals; and kernel and reference compute the same results. -/
theorem Cert.Proof.claim : Cert.Claim :=
  ⟨Cert.Kernel.Gen.facts, Cert.KernelIdeal.Gen.facts, Cert.ReferenceIdeal.Gen.facts,
    fun m g _ => Cert.Kernel.Run.frame_main m g (Cert.Kernel.Blocks.ok _),
    fun m g _ => Cert.KernelIdeal.Run.frame_main m g (Cert.KernelIdeal.Blocks.ok _),
    fun m g _ => Cert.ReferenceIdeal.Gen.frame m g,
    ⟨Idealize.ShloMosaic.IdealRules.named_const.statement _ _ _ _ _ rfl,
      Idealize.ShloMosaic.IdealRules.named_const.statement _ _ _ _ _ rfl⟩,
    Cert.Proof.algebraic⟩

end
